-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x8192 : Shape := ⟨2, ![128, 8192]⟩
abbrev S1048576 : Shape := ⟨1, ![1048576]⟩
abbrev S_ : Shape := ⟨0, ![]⟩
abbrev S8x8192 : Shape := ⟨2, ![8, 8192]⟩

abbrev nBuf : Space → Nat
  | .hbm => 13
  | .vmem => 8
  | .smem => 0
  | _ => 0

abbrev bufTy : (tb : Table) → Fin (tcTables nBuf tb) → BufTy
  | .hbm, ⟨0, _⟩ => ⟨S128x8192, .f32⟩
  | .hbm, ⟨1, _⟩ => ⟨S1048576, .i32⟩
  | .hbm, ⟨2, _⟩ => ⟨S128x8192, .i32⟩
  | .hbm, ⟨3, _⟩ => ⟨S_, .i32⟩
  | .hbm, ⟨4, _⟩ => ⟨S128x8192, .i32⟩
  | .hbm, ⟨5, _⟩ => ⟨S128x8192, .i32⟩
  | .hbm, ⟨6, _⟩ => ⟨S_, .i32⟩
  | .hbm, ⟨7, _⟩ => ⟨S128x8192, .i32⟩
  | .hbm, ⟨8, _⟩ => ⟨S128x8192, .i32⟩
  | .hbm, ⟨9, _⟩ => ⟨S_, .i32⟩
  | .hbm, ⟨10, _⟩ => ⟨S128x8192, .i32⟩
  | .hbm, ⟨11, _⟩ => ⟨S128x8192, .i32⟩
  | .hbm, ⟨12, _⟩ => ⟨S128x8192, .f32⟩
  | .local _ .vmem, ⟨0, _⟩ => ⟨S8x8192, .f32⟩
  | .local _ .vmem, ⟨1, _⟩ => ⟨S8x8192, .f32⟩
  | .local _ .vmem, ⟨2, _⟩ => ⟨S8x8192, .i32⟩
  | .local _ .vmem, ⟨3, _⟩ => ⟨S8x8192, .i32⟩
  | .local _ .vmem, ⟨4, _⟩ => ⟨S8x8192, .i32⟩
  | .local _ .vmem, ⟨5, _⟩ => ⟨S8x8192, .i32⟩
  | .local _ .vmem, ⟨6, _⟩ => ⟨S8x8192, .f32⟩
  | .local _ .vmem, ⟨7, _⟩ => ⟨S8x8192, .f32⟩
  | _, _ => ⟨S128x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_c_0 : Ref sig .tc := ⟨.hbm, 6, rfl⟩
abbrev main_v4 : Ref sig .tc := ⟨.hbm, 7, rfl⟩
abbrev main_v5 : Ref sig .tc := ⟨.hbm, 8, rfl⟩
abbrev main_c_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S128x8192 : Shape := ⟨2, ![128, 8192]⟩
abbrev S_ : Shape := ⟨0, ![]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S1x1x1 : Shape := ⟨3, ![1, 1, 1]⟩
abbrev S128x8192x2 : Shape := ⟨3, ![128, 8192, 2]⟩
abbrev S1x1x2 : Shape := ⟨3, ![1, 1, 2]⟩
abbrev S1x1 : Shape := ⟨2, ![1, 1]⟩

abbrev nBuf : Space → Nat
  | .hbm => 1335
  | .vmem => 0
  | .smem => 0
  | _ => 0

abbrev hbmTy0_0 (i : Nat) : BufTy := match i % 128 with
  | 0 => ⟨S128x8192, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S1, .i32⟩
  | 12 => ⟨S_, .i32⟩
  | 13 => ⟨S1, .i32⟩
  | 14 => ⟨S_, .i32⟩
  | 15 => ⟨S2, .i64⟩
  | 16 => ⟨S_, .i64⟩
  | 17 => ⟨S2, .i64⟩
  | 18 => ⟨S2, .i64⟩
  | 19 => ⟨S_, .i64⟩
  | 20 => ⟨S2, .i64⟩
  | 21 => ⟨S2, .i64⟩
  | 22 => ⟨S2, .i32⟩
  | 23 => ⟨S2, .i32⟩
  | 24 => ⟨S_, .i32⟩
  | 25 => ⟨S_, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S_, .i32⟩
  | 45 => ⟨S2, .i32⟩
  | 46 => ⟨S2, .i32⟩
  | 47 => ⟨S2, .i32⟩
  | 48 => ⟨S2, .i32⟩
  | 49 => ⟨S2, .i32⟩
  | 50 => ⟨S_, .i32⟩
  | 51 => ⟨S2, .i32⟩
  | 52 => ⟨S2, .i32⟩
  | 53 => ⟨S_, .i32⟩
  | 54 => ⟨S2, .i32⟩
  | 55 => ⟨S2, .i32⟩
  | 56 => ⟨S2, .i32⟩
  | 57 => ⟨S2, .i32⟩
  | 58 => ⟨S2, .i32⟩
  | 59 => ⟨S_, .i32⟩
  | 60 => ⟨S2, .i32⟩
  | 61 => ⟨S2, .i32⟩
  | 62 => ⟨S_, .i32⟩
  | 63 => ⟨S2, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S2, .i32⟩
  | 92 => ⟨S2, .i32⟩
  | 93 => ⟨S_, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S2, .i32⟩
  | 101 => ⟨S2, .i32⟩
  | 102 => ⟨S_, .i32⟩
  | 103 => ⟨S2, .i32⟩
  | 104 => ⟨S2, .i32⟩
  | 105 => ⟨S_, .i32⟩
  | 106 => ⟨S2, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S2, .i32⟩
  | 126 => ⟨S2, .i32⟩
  | 127 => ⟨S_, .i32⟩
  | _ => ⟨S128x8192, .f32⟩

abbrev hbmTy0_1 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S2, .i32⟩
  | 6 => ⟨S2, .i32⟩
  | 7 => ⟨S2, .i32⟩
  | 8 => ⟨S_, .i32⟩
  | 9 => ⟨S2, .i32⟩
  | 10 => ⟨S2, .i32⟩
  | 11 => ⟨S_, .i32⟩
  | 12 => ⟨S2, .i32⟩
  | 13 => ⟨S2, .i32⟩
  | 14 => ⟨S2, .i32⟩
  | 15 => ⟨S2, .i32⟩
  | 16 => ⟨S2, .i32⟩
  | 17 => ⟨S_, .i32⟩
  | 18 => ⟨S2, .i32⟩
  | 19 => ⟨S2, .i32⟩
  | 20 => ⟨S_, .i32⟩
  | 21 => ⟨S2, .i32⟩
  | 22 => ⟨S2, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S2x1, .i32⟩
  | 119 => ⟨S2x1, .i32⟩
  | 120 => ⟨S2x2, .i32⟩
  | 121 => ⟨S1x2, .i32⟩
  | 122 => ⟨S2, .i32⟩
  | 123 => ⟨S1x2, .i32⟩
  | 124 => ⟨S2, .i32⟩
  | 125 => ⟨S_, .f32⟩
  | 126 => ⟨S_, .f32⟩
  | 127 => ⟨S_, .f32⟩
  | _ => ⟨S128x8192, .f32⟩

abbrev hbmTy0_2 (i : Nat) : BufTy := match i % 128 with
  | 0 => ⟨S_, .f32⟩
  | 1 => ⟨S1, .f32⟩
  | 2 => ⟨S1, .f32⟩
  | 3 => ⟨S2, .f32⟩
  | 4 => ⟨S2, .f32⟩
  | 5 => ⟨S_, .f32⟩
  | 6 => ⟨S_, .f32⟩
  | 7 => ⟨S_, .f32⟩
  | 8 => ⟨S1x1x1, .f32⟩
  | 9 => ⟨S1x1x1, .f32⟩
  | 10 => ⟨S1, .i32⟩
  | 11 => ⟨S_, .i32⟩
  | 12 => ⟨S1, .i32⟩
  | 13 => ⟨S_, .i32⟩
  | 14 => ⟨S128x8192x2, .i64⟩
  | 15 => ⟨S128x8192x2, .i64⟩
  | 16 => ⟨S128x8192x2, .i64⟩
  | 17 => ⟨S_, .i64⟩
  | 18 => ⟨S128x8192x2, .i64⟩
  | 19 => ⟨S128x8192x2, .i64⟩
  | 20 => ⟨S_, .i64⟩
  | 21 => ⟨S128x8192x2, .i64⟩
  | 22 => ⟨S128x8192x2, .i64⟩
  | 23 => ⟨S_, .i64⟩
  | 24 => ⟨S128x8192x2, .i64⟩
  | 25 => ⟨S128x8192x2, .i64⟩
  | 26 => ⟨S128x8192x2, .i64⟩
  | 27 => ⟨S128x8192x2, .i64⟩
  | 28 => ⟨S_, .i64⟩
  | 29 => ⟨S128x8192x2, .i64⟩
  | 30 => ⟨S128x8192x2, .i64⟩
  | 31 => ⟨S128x8192x2, .i32⟩
  | 32 => ⟨S128x8192x2, .i32⟩
  | 33 => ⟨S_, .i32⟩
  | 34 => ⟨S_, .i32⟩
  | 35 => ⟨S_, .i32⟩
  | 36 => ⟨S128x8192x2, .i32⟩
  | 37 => ⟨S128x8192x2, .i32⟩
  | 38 => ⟨S128x8192x2, .i32⟩
  | 39 => ⟨S128x8192x2, .i32⟩
  | 40 => ⟨S128x8192x2, .i32⟩
  | 41 => ⟨S_, .i32⟩
  | 42 => ⟨S128x8192x2, .i32⟩
  | 43 => ⟨S128x8192x2, .i32⟩
  | 44 => ⟨S_, .i32⟩
  | 45 => ⟨S128x8192x2, .i32⟩
  | 46 => ⟨S128x8192x2, .i32⟩
  | 47 => ⟨S128x8192x2, .i32⟩
  | 48 => ⟨S128x8192x2, .i32⟩
  | 49 => ⟨S128x8192x2, .i32⟩
  | 50 => ⟨S_, .i32⟩
  | 51 => ⟨S128x8192x2, .i32⟩
  | 52 => ⟨S128x8192x2, .i32⟩
  | 53 => ⟨S_, .i32⟩
  | 54 => ⟨S128x8192x2, .i32⟩
  | 55 => ⟨S128x8192x2, .i32⟩
  | 56 => ⟨S128x8192x2, .i32⟩
  | 57 => ⟨S128x8192x2, .i32⟩
  | 58 => ⟨S128x8192x2, .i32⟩
  | 59 => ⟨S_, .i32⟩
  | 60 => ⟨S128x8192x2, .i32⟩
  | 61 => ⟨S128x8192x2, .i32⟩
  | 62 => ⟨S_, .i32⟩
  | 63 => ⟨S128x8192x2, .i32⟩
  | 64 => ⟨S128x8192x2, .i32⟩
  | 65 => ⟨S128x8192x2, .i32⟩
  | 66 => ⟨S128x8192x2, .i32⟩
  | 67 => ⟨S128x8192x2, .i32⟩
  | 68 => ⟨S_, .i32⟩
  | 69 => ⟨S128x8192x2, .i32⟩
  | 70 => ⟨S128x8192x2, .i32⟩
  | 71 => ⟨S_, .i32⟩
  | 72 => ⟨S128x8192x2, .i32⟩
  | 73 => ⟨S128x8192x2, .i32⟩
  | 74 => ⟨S128x8192x2, .i32⟩
  | 75 => ⟨S128x8192x2, .i32⟩
  | 76 => ⟨S128x8192x2, .i32⟩
  | 77 => ⟨S128x8192x2, .i32⟩
  | 78 => ⟨S128x8192x2, .i32⟩
  | 79 => ⟨S128x8192x2, .i32⟩
  | 80 => ⟨S_, .i32⟩
  | 81 => ⟨S128x8192x2, .i32⟩
  | 82 => ⟨S128x8192x2, .i32⟩
  | 83 => ⟨S128x8192x2, .i32⟩
  | 84 => ⟨S_, .i32⟩
  | 85 => ⟨S128x8192x2, .i32⟩
  | 86 => ⟨S128x8192x2, .i32⟩
  | 87 => ⟨S_, .i32⟩
  | 88 => ⟨S128x8192x2, .i32⟩
  | 89 => ⟨S128x8192x2, .i32⟩
  | 90 => ⟨S128x8192x2, .i32⟩
  | 91 => ⟨S128x8192x2, .i32⟩
  | 92 => ⟨S128x8192x2, .i32⟩
  | 93 => ⟨S_, .i32⟩
  | 94 => ⟨S128x8192x2, .i32⟩
  | 95 => ⟨S128x8192x2, .i32⟩
  | 96 => ⟨S_, .i32⟩
  | 97 => ⟨S128x8192x2, .i32⟩
  | 98 => ⟨S128x8192x2, .i32⟩
  | 99 => ⟨S128x8192x2, .i32⟩
  | 100 => ⟨S128x8192x2, .i32⟩
  | 101 => ⟨S128x8192x2, .i32⟩
  | 102 => ⟨S_, .i32⟩
  | 103 => ⟨S128x8192x2, .i32⟩
  | 104 => ⟨S128x8192x2, .i32⟩
  | 105 => ⟨S_, .i32⟩
  | 106 => ⟨S128x8192x2, .i32⟩
  | 107 => ⟨S128x8192x2, .i32⟩
  | 108 => ⟨S128x8192x2, .i32⟩
  | 109 => ⟨S128x8192x2, .i32⟩
  | 110 => ⟨S128x8192x2, .i32⟩
  | 111 => ⟨S_, .i32⟩
  | 112 => ⟨S128x8192x2, .i32⟩
  | 113 => ⟨S128x8192x2, .i32⟩
  | 114 => ⟨S_, .i32⟩
  | 115 => ⟨S128x8192x2, .i32⟩
  | 116 => ⟨S128x8192x2, .i32⟩
  | 117 => ⟨S128x8192x2, .i32⟩
  | 118 => ⟨S128x8192x2, .i32⟩
  | 119 => ⟨S128x8192x2, .i32⟩
  | 120 => ⟨S128x8192x2, .i32⟩
  | 121 => ⟨S128x8192x2, .i32⟩
  | 122 => ⟨S128x8192x2, .i32⟩
  | 123 => ⟨S_, .i32⟩
  | 124 => ⟨S128x8192x2, .i32⟩
  | 125 => ⟨S128x8192x2, .i32⟩
  | 126 => ⟨S128x8192x2, .i32⟩
  | 127 => ⟨S_, .i32⟩
  | _ => ⟨S128x8192, .f32⟩

abbrev hbmTy0_3 (i : Nat) : BufTy := match i % 128 with
  | 0 => ⟨S128x8192x2, .i32⟩
  | 1 => ⟨S128x8192x2, .i32⟩
  | 2 => ⟨S_, .i32⟩
  | 3 => ⟨S128x8192x2, .i32⟩
  | 4 => ⟨S128x8192x2, .i32⟩
  | 5 => ⟨S128x8192x2, .i32⟩
  | 6 => ⟨S128x8192x2, .i32⟩
  | 7 => ⟨S128x8192x2, .i32⟩
  | 8 => ⟨S_, .i32⟩
  | 9 => ⟨S128x8192x2, .i32⟩
  | 10 => ⟨S128x8192x2, .i32⟩
  | 11 => ⟨S_, .i32⟩
  | 12 => ⟨S128x8192x2, .i32⟩
  | 13 => ⟨S128x8192x2, .i32⟩
  | 14 => ⟨S128x8192x2, .i32⟩
  | 15 => ⟨S128x8192x2, .i32⟩
  | 16 => ⟨S128x8192x2, .i32⟩
  | 17 => ⟨S_, .i32⟩
  | 18 => ⟨S128x8192x2, .i32⟩
  | 19 => ⟨S128x8192x2, .i32⟩
  | 20 => ⟨S_, .i32⟩
  | 21 => ⟨S128x8192x2, .i32⟩
  | 22 => ⟨S128x8192x2, .i32⟩
  | 23 => ⟨S128x8192x2, .i32⟩
  | 24 => ⟨S128x8192x2, .i32⟩
  | 25 => ⟨S128x8192x2, .i32⟩
  | 26 => ⟨S_, .i32⟩
  | 27 => ⟨S128x8192x2, .i32⟩
  | 28 => ⟨S128x8192x2, .i32⟩
  | 29 => ⟨S_, .i32⟩
  | 30 => ⟨S128x8192x2, .i32⟩
  | 31 => ⟨S128x8192x2, .i32⟩
  | 32 => ⟨S128x8192x2, .i32⟩
  | 33 => ⟨S128x8192x2, .i32⟩
  | 34 => ⟨S128x8192x2, .i32⟩
  | 35 => ⟨S128x8192x2, .i32⟩
  | 36 => ⟨S128x8192x2, .i32⟩
  | 37 => ⟨S128x8192x2, .i32⟩
  | 38 => ⟨S_, .i32⟩
  | 39 => ⟨S128x8192x2, .i32⟩
  | 40 => ⟨S128x8192x2, .i32⟩
  | 41 => ⟨S128x8192x2, .i32⟩
  | 42 => ⟨S_, .i32⟩
  | 43 => ⟨S128x8192x2, .i32⟩
  | 44 => ⟨S128x8192x2, .i32⟩
  | 45 => ⟨S_, .i32⟩
  | 46 => ⟨S128x8192x2, .i32⟩
  | 47 => ⟨S128x8192x2, .i32⟩
  | 48 => ⟨S128x8192x2, .i32⟩
  | 49 => ⟨S128x8192x2, .i32⟩
  | 50 => ⟨S128x8192x2, .i32⟩
  | 51 => ⟨S_, .i32⟩
  | 52 => ⟨S128x8192x2, .i32⟩
  | 53 => ⟨S128x8192x2, .i32⟩
  | 54 => ⟨S_, .i32⟩
  | 55 => ⟨S128x8192x2, .i32⟩
  | 56 => ⟨S128x8192x2, .i32⟩
  | 57 => ⟨S128x8192x2, .i32⟩
  | 58 => ⟨S128x8192x2, .i32⟩
  | 59 => ⟨S128x8192x2, .i32⟩
  | 60 => ⟨S_, .i32⟩
  | 61 => ⟨S128x8192x2, .i32⟩
  | 62 => ⟨S128x8192x2, .i32⟩
  | 63 => ⟨S_, .i32⟩
  | 64 => ⟨S128x8192x2, .i32⟩
  | 65 => ⟨S128x8192x2, .i32⟩
  | 66 => ⟨S128x8192x2, .i32⟩
  | 67 => ⟨S128x8192x2, .i32⟩
  | 68 => ⟨S128x8192x2, .i32⟩
  | 69 => ⟨S_, .i32⟩
  | 70 => ⟨S128x8192x2, .i32⟩
  | 71 => ⟨S128x8192x2, .i32⟩
  | 72 => ⟨S_, .i32⟩
  | 73 => ⟨S128x8192x2, .i32⟩
  | 74 => ⟨S128x8192x2, .i32⟩
  | 75 => ⟨S128x8192x2, .i32⟩
  | 76 => ⟨S128x8192x2, .i32⟩
  | 77 => ⟨S128x8192x2, .i32⟩
  | 78 => ⟨S128x8192x2, .i32⟩
  | 79 => ⟨S128x8192x2, .i32⟩
  | 80 => ⟨S128x8192x2, .i32⟩
  | 81 => ⟨S_, .i32⟩
  | 82 => ⟨S128x8192x2, .i32⟩
  | 83 => ⟨S128x8192x2, .i32⟩
  | 84 => ⟨S128x8192x2, .i32⟩
  | 85 => ⟨S_, .i32⟩
  | 86 => ⟨S128x8192x2, .i32⟩
  | 87 => ⟨S128x8192x2, .i32⟩
  | 88 => ⟨S_, .i32⟩
  | 89 => ⟨S128x8192x2, .i32⟩
  | 90 => ⟨S128x8192x2, .i32⟩
  | 91 => ⟨S128x8192x2, .i32⟩
  | 92 => ⟨S128x8192x2, .i32⟩
  | 93 => ⟨S128x8192x2, .i32⟩
  | 94 => ⟨S_, .i32⟩
  | 95 => ⟨S128x8192x2, .i32⟩
  | 96 => ⟨S128x8192x2, .i32⟩
  | 97 => ⟨S_, .i32⟩
  | 98 => ⟨S128x8192x2, .i32⟩
  | 99 => ⟨S128x8192x2, .i32⟩
  | 100 => ⟨S128x8192x2, .i32⟩
  | 101 => ⟨S128x8192x2, .i32⟩
  | 102 => ⟨S128x8192x2, .i32⟩
  | 103 => ⟨S_, .i32⟩
  | 104 => ⟨S128x8192x2, .i32⟩
  | 105 => ⟨S128x8192x2, .i32⟩
  | 106 => ⟨S_, .i32⟩
  | 107 => ⟨S128x8192x2, .i32⟩
  | 108 => ⟨S128x8192x2, .i32⟩
  | 109 => ⟨S128x8192x2, .i32⟩
  | 110 => ⟨S128x8192x2, .i32⟩
  | 111 => ⟨S128x8192x2, .i32⟩
  | 112 => ⟨S_, .i32⟩
  | 113 => ⟨S128x8192x2, .i32⟩
  | 114 => ⟨S128x8192x2, .i32⟩
  | 115 => ⟨S_, .i32⟩
  | 116 => ⟨S128x8192x2, .i32⟩
  | 117 => ⟨S128x8192x2, .i32⟩
  | 118 => ⟨S128x8192x2, .i32⟩
  | 119 => ⟨S128x8192x2, .i32⟩
  | 120 => ⟨S128x8192x2, .i32⟩
  | 121 => ⟨S128x8192x2, .i32⟩
  | 122 => ⟨S128x8192x2, .i32⟩
  | 123 => ⟨S128x8192x2, .i32⟩
  | 124 => ⟨S_, .i32⟩
  | 125 => ⟨S128x8192x2, .i32⟩
  | 126 => ⟨S128x8192x2, .i32⟩
  | 127 => ⟨S128x8192x2, .i32⟩
  | _ => ⟨S128x8192, .f32⟩

abbrev hbmTy0_4 (i : Nat) : BufTy := match i % 128 with
  | 0 => ⟨S_, .i32⟩
  | 1 => ⟨S128x8192x2, .i32⟩
  | 2 => ⟨S128x8192x2, .i32⟩
  | 3 => ⟨S_, .i32⟩
  | 4 => ⟨S128x8192x2, .i32⟩
  | 5 => ⟨S128x8192x2, .i32⟩
  | 6 => ⟨S128x8192x2, .f32⟩
  | 7 => ⟨S_, .f32⟩
  | 8 => ⟨S128x8192x2, .f32⟩
  | 9 => ⟨S128x8192x2, .f32⟩
  | 10 => ⟨S1x1x1, .f32⟩
  | 11 => ⟨S128x8192x2, .f32⟩
  | 12 => ⟨S128x8192x2, .f32⟩
  | 13 => ⟨S128x8192x2, .f32⟩
  | 14 => ⟨S128x8192x2, .f32⟩
  | 15 => ⟨S128x8192x2, .f32⟩
  | 16 => ⟨S128x8192x2, .f32⟩
  | 17 => ⟨S128x8192x2, .f32⟩
  | 18 => ⟨S128x8192x2, .f32⟩
  | 19 => ⟨S128x8192x2, .f32⟩
  | 20 => ⟨S128x8192x2, .f32⟩
  | 21 => ⟨S1x1x2, .f32⟩
  | 22 => ⟨S128x8192x2, .f32⟩
  | 23 => ⟨S128x8192x2, .f32⟩
  | 24 => ⟨S128x8192x2, .i32⟩
  | 25 => ⟨S_, .f32⟩
  | 26 => ⟨S_, .i32⟩
  | 27 => ⟨S128x8192, .f32⟩
  | 28 => ⟨S128x8192, .i32⟩
  | 29 => ⟨S_, .i32⟩
  | 30 => ⟨S128x8192, .i32⟩
  | 31 => ⟨S128x8192, .i32⟩
  | 32 => ⟨S128x8192, .f32⟩
  | 33 => ⟨S_, .i32⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S1x1, .i32⟩
  | 52 => ⟨S1x1, .i32⟩
  | 53 => ⟨S1, .i32⟩
  | 54 => ⟨S_, .i32⟩
  | 55 => ⟨S1, .i32⟩
  | 56 => ⟨S_, .i32⟩
  | 57 => ⟨S2, .i64⟩
  | 58 => ⟨S_, .i64⟩
  | 59 => ⟨S2, .i64⟩
  | 60 => ⟨S2, .i64⟩
  | 61 => ⟨S_, .i64⟩
  | 62 => ⟨S2, .i64⟩
  | 63 => ⟨S2, .i64⟩
  | 64 => ⟨S2, .i32⟩
  | 65 => ⟨S2, .i32⟩
  | 66 => ⟨S_, .i32⟩
  | 67 => ⟨S_, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S2, .i32⟩
  | 82 => ⟨S2, .i32⟩
  | 83 => ⟨S_, .i32⟩
  | 84 => ⟨S2, .i32⟩
  | 85 => ⟨S2, .i32⟩
  | 86 => ⟨S_, .i32⟩
  | 87 => ⟨S2, .i32⟩
  | 88 => ⟨S2, .i32⟩
  | 89 => ⟨S2, .i32⟩
  | 90 => ⟨S2, .i32⟩
  | 91 => ⟨S2, .i32⟩
  | 92 => ⟨S_, .i32⟩
  | 93 => ⟨S2, .i32⟩
  | 94 => ⟨S2, .i32⟩
  | 95 => ⟨S_, .i32⟩
  | 96 => ⟨S2, .i32⟩
  | 97 => ⟨S2, .i32⟩
  | 98 => ⟨S2, .i32⟩
  | 99 => ⟨S2, .i32⟩
  | 100 => ⟨S2, .i32⟩
  | 101 => ⟨S_, .i32⟩
  | 102 => ⟨S2, .i32⟩
  | 103 => ⟨S2, .i32⟩
  | 104 => ⟨S_, .i32⟩
  | 105 => ⟨S2, .i32⟩
  | 106 => ⟨S2, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S_, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S_, .i32⟩
  | 121 => ⟨S2, .i32⟩
  | 122 => ⟨S2, .i32⟩
  | 123 => ⟨S2, .i32⟩
  | 124 => ⟨S2, .i32⟩
  | 125 => ⟨S2, .i32⟩
  | 126 => ⟨S_, .i32⟩
  | 127 => ⟨S2, .i32⟩
  | _ => ⟨S128x8192, .f32⟩

abbrev hbmTy0_5 (i : Nat) : BufTy := match i % 128 with
  | 0 => ⟨S2, .i32⟩
  | 1 => ⟨S_, .i32⟩
  | 2 => ⟨S2, .i32⟩
  | 3 => ⟨S2, .i32⟩
  | 4 => ⟨S2, .i32⟩
  | 5 => ⟨S2, .i32⟩
  | 6 => ⟨S2, .i32⟩
  | 7 => ⟨S_, .i32⟩
  | 8 => ⟨S2, .i32⟩
  | 9 => ⟨S2, .i32⟩
  | 10 => ⟨S_, .i32⟩
  | 11 => ⟨S2, .i32⟩
  | 12 => ⟨S2, .i32⟩
  | 13 => ⟨S2, .i32⟩
  | 14 => ⟨S2, .i32⟩
  | 15 => ⟨S2, .i32⟩
  | 16 => ⟨S_, .i32⟩
  | 17 => ⟨S2, .i32⟩
  | 18 => ⟨S2, .i32⟩
  | 19 => ⟨S_, .i32⟩
  | 20 => ⟨S2, .i32⟩
  | 21 => ⟨S2, .i32⟩
  | 22 => ⟨S2, .i32⟩
  | 23 => ⟨S2, .i32⟩
  | 24 => ⟨S2, .i32⟩
  | 25 => ⟨S2, .i32⟩
  | 26 => ⟨S2, .i32⟩
  | 27 => ⟨S2, .i32⟩
  | 28 => ⟨S_, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S_, .i32⟩
  | 45 => ⟨S2, .i32⟩
  | 46 => ⟨S2, .i32⟩
  | 47 => ⟨S2, .i32⟩
  | 48 => ⟨S2, .i32⟩
  | 49 => ⟨S2, .i32⟩
  | 50 => ⟨S_, .i32⟩
  | 51 => ⟨S2, .i32⟩
  | 52 => ⟨S2, .i32⟩
  | 53 => ⟨S_, .i32⟩
  | 54 => ⟨S2, .i32⟩
  | 55 => ⟨S2, .i32⟩
  | 56 => ⟨S2, .i32⟩
  | 57 => ⟨S2, .i32⟩
  | 58 => ⟨S2, .i32⟩
  | 59 => ⟨S_, .i32⟩
  | 60 => ⟨S2, .i32⟩
  | 61 => ⟨S2, .i32⟩
  | 62 => ⟨S_, .i32⟩
  | 63 => ⟨S2, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S2, .i32⟩
  | 92 => ⟨S2, .i32⟩
  | 93 => ⟨S_, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S2, .i32⟩
  | 101 => ⟨S2, .i32⟩
  | 102 => ⟨S_, .i32⟩
  | 103 => ⟨S2, .i32⟩
  | 104 => ⟨S2, .i32⟩
  | 105 => ⟨S_, .i32⟩
  | 106 => ⟨S2, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S2, .i32⟩
  | 126 => ⟨S2, .i32⟩
  | 127 => ⟨S_, .i32⟩
  | _ => ⟨S128x8192, .f32⟩

abbrev hbmTy0_6 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S2, .i32⟩
  | 6 => ⟨S2, .i32⟩
  | 7 => ⟨S2, .i32⟩
  | 8 => ⟨S_, .i32⟩
  | 9 => ⟨S2, .i32⟩
  | 10 => ⟨S2, .i32⟩
  | 11 => ⟨S_, .i32⟩
  | 12 => ⟨S2, .i32⟩
  | 13 => ⟨S2, .i32⟩
  | 14 => ⟨S2, .i32⟩
  | 15 => ⟨S2, .i32⟩
  | 16 => ⟨S2, .i32⟩
  | 17 => ⟨S_, .i32⟩
  | 18 => ⟨S2, .i32⟩
  | 19 => ⟨S2, .i32⟩
  | 20 => ⟨S_, .i32⟩
  | 21 => ⟨S2, .i32⟩
  | 22 => ⟨S2, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S2x1, .i32⟩
  | 33 => ⟨S2x1, .i32⟩
  | 34 => ⟨S2x2, .i32⟩
  | 35 => ⟨S1x2, .i32⟩
  | 36 => ⟨S2, .i32⟩
  | 37 => ⟨S1x2, .i32⟩
  | 38 => ⟨S2, .i32⟩
  | 39 => ⟨S1, .i32⟩
  | 40 => ⟨S_, .i32⟩
  | 41 => ⟨S1, .i32⟩
  | 42 => ⟨S_, .i32⟩
  | 43 => ⟨S128x8192, .i64⟩
  | 44 => ⟨S128x8192, .i64⟩
  | 45 => ⟨S_, .i64⟩
  | 46 => ⟨S128x8192, .i64⟩
  | 47 => ⟨S128x8192, .i64⟩
  | 48 => ⟨S_, .i64⟩
  | 49 => ⟨S128x8192, .i64⟩
  | 50 => ⟨S128x8192, .i64⟩
  | 51 => ⟨S128x8192, .i64⟩
  | 52 => ⟨S_, .i64⟩
  | 53 => ⟨S128x8192, .i64⟩
  | 54 => ⟨S128x8192, .i64⟩
  | 55 => ⟨S128x8192, .i32⟩
  | 56 => ⟨S128x8192, .i32⟩
  | 57 => ⟨S_, .i32⟩
  | 58 => ⟨S_, .i32⟩
  | 59 => ⟨S_, .i32⟩
  | 60 => ⟨S128x8192, .i32⟩
  | 61 => ⟨S128x8192, .i32⟩
  | 62 => ⟨S128x8192, .i32⟩
  | 63 => ⟨S128x8192, .i32⟩
  | 64 => ⟨S128x8192, .i32⟩
  | 65 => ⟨S_, .i32⟩
  | 66 => ⟨S128x8192, .i32⟩
  | 67 => ⟨S128x8192, .i32⟩
  | 68 => ⟨S_, .i32⟩
  | 69 => ⟨S128x8192, .i32⟩
  | 70 => ⟨S128x8192, .i32⟩
  | 71 => ⟨S128x8192, .i32⟩
  | 72 => ⟨S128x8192, .i32⟩
  | 73 => ⟨S128x8192, .i32⟩
  | 74 => ⟨S_, .i32⟩
  | 75 => ⟨S128x8192, .i32⟩
  | 76 => ⟨S128x8192, .i32⟩
  | 77 => ⟨S_, .i32⟩
  | 78 => ⟨S128x8192, .i32⟩
  | 79 => ⟨S128x8192, .i32⟩
  | 80 => ⟨S128x8192, .i32⟩
  | 81 => ⟨S128x8192, .i32⟩
  | 82 => ⟨S128x8192, .i32⟩
  | 83 => ⟨S_, .i32⟩
  | 84 => ⟨S128x8192, .i32⟩
  | 85 => ⟨S128x8192, .i32⟩
  | 86 => ⟨S_, .i32⟩
  | 87 => ⟨S128x8192, .i32⟩
  | 88 => ⟨S128x8192, .i32⟩
  | 89 => ⟨S128x8192, .i32⟩
  | 90 => ⟨S128x8192, .i32⟩
  | 91 => ⟨S128x8192, .i32⟩
  | 92 => ⟨S_, .i32⟩
  | 93 => ⟨S128x8192, .i32⟩
  | 94 => ⟨S128x8192, .i32⟩
  | 95 => ⟨S_, .i32⟩
  | 96 => ⟨S128x8192, .i32⟩
  | 97 => ⟨S128x8192, .i32⟩
  | 98 => ⟨S128x8192, .i32⟩
  | 99 => ⟨S128x8192, .i32⟩
  | 100 => ⟨S128x8192, .i32⟩
  | 101 => ⟨S128x8192, .i32⟩
  | 102 => ⟨S128x8192, .i32⟩
  | 103 => ⟨S128x8192, .i32⟩
  | 104 => ⟨S_, .i32⟩
  | 105 => ⟨S128x8192, .i32⟩
  | 106 => ⟨S128x8192, .i32⟩
  | 107 => ⟨S128x8192, .i32⟩
  | 108 => ⟨S_, .i32⟩
  | 109 => ⟨S128x8192, .i32⟩
  | 110 => ⟨S128x8192, .i32⟩
  | 111 => ⟨S_, .i32⟩
  | 112 => ⟨S128x8192, .i32⟩
  | 113 => ⟨S128x8192, .i32⟩
  | 114 => ⟨S128x8192, .i32⟩
  | 115 => ⟨S128x8192, .i32⟩
  | 116 => ⟨S128x8192, .i32⟩
  | 117 => ⟨S_, .i32⟩
  | 118 => ⟨S128x8192, .i32⟩
  | 119 => ⟨S128x8192, .i32⟩
  | 120 => ⟨S_, .i32⟩
  | 121 => ⟨S128x8192, .i32⟩
  | 122 => ⟨S128x8192, .i32⟩
  | 123 => ⟨S128x8192, .i32⟩
  | 124 => ⟨S128x8192, .i32⟩
  | 125 => ⟨S128x8192, .i32⟩
  | 126 => ⟨S_, .i32⟩
  | 127 => ⟨S128x8192, .i32⟩
  | _ => ⟨S128x8192, .f32⟩

abbrev hbmTy0_7 (i : Nat) : BufTy := match i % 128 with
  | 0 => ⟨S128x8192, .i32⟩
  | 1 => ⟨S_, .i32⟩
  | 2 => ⟨S128x8192, .i32⟩
  | 3 => ⟨S128x8192, .i32⟩
  | 4 => ⟨S128x8192, .i32⟩
  | 5 => ⟨S128x8192, .i32⟩
  | 6 => ⟨S128x8192, .i32⟩
  | 7 => ⟨S_, .i32⟩
  | 8 => ⟨S128x8192, .i32⟩
  | 9 => ⟨S128x8192, .i32⟩
  | 10 => ⟨S_, .i32⟩
  | 11 => ⟨S128x8192, .i32⟩
  | 12 => ⟨S128x8192, .i32⟩
  | 13 => ⟨S128x8192, .i32⟩
  | 14 => ⟨S128x8192, .i32⟩
  | 15 => ⟨S128x8192, .i32⟩
  | 16 => ⟨S128x8192, .i32⟩
  | 17 => ⟨S128x8192, .i32⟩
  | 18 => ⟨S128x8192, .i32⟩
  | 19 => ⟨S_, .i32⟩
  | 20 => ⟨S128x8192, .i32⟩
  | 21 => ⟨S128x8192, .i32⟩
  | 22 => ⟨S128x8192, .i32⟩
  | 23 => ⟨S_, .i32⟩
  | 24 => ⟨S128x8192, .i32⟩
  | 25 => ⟨S128x8192, .i32⟩
  | 26 => ⟨S_, .i32⟩
  | 27 => ⟨S128x8192, .i32⟩
  | 28 => ⟨S128x8192, .i32⟩
  | 29 => ⟨S128x8192, .i32⟩
  | 30 => ⟨S128x8192, .i32⟩
  | 31 => ⟨S128x8192, .i32⟩
  | 32 => ⟨S_, .i32⟩
  | 33 => ⟨S128x8192, .i32⟩
  | 34 => ⟨S128x8192, .i32⟩
  | 35 => ⟨S_, .i32⟩
  | 36 => ⟨S128x8192, .i32⟩
  | 37 => ⟨S128x8192, .i32⟩
  | 38 => ⟨S128x8192, .i32⟩
  | 39 => ⟨S128x8192, .i32⟩
  | 40 => ⟨S128x8192, .i32⟩
  | 41 => ⟨S_, .i32⟩
  | 42 => ⟨S128x8192, .i32⟩
  | 43 => ⟨S128x8192, .i32⟩
  | 44 => ⟨S_, .i32⟩
  | 45 => ⟨S128x8192, .i32⟩
  | 46 => ⟨S128x8192, .i32⟩
  | 47 => ⟨S128x8192, .i32⟩
  | 48 => ⟨S128x8192, .i32⟩
  | 49 => ⟨S128x8192, .i32⟩
  | 50 => ⟨S_, .i32⟩
  | 51 => ⟨S128x8192, .i32⟩
  | 52 => ⟨S128x8192, .i32⟩
  | 53 => ⟨S_, .i32⟩
  | 54 => ⟨S128x8192, .i32⟩
  | 55 => ⟨S128x8192, .i32⟩
  | 56 => ⟨S128x8192, .i32⟩
  | 57 => ⟨S128x8192, .i32⟩
  | 58 => ⟨S128x8192, .i32⟩
  | 59 => ⟨S128x8192, .i32⟩
  | 60 => ⟨S128x8192, .i32⟩
  | 61 => ⟨S128x8192, .i32⟩
  | 62 => ⟨S_, .i32⟩
  | 63 => ⟨S128x8192, .i32⟩
  | 64 => ⟨S128x8192, .i32⟩
  | 65 => ⟨S128x8192, .i32⟩
  | 66 => ⟨S_, .i32⟩
  | 67 => ⟨S128x8192, .i32⟩
  | 68 => ⟨S128x8192, .i32⟩
  | 69 => ⟨S_, .i32⟩
  | 70 => ⟨S128x8192, .i32⟩
  | 71 => ⟨S128x8192, .i32⟩
  | 72 => ⟨S128x8192, .i32⟩
  | 73 => ⟨S128x8192, .i32⟩
  | 74 => ⟨S128x8192, .i32⟩
  | 75 => ⟨S_, .i32⟩
  | 76 => ⟨S128x8192, .i32⟩
  | 77 => ⟨S128x8192, .i32⟩
  | 78 => ⟨S_, .i32⟩
  | 79 => ⟨S128x8192, .i32⟩
  | 80 => ⟨S128x8192, .i32⟩
  | 81 => ⟨S128x8192, .i32⟩
  | 82 => ⟨S128x8192, .i32⟩
  | 83 => ⟨S128x8192, .i32⟩
  | 84 => ⟨S_, .i32⟩
  | 85 => ⟨S128x8192, .i32⟩
  | 86 => ⟨S128x8192, .i32⟩
  | 87 => ⟨S_, .i32⟩
  | 88 => ⟨S128x8192, .i32⟩
  | 89 => ⟨S128x8192, .i32⟩
  | 90 => ⟨S128x8192, .i32⟩
  | 91 => ⟨S128x8192, .i32⟩
  | 92 => ⟨S128x8192, .i32⟩
  | 93 => ⟨S_, .i32⟩
  | 94 => ⟨S128x8192, .i32⟩
  | 95 => ⟨S128x8192, .i32⟩
  | 96 => ⟨S_, .i32⟩
  | 97 => ⟨S128x8192, .i32⟩
  | 98 => ⟨S128x8192, .i32⟩
  | 99 => ⟨S128x8192, .i32⟩
  | 100 => ⟨S128x8192, .i32⟩
  | 101 => ⟨S128x8192, .i32⟩
  | 102 => ⟨S128x8192, .i32⟩
  | 103 => ⟨S128x8192, .i32⟩
  | 104 => ⟨S128x8192, .i32⟩
  | 105 => ⟨S_, .i32⟩
  | 106 => ⟨S128x8192, .i32⟩
  | 107 => ⟨S128x8192, .i32⟩
  | 108 => ⟨S128x8192, .i32⟩
  | 109 => ⟨S_, .i32⟩
  | 110 => ⟨S128x8192, .i32⟩
  | 111 => ⟨S128x8192, .i32⟩
  | 112 => ⟨S_, .i32⟩
  | 113 => ⟨S128x8192, .i32⟩
  | 114 => ⟨S128x8192, .i32⟩
  | 115 => ⟨S128x8192, .i32⟩
  | 116 => ⟨S128x8192, .i32⟩
  | 117 => ⟨S128x8192, .i32⟩
  | 118 => ⟨S_, .i32⟩
  | 119 => ⟨S128x8192, .i32⟩
  | 120 => ⟨S128x8192, .i32⟩
  | 121 => ⟨S_, .i32⟩
  | 122 => ⟨S128x8192, .i32⟩
  | 123 => ⟨S128x8192, .i32⟩
  | 124 => ⟨S128x8192, .i32⟩
  | 125 => ⟨S128x8192, .i32⟩
  | 126 => ⟨S128x8192, .i32⟩
  | 127 => ⟨S_, .i32⟩
  | _ => ⟨S128x8192, .f32⟩

abbrev hbmTy0_8 (i : Nat) : BufTy := match i % 128 with
  | 0 => ⟨S128x8192, .i32⟩
  | 1 => ⟨S128x8192, .i32⟩
  | 2 => ⟨S_, .i32⟩
  | 3 => ⟨S128x8192, .i32⟩
  | 4 => ⟨S128x8192, .i32⟩
  | 5 => ⟨S128x8192, .i32⟩
  | 6 => ⟨S128x8192, .i32⟩
  | 7 => ⟨S128x8192, .i32⟩
  | 8 => ⟨S_, .i32⟩
  | 9 => ⟨S128x8192, .i32⟩
  | 10 => ⟨S128x8192, .i32⟩
  | 11 => ⟨S_, .i32⟩
  | 12 => ⟨S128x8192, .i32⟩
  | 13 => ⟨S128x8192, .i32⟩
  | 14 => ⟨S128x8192, .i32⟩
  | 15 => ⟨S128x8192, .i32⟩
  | 16 => ⟨S128x8192, .i32⟩
  | 17 => ⟨S128x8192, .i32⟩
  | 18 => ⟨S128x8192, .i32⟩
  | 19 => ⟨S128x8192, .i32⟩
  | 20 => ⟨S_, .i32⟩
  | 21 => ⟨S128x8192, .i32⟩
  | 22 => ⟨S128x8192, .i32⟩
  | 23 => ⟨S128x8192, .i32⟩
  | 24 => ⟨S1, .i32⟩
  | 25 => ⟨S_, .i32⟩
  | 26 => ⟨S1, .i32⟩
  | 27 => ⟨S_, .i32⟩
  | 28 => ⟨S128x8192, .i64⟩
  | 29 => ⟨S128x8192, .i64⟩
  | 30 => ⟨S_, .i64⟩
  | 31 => ⟨S128x8192, .i64⟩
  | 32 => ⟨S128x8192, .i64⟩
  | 33 => ⟨S_, .i64⟩
  | 34 => ⟨S128x8192, .i64⟩
  | 35 => ⟨S128x8192, .i64⟩
  | 36 => ⟨S128x8192, .i64⟩
  | 37 => ⟨S_, .i64⟩
  | 38 => ⟨S128x8192, .i64⟩
  | 39 => ⟨S128x8192, .i64⟩
  | 40 => ⟨S128x8192, .i32⟩
  | 41 => ⟨S128x8192, .i32⟩
  | 42 => ⟨S_, .i32⟩
  | 43 => ⟨S_, .i32⟩
  | 44 => ⟨S_, .i32⟩
  | 45 => ⟨S128x8192, .i32⟩
  | 46 => ⟨S128x8192, .i32⟩
  | 47 => ⟨S128x8192, .i32⟩
  | 48 => ⟨S128x8192, .i32⟩
  | 49 => ⟨S128x8192, .i32⟩
  | 50 => ⟨S_, .i32⟩
  | 51 => ⟨S128x8192, .i32⟩
  | 52 => ⟨S128x8192, .i32⟩
  | 53 => ⟨S_, .i32⟩
  | 54 => ⟨S128x8192, .i32⟩
  | 55 => ⟨S128x8192, .i32⟩
  | 56 => ⟨S128x8192, .i32⟩
  | 57 => ⟨S128x8192, .i32⟩
  | 58 => ⟨S128x8192, .i32⟩
  | 59 => ⟨S_, .i32⟩
  | 60 => ⟨S128x8192, .i32⟩
  | 61 => ⟨S128x8192, .i32⟩
  | 62 => ⟨S_, .i32⟩
  | 63 => ⟨S128x8192, .i32⟩
  | 64 => ⟨S128x8192, .i32⟩
  | 65 => ⟨S128x8192, .i32⟩
  | 66 => ⟨S128x8192, .i32⟩
  | 67 => ⟨S128x8192, .i32⟩
  | 68 => ⟨S_, .i32⟩
  | 69 => ⟨S128x8192, .i32⟩
  | 70 => ⟨S128x8192, .i32⟩
  | 71 => ⟨S_, .i32⟩
  | 72 => ⟨S128x8192, .i32⟩
  | 73 => ⟨S128x8192, .i32⟩
  | 74 => ⟨S128x8192, .i32⟩
  | 75 => ⟨S128x8192, .i32⟩
  | 76 => ⟨S128x8192, .i32⟩
  | 77 => ⟨S_, .i32⟩
  | 78 => ⟨S128x8192, .i32⟩
  | 79 => ⟨S128x8192, .i32⟩
  | 80 => ⟨S_, .i32⟩
  | 81 => ⟨S128x8192, .i32⟩
  | 82 => ⟨S128x8192, .i32⟩
  | 83 => ⟨S128x8192, .i32⟩
  | 84 => ⟨S128x8192, .i32⟩
  | 85 => ⟨S128x8192, .i32⟩
  | 86 => ⟨S128x8192, .i32⟩
  | 87 => ⟨S128x8192, .i32⟩
  | 88 => ⟨S128x8192, .i32⟩
  | 89 => ⟨S_, .i32⟩
  | 90 => ⟨S128x8192, .i32⟩
  | 91 => ⟨S128x8192, .i32⟩
  | 92 => ⟨S128x8192, .i32⟩
  | 93 => ⟨S_, .i32⟩
  | 94 => ⟨S128x8192, .i32⟩
  | 95 => ⟨S128x8192, .i32⟩
  | 96 => ⟨S_, .i32⟩
  | 97 => ⟨S128x8192, .i32⟩
  | 98 => ⟨S128x8192, .i32⟩
  | 99 => ⟨S128x8192, .i32⟩
  | 100 => ⟨S128x8192, .i32⟩
  | 101 => ⟨S128x8192, .i32⟩
  | 102 => ⟨S_, .i32⟩
  | 103 => ⟨S128x8192, .i32⟩
  | 104 => ⟨S128x8192, .i32⟩
  | 105 => ⟨S_, .i32⟩
  | 106 => ⟨S128x8192, .i32⟩
  | 107 => ⟨S128x8192, .i32⟩
  | 108 => ⟨S128x8192, .i32⟩
  | 109 => ⟨S128x8192, .i32⟩
  | 110 => ⟨S128x8192, .i32⟩
  | 111 => ⟨S_, .i32⟩
  | 112 => ⟨S128x8192, .i32⟩
  | 113 => ⟨S128x8192, .i32⟩
  | 114 => ⟨S_, .i32⟩
  | 115 => ⟨S128x8192, .i32⟩
  | 116 => ⟨S128x8192, .i32⟩
  | 117 => ⟨S128x8192, .i32⟩
  | 118 => ⟨S128x8192, .i32⟩
  | 119 => ⟨S128x8192, .i32⟩
  | 120 => ⟨S_, .i32⟩
  | 121 => ⟨S128x8192, .i32⟩
  | 122 => ⟨S128x8192, .i32⟩
  | 123 => ⟨S_, .i32⟩
  | 124 => ⟨S128x8192, .i32⟩
  | 125 => ⟨S128x8192, .i32⟩
  | 126 => ⟨S128x8192, .i32⟩
  | 127 => ⟨S128x8192, .i32⟩
  | _ => ⟨S128x8192, .f32⟩

abbrev hbmTy0_9 (i : Nat) : BufTy := match i % 128 with
  | 0 => ⟨S128x8192, .i32⟩
  | 1 => ⟨S128x8192, .i32⟩
  | 2 => ⟨S128x8192, .i32⟩
  | 3 => ⟨S128x8192, .i32⟩
  | 4 => ⟨S_, .i32⟩
  | 5 => ⟨S128x8192, .i32⟩
  | 6 => ⟨S128x8192, .i32⟩
  | 7 => ⟨S128x8192, .i32⟩
  | 8 => ⟨S_, .i32⟩
  | 9 => ⟨S128x8192, .i32⟩
  | 10 => ⟨S128x8192, .i32⟩
  | 11 => ⟨S_, .i32⟩
  | 12 => ⟨S128x8192, .i32⟩
  | 13 => ⟨S128x8192, .i32⟩
  | 14 => ⟨S128x8192, .i32⟩
  | 15 => ⟨S128x8192, .i32⟩
  | 16 => ⟨S128x8192, .i32⟩
  | 17 => ⟨S_, .i32⟩
  | 18 => ⟨S128x8192, .i32⟩
  | 19 => ⟨S128x8192, .i32⟩
  | 20 => ⟨S_, .i32⟩
  | 21 => ⟨S128x8192, .i32⟩
  | 22 => ⟨S128x8192, .i32⟩
  | 23 => ⟨S128x8192, .i32⟩
  | 24 => ⟨S128x8192, .i32⟩
  | 25 => ⟨S128x8192, .i32⟩
  | 26 => ⟨S_, .i32⟩
  | 27 => ⟨S128x8192, .i32⟩
  | 28 => ⟨S128x8192, .i32⟩
  | 29 => ⟨S_, .i32⟩
  | 30 => ⟨S128x8192, .i32⟩
  | 31 => ⟨S128x8192, .i32⟩
  | 32 => ⟨S128x8192, .i32⟩
  | 33 => ⟨S128x8192, .i32⟩
  | 34 => ⟨S128x8192, .i32⟩
  | 35 => ⟨S_, .i32⟩
  | 36 => ⟨S128x8192, .i32⟩
  | 37 => ⟨S128x8192, .i32⟩
  | 38 => ⟨S_, .i32⟩
  | 39 => ⟨S128x8192, .i32⟩
  | 40 => ⟨S128x8192, .i32⟩
  | 41 => ⟨S128x8192, .i32⟩
  | 42 => ⟨S128x8192, .i32⟩
  | 43 => ⟨S128x8192, .i32⟩
  | 44 => ⟨S128x8192, .i32⟩
  | 45 => ⟨S128x8192, .i32⟩
  | 46 => ⟨S128x8192, .i32⟩
  | 47 => ⟨S_, .i32⟩
  | 48 => ⟨S128x8192, .i32⟩
  | 49 => ⟨S128x8192, .i32⟩
  | 50 => ⟨S128x8192, .i32⟩
  | 51 => ⟨S_, .i32⟩
  | 52 => ⟨S128x8192, .i32⟩
  | 53 => ⟨S128x8192, .i32⟩
  | 54 => ⟨S_, .i32⟩
  | 55 => ⟨S128x8192, .i32⟩
  | 56 => ⟨S128x8192, .i32⟩
  | 57 => ⟨S128x8192, .i32⟩
  | 58 => ⟨S128x8192, .i32⟩
  | 59 => ⟨S128x8192, .i32⟩
  | 60 => ⟨S_, .i32⟩
  | 61 => ⟨S128x8192, .i32⟩
  | 62 => ⟨S128x8192, .i32⟩
  | 63 => ⟨S_, .i32⟩
  | 64 => ⟨S128x8192, .i32⟩
  | 65 => ⟨S128x8192, .i32⟩
  | 66 => ⟨S128x8192, .i32⟩
  | 67 => ⟨S128x8192, .i32⟩
  | 68 => ⟨S128x8192, .i32⟩
  | 69 => ⟨S_, .i32⟩
  | 70 => ⟨S128x8192, .i32⟩
  | 71 => ⟨S128x8192, .i32⟩
  | 72 => ⟨S_, .i32⟩
  | 73 => ⟨S128x8192, .i32⟩
  | 74 => ⟨S128x8192, .i32⟩
  | 75 => ⟨S128x8192, .i32⟩
  | 76 => ⟨S128x8192, .i32⟩
  | 77 => ⟨S128x8192, .i32⟩
  | 78 => ⟨S_, .i32⟩
  | 79 => ⟨S128x8192, .i32⟩
  | 80 => ⟨S128x8192, .i32⟩
  | 81 => ⟨S_, .i32⟩
  | 82 => ⟨S128x8192, .i32⟩
  | 83 => ⟨S128x8192, .i32⟩
  | 84 => ⟨S128x8192, .i32⟩
  | 85 => ⟨S128x8192, .i32⟩
  | 86 => ⟨S128x8192, .i32⟩
  | 87 => ⟨S128x8192, .i32⟩
  | 88 => ⟨S128x8192, .i32⟩
  | 89 => ⟨S128x8192, .i32⟩
  | 90 => ⟨S_, .i32⟩
  | 91 => ⟨S128x8192, .i32⟩
  | 92 => ⟨S128x8192, .i32⟩
  | 93 => ⟨S128x8192, .i32⟩
  | 94 => ⟨S_, .i32⟩
  | 95 => ⟨S128x8192, .i32⟩
  | 96 => ⟨S128x8192, .i32⟩
  | 97 => ⟨S_, .i32⟩
  | 98 => ⟨S128x8192, .i32⟩
  | 99 => ⟨S128x8192, .i32⟩
  | 100 => ⟨S128x8192, .i32⟩
  | 101 => ⟨S128x8192, .i32⟩
  | 102 => ⟨S128x8192, .i32⟩
  | 103 => ⟨S_, .i32⟩
  | 104 => ⟨S128x8192, .i32⟩
  | 105 => ⟨S128x8192, .i32⟩
  | 106 => ⟨S_, .i32⟩
  | 107 => ⟨S128x8192, .i32⟩
  | 108 => ⟨S128x8192, .i32⟩
  | 109 => ⟨S128x8192, .i32⟩
  | 110 => ⟨S128x8192, .i32⟩
  | 111 => ⟨S128x8192, .i32⟩
  | 112 => ⟨S_, .i32⟩
  | 113 => ⟨S128x8192, .i32⟩
  | 114 => ⟨S128x8192, .i32⟩
  | 115 => ⟨S_, .i32⟩
  | 116 => ⟨S128x8192, .i32⟩
  | 117 => ⟨S128x8192, .i32⟩
  | 118 => ⟨S128x8192, .i32⟩
  | 119 => ⟨S128x8192, .i32⟩
  | 120 => ⟨S128x8192, .i32⟩
  | 121 => ⟨S_, .i32⟩
  | 122 => ⟨S128x8192, .i32⟩
  | 123 => ⟨S128x8192, .i32⟩
  | 124 => ⟨S_, .i32⟩
  | 125 => ⟨S128x8192, .i32⟩
  | 126 => ⟨S128x8192, .i32⟩
  | 127 => ⟨S128x8192, .i32⟩
  | _ => ⟨S128x8192, .f32⟩

abbrev hbmTy0_10 (i : Nat) : BufTy := match i % 128 with
  | 0 => ⟨S128x8192, .i32⟩
  | 1 => ⟨S128x8192, .i32⟩
  | 2 => ⟨S128x8192, .i32⟩
  | 3 => ⟨S128x8192, .i32⟩
  | 4 => ⟨S128x8192, .i32⟩
  | 5 => ⟨S_, .i32⟩
  | 6 => ⟨S128x8192, .i32⟩
  | 7 => ⟨S128x8192, .i32⟩
  | 8 => ⟨S128x8192, .i32⟩
  | 9 => ⟨S1x1, .i32⟩
  | 10 => ⟨S1x1, .i32⟩
  | 11 => ⟨S1x1, .i1⟩
  | 12 => ⟨S_, .i32⟩
  | 13 => ⟨S1x1, .i32⟩
  | 14 => ⟨S1x1, .i32⟩
  | 15 => ⟨S1x1, .i1⟩
  | 16 => ⟨S1x1, .i1⟩
  | 17 => ⟨S1x1, .i1⟩
  | 18 => ⟨S_, .i32⟩
  | 19 => ⟨S1x1, .i32⟩
  | 20 => ⟨S1x1, .i32⟩
  | 21 => ⟨S1x1, .i32⟩
  | 22 => ⟨S_, .i32⟩
  | 23 => ⟨S1x1, .i32⟩
  | 24 => ⟨S1x1, .i32⟩
  | 25 => ⟨S1x1, .i32⟩
  | 26 => ⟨S1x1, .i32⟩
  | 27 => ⟨S128x8192, .i32⟩
  | 28 => ⟨S128x8192, .i32⟩
  | 29 => ⟨S128x8192, .i32⟩
  | 30 => ⟨S128x8192, .i32⟩
  | 31 => ⟨S128x8192, .i32⟩
  | 32 => ⟨S128x8192, .i32⟩
  | 33 => ⟨S128x8192, .i32⟩
  | 34 => ⟨S128x8192, .i32⟩
  | 35 => ⟨S128x8192, .i32⟩
  | 36 => ⟨S128x8192, .i32⟩
  | 37 => ⟨S128x8192, .i32⟩
  | 38 => ⟨S128x8192, .i32⟩
  | 39 => ⟨S128x8192, .f32⟩
  | 40 => ⟨S_, .f32⟩
  | 41 => ⟨S128x8192, .f32⟩
  | 42 => ⟨S128x8192, .f32⟩
  | 43 => ⟨S128x8192, .f32⟩
  | 44 => ⟨S128x8192, .f32⟩
  | 45 => ⟨S128x8192, .f32⟩
  | 46 => ⟨S_, .f32⟩
  | 47 => ⟨S128x8192, .f32⟩
  | 48 => ⟨S128x8192, .f32⟩
  | 49 => ⟨S_, .f32⟩
  | 50 => ⟨S_, .f32⟩
  | 51 => ⟨S_, .f32⟩
  | 52 => ⟨S128x8192, .f32⟩
  | 53 => ⟨S128x8192, .f32⟩
  | 54 => ⟨S128x8192, .f32⟩
  | _ => ⟨S128x8192, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S128x8192, .f32⟩

abbrev bufTy : (tb : Table) → Fin (tcTables nBuf tb) → BufTy
  | .hbm, ⟨i, _⟩ => hbmTy i
  | _, _ => ⟨S128x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c : Ref sig .tc := ⟨.hbm, 16, rfl⟩
abbrev main_call0_v5 : Ref sig .tc := ⟨.hbm, 17, rfl⟩
abbrev main_call0_v6 : Ref sig .tc := ⟨.hbm, 18, rfl⟩
abbrev main_call0_c_0 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_call0_v0 : Ref sig .tc := ⟨.hbm, 24, rfl⟩
abbrev main_call0_call0_c : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_c_0 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_c_1 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_call0_v12 : Ref sig .tc := ⟨.hbm, 39, rfl⟩
abbrev main_call0_call0_v13 : Ref sig .tc := ⟨.hbm, 40, rfl⟩
abbrev main_call0_call0_c_2 : Ref sig .tc := ⟨.hbm, 41, rfl⟩
abbrev main_call0_call0_v14 : Ref sig .tc := ⟨.hbm, 42, rfl⟩
abbrev main_call0_call0_v15 : Ref sig .tc := ⟨.hbm, 43, rfl⟩
abbrev main_call0_call0_c_3 : Ref sig .tc := ⟨.hbm, 44, rfl⟩
abbrev main_call0_call0_v16 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_c_4 : Ref sig .tc := ⟨.hbm, 50, rfl⟩
abbrev main_call0_call0_v21 : Ref sig .tc := ⟨.hbm, 51, rfl⟩
abbrev main_call0_call0_v22 : Ref sig .tc := ⟨.hbm, 52, rfl⟩
abbrev main_call0_call0_c_5 : Ref sig .tc := ⟨.hbm, 53, rfl⟩
abbrev main_call0_call0_v23 : Ref sig .tc := ⟨.hbm, 54, rfl⟩
abbrev main_call0_call0_v24 : Ref sig .tc := ⟨.hbm, 55, rfl⟩
abbrev main_call0_call0_v25 : Ref sig .tc := ⟨.hbm, 56, rfl⟩
abbrev main_call0_call0_v26 : Ref sig .tc := ⟨.hbm, 57, rfl⟩
abbrev main_call0_call0_v27 : Ref sig .tc := ⟨.hbm, 58, rfl⟩
abbrev main_call0_call0_c_6 : Ref sig .tc := ⟨.hbm, 59, rfl⟩
abbrev main_call0_call0_v28 : Ref sig .tc := ⟨.hbm, 60, rfl⟩
abbrev main_call0_call0_v29 : Ref sig .tc := ⟨.hbm, 61, rfl⟩
abbrev main_call0_call0_c_7 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_v32 : Ref sig .tc := ⟨.hbm, 65, rfl⟩
abbrev main_call0_call0_v33 : Ref sig .tc := ⟨.hbm, 66, rfl⟩
abbrev main_call0_call0_v34 : Ref sig .tc := ⟨.hbm, 67, rfl⟩
abbrev main_call0_call0_v35 : Ref sig .tc := ⟨.hbm, 68, rfl⟩
abbrev main_call0_call0_v36 : Ref sig .tc := ⟨.hbm, 69, rfl⟩
abbrev main_call0_call0_v37 : Ref sig .tc := ⟨.hbm, 70, rfl⟩
abbrev main_call0_call0_c_8 : Ref sig .tc := ⟨.hbm, 71, rfl⟩
abbrev main_call0_call0_v38 : Ref sig .tc := ⟨.hbm, 72, rfl⟩
abbrev main_call0_call0_v39 : Ref sig .tc := ⟨.hbm, 73, rfl⟩
abbrev main_call0_call0_v40 : Ref sig .tc := ⟨.hbm, 74, rfl⟩
abbrev main_call0_call0_c_9 : Ref sig .tc := ⟨.hbm, 75, rfl⟩
abbrev main_call0_call0_v41 : Ref sig .tc := ⟨.hbm, 76, rfl⟩
abbrev main_call0_call0_v42 : Ref sig .tc := ⟨.hbm, 77, rfl⟩
abbrev main_call0_call0_c_10 : Ref sig .tc := ⟨.hbm, 78, rfl⟩
abbrev main_call0_call0_v43 : Ref sig .tc := ⟨.hbm, 79, rfl⟩
abbrev main_call0_call0_v44 : Ref sig .tc := ⟨.hbm, 80, rfl⟩
abbrev main_call0_call0_v45 : Ref sig .tc := ⟨.hbm, 81, rfl⟩
abbrev main_call0_call0_v46 : Ref sig .tc := ⟨.hbm, 82, rfl⟩
abbrev main_call0_call0_v47 : Ref sig .tc := ⟨.hbm, 83, rfl⟩
abbrev main_call0_call0_c_11 : Ref sig .tc := ⟨.hbm, 84, rfl⟩
abbrev main_call0_call0_v48 : Ref sig .tc := ⟨.hbm, 85, rfl⟩
abbrev main_call0_call0_v49 : Ref sig .tc := ⟨.hbm, 86, rfl⟩
abbrev main_call0_call0_c_12 : Ref sig .tc := ⟨.hbm, 87, rfl⟩
abbrev main_call0_call0_v50 : Ref sig .tc := ⟨.hbm, 88, rfl⟩
abbrev main_call0_call0_v51 : Ref sig .tc := ⟨.hbm, 89, rfl⟩
abbrev main_call0_call0_v52 : Ref sig .tc := ⟨.hbm, 90, rfl⟩
abbrev main_call0_call0_v53 : Ref sig .tc := ⟨.hbm, 91, rfl⟩
abbrev main_call0_call0_v54 : Ref sig .tc := ⟨.hbm, 92, rfl⟩
abbrev main_call0_call0_c_13 : Ref sig .tc := ⟨.hbm, 93, rfl⟩
abbrev main_call0_call0_v55 : Ref sig .tc := ⟨.hbm, 94, rfl⟩
abbrev main_call0_call0_v56 : Ref sig .tc := ⟨.hbm, 95, rfl⟩
abbrev main_call0_call0_c_14 : Ref sig .tc := ⟨.hbm, 96, rfl⟩
abbrev main_call0_call0_v57 : Ref sig .tc := ⟨.hbm, 97, rfl⟩
abbrev main_call0_call0_v58 : Ref sig .tc := ⟨.hbm, 98, rfl⟩
abbrev main_call0_call0_v59 : Ref sig .tc := ⟨.hbm, 99, rfl⟩
abbrev main_call0_call0_v60 : Ref sig .tc := ⟨.hbm, 100, rfl⟩
abbrev main_call0_call0_v61 : Ref sig .tc := ⟨.hbm, 101, rfl⟩
abbrev main_call0_call0_c_15 : Ref sig .tc := ⟨.hbm, 102, rfl⟩
abbrev main_call0_call0_v62 : Ref sig .tc := ⟨.hbm, 103, rfl⟩
abbrev main_call0_call0_v63 : Ref sig .tc := ⟨.hbm, 104, rfl⟩
abbrev main_call0_call0_c_16 : Ref sig .tc := ⟨.hbm, 105, rfl⟩
abbrev main_call0_call0_v64 : Ref sig .tc := ⟨.hbm, 106, rfl⟩
abbrev main_call0_call0_v65 : Ref sig .tc := ⟨.hbm, 107, rfl⟩
abbrev main_call0_call0_v66 : Ref sig .tc := ⟨.hbm, 108, rfl⟩
abbrev main_call0_call0_v67 : Ref sig .tc := ⟨.hbm, 109, rfl⟩
abbrev main_call0_call0_v68 : Ref sig .tc := ⟨.hbm, 110, rfl⟩
abbrev main_call0_call0_v69 : Ref sig .tc := ⟨.hbm, 111, rfl⟩
abbrev main_call0_call0_v70 : Ref sig .tc := ⟨.hbm, 112, rfl⟩
abbrev main_call0_call0_v71 : Ref sig .tc := ⟨.hbm, 113, rfl⟩
abbrev main_call0_call0_c_17 : Ref sig .tc := ⟨.hbm, 114, rfl⟩
abbrev main_call0_call0_v72 : Ref sig .tc := ⟨.hbm, 115, rfl⟩
abbrev main_call0_call0_v73 : Ref sig .tc := ⟨.hbm, 116, rfl⟩
abbrev main_call0_call0_v74 : Ref sig .tc := ⟨.hbm, 117, rfl⟩
abbrev main_call0_call0_c_18 : Ref sig .tc := ⟨.hbm, 118, rfl⟩
abbrev main_call0_call0_v75 : Ref sig .tc := ⟨.hbm, 119, rfl⟩
abbrev main_call0_call0_v76 : Ref sig .tc := ⟨.hbm, 120, rfl⟩
abbrev main_call0_call0_c_19 : Ref sig .tc := ⟨.hbm, 121, rfl⟩
abbrev main_call0_call0_v77 : Ref sig .tc := ⟨.hbm, 122, rfl⟩
abbrev main_call0_call0_v78 : Ref sig .tc := ⟨.hbm, 123, rfl⟩
abbrev main_call0_call0_v79 : Ref sig .tc := ⟨.hbm, 124, rfl⟩
abbrev main_call0_call0_v80 : Ref sig .tc := ⟨.hbm, 125, rfl⟩
abbrev main_call0_call0_v81 : Ref sig .tc := ⟨.hbm, 126, rfl⟩
abbrev main_call0_call0_c_20 : Ref sig .tc := ⟨.hbm, 127, rfl⟩
abbrev main_call0_call0_v82 : Ref sig .tc := ⟨.hbm, 128, rfl⟩
abbrev main_call0_call0_v83 : Ref sig .tc := ⟨.hbm, 129, rfl⟩
abbrev main_call0_call0_c_21 : Ref sig .tc := ⟨.hbm, 130, rfl⟩
abbrev main_call0_call0_v84 : Ref sig .tc := ⟨.hbm, 131, rfl⟩
abbrev main_call0_call0_v85 : Ref sig .tc := ⟨.hbm, 132, rfl⟩
abbrev main_call0_call0_v86 : Ref sig .tc := ⟨.hbm, 133, rfl⟩
abbrev main_call0_call0_v87 : Ref sig .tc := ⟨.hbm, 134, rfl⟩
abbrev main_call0_call0_v88 : Ref sig .tc := ⟨.hbm, 135, rfl⟩
abbrev main_call0_call0_c_22 : Ref sig .tc := ⟨.hbm, 136, rfl⟩
abbrev main_call0_call0_v89 : Ref sig .tc := ⟨.hbm, 137, rfl⟩
abbrev main_call0_call0_v90 : Ref sig .tc := ⟨.hbm, 138, rfl⟩
abbrev main_call0_call0_c_23 : Ref sig .tc := ⟨.hbm, 139, rfl⟩
abbrev main_call0_call0_v91 : Ref sig .tc := ⟨.hbm, 140, rfl⟩
abbrev main_call0_call0_v92 : Ref sig .tc := ⟨.hbm, 141, rfl⟩
abbrev main_call0_call0_v93 : Ref sig .tc := ⟨.hbm, 142, rfl⟩
abbrev main_call0_call0_v94 : Ref sig .tc := ⟨.hbm, 143, rfl⟩
abbrev main_call0_call0_v95 : Ref sig .tc := ⟨.hbm, 144, rfl⟩
abbrev main_call0_call0_c_24 : Ref sig .tc := ⟨.hbm, 145, rfl⟩
abbrev main_call0_call0_v96 : Ref sig .tc := ⟨.hbm, 146, rfl⟩
abbrev main_call0_call0_v97 : Ref sig .tc := ⟨.hbm, 147, rfl⟩
abbrev main_call0_call0_c_25 : Ref sig .tc := ⟨.hbm, 148, rfl⟩
abbrev main_call0_call0_v98 : Ref sig .tc := ⟨.hbm, 149, rfl⟩
abbrev main_call0_call0_v99 : Ref sig .tc := ⟨.hbm, 150, rfl⟩
abbrev main_call0_call0_v100 : Ref sig .tc := ⟨.hbm, 151, rfl⟩
abbrev main_call0_call0_v101 : Ref sig .tc := ⟨.hbm, 152, rfl⟩
abbrev main_call0_call0_v102 : Ref sig .tc := ⟨.hbm, 153, rfl⟩
abbrev main_call0_call0_v103 : Ref sig .tc := ⟨.hbm, 154, rfl⟩
abbrev main_call0_call0_v104 : Ref sig .tc := ⟨.hbm, 155, rfl⟩
abbrev main_call0_call0_v105 : Ref sig .tc := ⟨.hbm, 156, rfl⟩
abbrev main_call0_call0_c_26 : Ref sig .tc := ⟨.hbm, 157, rfl⟩
abbrev main_call0_call0_v106 : Ref sig .tc := ⟨.hbm, 158, rfl⟩
abbrev main_call0_call0_v107 : Ref sig .tc := ⟨.hbm, 159, rfl⟩
abbrev main_call0_call0_v108 : Ref sig .tc := ⟨.hbm, 160, rfl⟩
abbrev main_call0_call0_c_27 : Ref sig .tc := ⟨.hbm, 161, rfl⟩
abbrev main_call0_call0_v109 : Ref sig .tc := ⟨.hbm, 162, rfl⟩
abbrev main_call0_call0_v110 : Ref sig .tc := ⟨.hbm, 163, rfl⟩
abbrev main_call0_call0_c_28 : Ref sig .tc := ⟨.hbm, 164, rfl⟩
abbrev main_call0_call0_v111 : Ref sig .tc := ⟨.hbm, 165, rfl⟩
abbrev main_call0_call0_v112 : Ref sig .tc := ⟨.hbm, 166, rfl⟩
abbrev main_call0_call0_v113 : Ref sig .tc := ⟨.hbm, 167, rfl⟩
abbrev main_call0_call0_v114 : Ref sig .tc := ⟨.hbm, 168, rfl⟩
abbrev main_call0_call0_v115 : Ref sig .tc := ⟨.hbm, 169, rfl⟩
abbrev main_call0_call0_c_29 : Ref sig .tc := ⟨.hbm, 170, rfl⟩
abbrev main_call0_call0_v116 : Ref sig .tc := ⟨.hbm, 171, rfl⟩
abbrev main_call0_call0_v117 : Ref sig .tc := ⟨.hbm, 172, rfl⟩
abbrev main_call0_call0_c_30 : Ref sig .tc := ⟨.hbm, 173, rfl⟩
abbrev main_call0_call0_v118 : Ref sig .tc := ⟨.hbm, 174, rfl⟩
abbrev main_call0_call0_v119 : Ref sig .tc := ⟨.hbm, 175, rfl⟩
abbrev main_call0_call0_v120 : Ref sig .tc := ⟨.hbm, 176, rfl⟩
abbrev main_call0_call0_v121 : Ref sig .tc := ⟨.hbm, 177, rfl⟩
abbrev main_call0_call0_v122 : Ref sig .tc := ⟨.hbm, 178, rfl⟩
abbrev main_call0_call0_c_31 : Ref sig .tc := ⟨.hbm, 179, rfl⟩
abbrev main_call0_call0_v123 : Ref sig .tc := ⟨.hbm, 180, rfl⟩
abbrev main_call0_call0_v124 : Ref sig .tc := ⟨.hbm, 181, rfl⟩
abbrev main_call0_call0_c_32 : Ref sig .tc := ⟨.hbm, 182, rfl⟩
abbrev main_call0_call0_v125 : Ref sig .tc := ⟨.hbm, 183, rfl⟩
abbrev main_call0_call0_v126 : Ref sig .tc := ⟨.hbm, 184, rfl⟩
abbrev main_call0_call0_v127 : Ref sig .tc := ⟨.hbm, 185, rfl⟩
abbrev main_call0_call0_v128 : Ref sig .tc := ⟨.hbm, 186, rfl⟩
abbrev main_call0_call0_v129 : Ref sig .tc := ⟨.hbm, 187, rfl⟩
abbrev main_call0_call0_c_33 : Ref sig .tc := ⟨.hbm, 188, rfl⟩
abbrev main_call0_call0_v130 : Ref sig .tc := ⟨.hbm, 189, rfl⟩
abbrev main_call0_call0_v131 : Ref sig .tc := ⟨.hbm, 190, rfl⟩
abbrev main_call0_call0_c_34 : Ref sig .tc := ⟨.hbm, 191, rfl⟩
abbrev main_call0_call0_v132 : Ref sig .tc := ⟨.hbm, 192, rfl⟩
abbrev main_call0_call0_v133 : Ref sig .tc := ⟨.hbm, 193, rfl⟩
abbrev main_call0_call0_v134 : Ref sig .tc := ⟨.hbm, 194, rfl⟩
abbrev main_call0_call0_v135 : Ref sig .tc := ⟨.hbm, 195, rfl⟩
abbrev main_call0_call0_v136 : Ref sig .tc := ⟨.hbm, 196, rfl⟩
abbrev main_call0_call0_v137 : Ref sig .tc := ⟨.hbm, 197, rfl⟩
abbrev main_call0_call0_v138 : Ref sig .tc := ⟨.hbm, 198, rfl⟩
abbrev main_call0_call0_v139 : Ref sig .tc := ⟨.hbm, 199, rfl⟩
abbrev main_call0_call0_c_35 : Ref sig .tc := ⟨.hbm, 200, rfl⟩
abbrev main_call0_call0_v140 : Ref sig .tc := ⟨.hbm, 201, rfl⟩
abbrev main_call0_call0_v141 : Ref sig .tc := ⟨.hbm, 202, rfl⟩
abbrev main_call0_call0_v142 : Ref sig .tc := ⟨.hbm, 203, rfl⟩
abbrev main_call0_call0_c_36 : Ref sig .tc := ⟨.hbm, 204, rfl⟩
abbrev main_call0_call0_v143 : Ref sig .tc := ⟨.hbm, 205, rfl⟩
abbrev main_call0_call0_v144 : Ref sig .tc := ⟨.hbm, 206, rfl⟩
abbrev main_call0_call0_c_37 : Ref sig .tc := ⟨.hbm, 207, rfl⟩
abbrev main_call0_call0_v145 : Ref sig .tc := ⟨.hbm, 208, rfl⟩
abbrev main_call0_call0_v146 : Ref sig .tc := ⟨.hbm, 209, rfl⟩
abbrev main_call0_call0_v147 : Ref sig .tc := ⟨.hbm, 210, rfl⟩
abbrev main_call0_call0_v148 : Ref sig .tc := ⟨.hbm, 211, rfl⟩
abbrev main_call0_call0_v149 : Ref sig .tc := ⟨.hbm, 212, rfl⟩
abbrev main_call0_call0_c_38 : Ref sig .tc := ⟨.hbm, 213, rfl⟩
abbrev main_call0_call0_v150 : Ref sig .tc := ⟨.hbm, 214, rfl⟩
abbrev main_call0_call0_v151 : Ref sig .tc := ⟨.hbm, 215, rfl⟩
abbrev main_call0_call0_c_39 : Ref sig .tc := ⟨.hbm, 216, rfl⟩
abbrev main_call0_call0_v152 : Ref sig .tc := ⟨.hbm, 217, rfl⟩
abbrev main_call0_call0_v153 : Ref sig .tc := ⟨.hbm, 218, rfl⟩
abbrev main_call0_call0_v154 : Ref sig .tc := ⟨.hbm, 219, rfl⟩
abbrev main_call0_call0_v155 : Ref sig .tc := ⟨.hbm, 220, rfl⟩
abbrev main_call0_call0_v156 : Ref sig .tc := ⟨.hbm, 221, rfl⟩
abbrev main_call0_call0_c_40 : Ref sig .tc := ⟨.hbm, 222, rfl⟩
abbrev main_call0_call0_v157 : Ref sig .tc := ⟨.hbm, 223, rfl⟩
abbrev main_call0_call0_v158 : Ref sig .tc := ⟨.hbm, 224, rfl⟩
abbrev main_call0_call0_c_41 : Ref sig .tc := ⟨.hbm, 225, rfl⟩
abbrev main_call0_call0_v159 : Ref sig .tc := ⟨.hbm, 226, rfl⟩
abbrev main_call0_call0_v160 : Ref sig .tc := ⟨.hbm, 227, rfl⟩
abbrev main_call0_call0_v161 : Ref sig .tc := ⟨.hbm, 228, rfl⟩
abbrev main_call0_call0_v162 : Ref sig .tc := ⟨.hbm, 229, rfl⟩
abbrev main_call0_call0_v163 : Ref sig .tc := ⟨.hbm, 230, rfl⟩
abbrev main_call0_call0_c_42 : Ref sig .tc := ⟨.hbm, 231, rfl⟩
abbrev main_call0_call0_v164 : Ref sig .tc := ⟨.hbm, 232, rfl⟩
abbrev main_call0_call0_v165 : Ref sig .tc := ⟨.hbm, 233, rfl⟩
abbrev main_call0_call0_c_43 : Ref sig .tc := ⟨.hbm, 234, rfl⟩
abbrev main_call0_call0_v166 : Ref sig .tc := ⟨.hbm, 235, rfl⟩
abbrev main_call0_call0_v167 : Ref sig .tc := ⟨.hbm, 236, rfl⟩
abbrev main_call0_call0_v168 : Ref sig .tc := ⟨.hbm, 237, rfl⟩
abbrev main_call0_call0_v169 : Ref sig .tc := ⟨.hbm, 238, rfl⟩
abbrev main_call0_call0_v170 : Ref sig .tc := ⟨.hbm, 239, rfl⟩
abbrev main_call0_v11_0 : Ref sig .tc := ⟨.hbm, 240, rfl⟩
abbrev main_call0_call0_v172 : Ref sig .tc := ⟨.hbm, 241, rfl⟩
abbrev main_call0_call0_v173 : Ref sig .tc := ⟨.hbm, 242, rfl⟩
abbrev main_call0_call0_c_44 : Ref sig .tc := ⟨.hbm, 243, rfl⟩
abbrev main_call0_call0_v174 : Ref sig .tc := ⟨.hbm, 244, rfl⟩
abbrev main_call0_v11_1 : Ref sig .tc := ⟨.hbm, 245, rfl⟩
abbrev main_call0_v12 : Ref sig .tc := ⟨.hbm, 246, rfl⟩
abbrev main_call0_v13 : Ref sig .tc := ⟨.hbm, 247, rfl⟩
abbrev main_v7 : Ref sig .tc := ⟨.hbm, 248, rfl⟩
abbrev main_v8 : Ref sig .tc := ⟨.hbm, 249, rfl⟩
abbrev main_v9 : Ref sig .tc := ⟨.hbm, 250, rfl⟩
abbrev main_v10 : Ref sig .tc := ⟨.hbm, 251, rfl⟩
abbrev main_v11 : Ref sig .tc := ⟨.hbm, 252, rfl⟩
abbrev main_cst : Ref sig .tc := ⟨.hbm, 253, rfl⟩
abbrev main_cst_2 : Ref sig .tc := ⟨.hbm, 254, rfl⟩
abbrev main_v12 : Ref sig .tc := ⟨.hbm, 255, rfl⟩
abbrev main_cst_3 : Ref sig .tc := ⟨.hbm, 256, rfl⟩
abbrev main_v13 : Ref sig .tc := ⟨.hbm, 257, rfl⟩
abbrev main_v14 : Ref sig .tc := ⟨.hbm, 258, rfl⟩
abbrev main_v15 : Ref sig .tc := ⟨.hbm, 259, rfl⟩
abbrev main_v16 : Ref sig .tc := ⟨.hbm, 260, rfl⟩
abbrev main_call1_cst : Ref sig .tc := ⟨.hbm, 261, rfl⟩
abbrev main_call1_cst_0 : Ref sig .tc := ⟨.hbm, 262, rfl⟩
abbrev main_call1_call0_v0 : Ref sig .tc := ⟨.hbm, 263, rfl⟩
abbrev main_call1_call0_v1 : Ref sig .tc := ⟨.hbm, 264, rfl⟩
abbrev main_call1_call0_v2 : Ref sig .tc := ⟨.hbm, 265, rfl⟩
abbrev main_call1_call0_v3 : Ref sig .tc := ⟨.hbm, 266, rfl⟩
abbrev main_call1_call0_v4 : Ref sig .tc := ⟨.hbm, 267, rfl⟩
abbrev main_call1_call0_v5 : Ref sig .tc := ⟨.hbm, 268, rfl⟩
abbrev main_call1_call0_v6 : Ref sig .tc := ⟨.hbm, 269, rfl⟩
abbrev main_call1_call0_v7 : Ref sig .tc := ⟨.hbm, 270, rfl⟩
abbrev main_call1_call0_v8 : Ref sig .tc := ⟨.hbm, 271, rfl⟩
abbrev main_call1_call0_v9 : Ref sig .tc := ⟨.hbm, 272, rfl⟩
abbrev main_call1_call0_c : Ref sig .tc := ⟨.hbm, 273, rfl⟩
abbrev main_call1_call0_v10 : Ref sig .tc := ⟨.hbm, 274, rfl⟩
abbrev main_call1_call0_v11 : Ref sig .tc := ⟨.hbm, 275, rfl⟩
abbrev main_call1_call0_c_0 : Ref sig .tc := ⟨.hbm, 276, rfl⟩
abbrev main_call1_call0_v12 : Ref sig .tc := ⟨.hbm, 277, rfl⟩
abbrev main_call1_call0_v13 : Ref sig .tc := ⟨.hbm, 278, rfl⟩
abbrev main_call1_call0_c_1 : Ref sig .tc := ⟨.hbm, 279, rfl⟩
abbrev main_call1_call0_v14 : Ref sig .tc := ⟨.hbm, 280, rfl⟩
abbrev main_call1_call0_v15 : Ref sig .tc := ⟨.hbm, 281, rfl⟩
abbrev main_call1_call0_v16 : Ref sig .tc := ⟨.hbm, 282, rfl⟩
abbrev main_call1_call0_v17 : Ref sig .tc := ⟨.hbm, 283, rfl⟩
abbrev main_call1_call0_c_2 : Ref sig .tc := ⟨.hbm, 284, rfl⟩
abbrev main_call1_call0_v18 : Ref sig .tc := ⟨.hbm, 285, rfl⟩
abbrev main_call1_call0_v19 : Ref sig .tc := ⟨.hbm, 286, rfl⟩
abbrev main_call1_call0_v20 : Ref sig .tc := ⟨.hbm, 287, rfl⟩
abbrev main_call1_call0_v21 : Ref sig .tc := ⟨.hbm, 288, rfl⟩
abbrev main_call1_call0_call0_v0 : Ref sig .tc := ⟨.hbm, 289, rfl⟩
abbrev main_call1_call0_call0_c : Ref sig .tc := ⟨.hbm, 290, rfl⟩
abbrev main_call1_call0_call0_v1 : Ref sig .tc := ⟨.hbm, 291, rfl⟩
abbrev main_call1_call0_call0_v2 : Ref sig .tc := ⟨.hbm, 292, rfl⟩
abbrev main_call1_call0_call0_v3 : Ref sig .tc := ⟨.hbm, 293, rfl⟩
abbrev main_call1_call0_call0_v4 : Ref sig .tc := ⟨.hbm, 294, rfl⟩
abbrev main_call1_call0_call0_v5 : Ref sig .tc := ⟨.hbm, 295, rfl⟩
abbrev main_call1_call0_call0_v6 : Ref sig .tc := ⟨.hbm, 296, rfl⟩
abbrev main_call1_call0_call0_c_0 : Ref sig .tc := ⟨.hbm, 297, rfl⟩
abbrev main_call1_call0_call0_v7 : Ref sig .tc := ⟨.hbm, 298, rfl⟩
abbrev main_call1_call0_call0_v8 : Ref sig .tc := ⟨.hbm, 299, rfl⟩
abbrev main_call1_call0_call0_c_1 : Ref sig .tc := ⟨.hbm, 300, rfl⟩
abbrev main_call1_call0_call0_v9 : Ref sig .tc := ⟨.hbm, 301, rfl⟩
abbrev main_call1_call0_call0_v10 : Ref sig .tc := ⟨.hbm, 302, rfl⟩
abbrev main_call1_call0_call0_v11 : Ref sig .tc := ⟨.hbm, 303, rfl⟩
abbrev main_call1_call0_call0_v12 : Ref sig .tc := ⟨.hbm, 304, rfl⟩
abbrev main_call1_call0_call0_v13 : Ref sig .tc := ⟨.hbm, 305, rfl⟩
abbrev main_call1_call0_call0_c_2 : Ref sig .tc := ⟨.hbm, 306, rfl⟩
abbrev main_call1_call0_call0_v14 : Ref sig .tc := ⟨.hbm, 307, rfl⟩
abbrev main_call1_call0_call0_v15 : Ref sig .tc := ⟨.hbm, 308, rfl⟩
abbrev main_call1_call0_call0_c_3 : Ref sig .tc := ⟨.hbm, 309, rfl⟩
abbrev main_call1_call0_call0_v16 : Ref sig .tc := ⟨.hbm, 310, rfl⟩
abbrev main_call1_call0_call0_v17 : Ref sig .tc := ⟨.hbm, 311, rfl⟩
abbrev main_call1_call0_call0_v18 : Ref sig .tc := ⟨.hbm, 312, rfl⟩
abbrev main_call1_call0_call0_v19 : Ref sig .tc := ⟨.hbm, 313, rfl⟩
abbrev main_call1_call0_call0_v20 : Ref sig .tc := ⟨.hbm, 314, rfl⟩
abbrev main_call1_call0_call0_c_4 : Ref sig .tc := ⟨.hbm, 315, rfl⟩
abbrev main_call1_call0_call0_v21 : Ref sig .tc := ⟨.hbm, 316, rfl⟩
abbrev main_call1_call0_call0_v22 : Ref sig .tc := ⟨.hbm, 317, rfl⟩
abbrev main_call1_call0_call0_c_5 : Ref sig .tc := ⟨.hbm, 318, rfl⟩
abbrev main_call1_call0_call0_v23 : Ref sig .tc := ⟨.hbm, 319, rfl⟩
abbrev main_call1_call0_call0_v24 : Ref sig .tc := ⟨.hbm, 320, rfl⟩
abbrev main_call1_call0_call0_v25 : Ref sig .tc := ⟨.hbm, 321, rfl⟩
abbrev main_call1_call0_call0_v26 : Ref sig .tc := ⟨.hbm, 322, rfl⟩
abbrev main_call1_call0_call0_v27 : Ref sig .tc := ⟨.hbm, 323, rfl⟩
abbrev main_call1_call0_call0_c_6 : Ref sig .tc := ⟨.hbm, 324, rfl⟩
abbrev main_call1_call0_call0_v28 : Ref sig .tc := ⟨.hbm, 325, rfl⟩
abbrev main_call1_call0_call0_v29 : Ref sig .tc := ⟨.hbm, 326, rfl⟩
abbrev main_call1_call0_call0_c_7 : Ref sig .tc := ⟨.hbm, 327, rfl⟩
abbrev main_call1_call0_call0_v30 : Ref sig .tc := ⟨.hbm, 328, rfl⟩
abbrev main_call1_call0_call0_v31 : Ref sig .tc := ⟨.hbm, 329, rfl⟩
abbrev main_call1_call0_call0_v32 : Ref sig .tc := ⟨.hbm, 330, rfl⟩
abbrev main_call1_call0_call0_v33 : Ref sig .tc := ⟨.hbm, 331, rfl⟩
abbrev main_call1_call0_call0_v34 : Ref sig .tc := ⟨.hbm, 332, rfl⟩
abbrev main_call1_call0_call0_v35 : Ref sig .tc := ⟨.hbm, 333, rfl⟩
abbrev main_call1_call0_call0_v36 : Ref sig .tc := ⟨.hbm, 334, rfl⟩
abbrev main_call1_call0_call0_v37 : Ref sig .tc := ⟨.hbm, 335, rfl⟩
abbrev main_call1_call0_call0_c_8 : Ref sig .tc := ⟨.hbm, 336, rfl⟩
abbrev main_call1_call0_call0_v38 : Ref sig .tc := ⟨.hbm, 337, rfl⟩
abbrev main_call1_call0_call0_v39 : Ref sig .tc := ⟨.hbm, 338, rfl⟩
abbrev main_call1_call0_call0_v40 : Ref sig .tc := ⟨.hbm, 339, rfl⟩
abbrev main_call1_call0_call0_c_9 : Ref sig .tc := ⟨.hbm, 340, rfl⟩
abbrev main_call1_call0_call0_v41 : Ref sig .tc := ⟨.hbm, 341, rfl⟩
abbrev main_call1_call0_call0_v42 : Ref sig .tc := ⟨.hbm, 342, rfl⟩
abbrev main_call1_call0_call0_c_10 : Ref sig .tc := ⟨.hbm, 343, rfl⟩
abbrev main_call1_call0_call0_v43 : Ref sig .tc := ⟨.hbm, 344, rfl⟩
abbrev main_call1_call0_call0_v44 : Ref sig .tc := ⟨.hbm, 345, rfl⟩
abbrev main_call1_call0_call0_v45 : Ref sig .tc := ⟨.hbm, 346, rfl⟩
abbrev main_call1_call0_call0_v46 : Ref sig .tc := ⟨.hbm, 347, rfl⟩
abbrev main_call1_call0_call0_v47 : Ref sig .tc := ⟨.hbm, 348, rfl⟩
abbrev main_call1_call0_call0_c_11 : Ref sig .tc := ⟨.hbm, 349, rfl⟩
abbrev main_call1_call0_call0_v48 : Ref sig .tc := ⟨.hbm, 350, rfl⟩
abbrev main_call1_call0_call0_v49 : Ref sig .tc := ⟨.hbm, 351, rfl⟩
abbrev main_call1_call0_call0_c_12 : Ref sig .tc := ⟨.hbm, 352, rfl⟩
abbrev main_call1_call0_call0_v50 : Ref sig .tc := ⟨.hbm, 353, rfl⟩
abbrev main_call1_call0_call0_v51 : Ref sig .tc := ⟨.hbm, 354, rfl⟩
abbrev main_call1_call0_call0_v52 : Ref sig .tc := ⟨.hbm, 355, rfl⟩
abbrev main_call1_call0_call0_v53 : Ref sig .tc := ⟨.hbm, 356, rfl⟩
abbrev main_call1_call0_call0_v54 : Ref sig .tc := ⟨.hbm, 357, rfl⟩
abbrev main_call1_call0_call0_c_13 : Ref sig .tc := ⟨.hbm, 358, rfl⟩
abbrev main_call1_call0_call0_v55 : Ref sig .tc := ⟨.hbm, 359, rfl⟩
abbrev main_call1_call0_call0_v56 : Ref sig .tc := ⟨.hbm, 360, rfl⟩
abbrev main_call1_call0_call0_c_14 : Ref sig .tc := ⟨.hbm, 361, rfl⟩
abbrev main_call1_call0_call0_v57 : Ref sig .tc := ⟨.hbm, 362, rfl⟩
abbrev main_call1_call0_call0_v58 : Ref sig .tc := ⟨.hbm, 363, rfl⟩
abbrev main_call1_call0_call0_v59 : Ref sig .tc := ⟨.hbm, 364, rfl⟩
abbrev main_call1_call0_call0_v60 : Ref sig .tc := ⟨.hbm, 365, rfl⟩
abbrev main_call1_call0_call0_v61 : Ref sig .tc := ⟨.hbm, 366, rfl⟩
abbrev main_call1_call0_call0_c_15 : Ref sig .tc := ⟨.hbm, 367, rfl⟩
abbrev main_call1_call0_call0_v62 : Ref sig .tc := ⟨.hbm, 368, rfl⟩
abbrev main_call1_call0_call0_v63 : Ref sig .tc := ⟨.hbm, 369, rfl⟩
abbrev main_call1_call0_call0_c_16 : Ref sig .tc := ⟨.hbm, 370, rfl⟩
abbrev main_call1_call0_call0_v64 : Ref sig .tc := ⟨.hbm, 371, rfl⟩
abbrev main_call1_call0_call0_v65 : Ref sig .tc := ⟨.hbm, 372, rfl⟩
abbrev main_call1_call0_call0_v66 : Ref sig .tc := ⟨.hbm, 373, rfl⟩
abbrev main_call1_call0_call0_v67 : Ref sig .tc := ⟨.hbm, 374, rfl⟩
abbrev main_call1_call0_call0_v68 : Ref sig .tc := ⟨.hbm, 375, rfl⟩
abbrev main_call1_call0_call0_v69 : Ref sig .tc := ⟨.hbm, 376, rfl⟩
abbrev main_call1_call0_call0_v70 : Ref sig .tc := ⟨.hbm, 377, rfl⟩
abbrev main_call1_call0_call0_v71 : Ref sig .tc := ⟨.hbm, 378, rfl⟩
abbrev main_call1_call0_call0_c_17 : Ref sig .tc := ⟨.hbm, 379, rfl⟩
abbrev main_call1_call0_call0_v72 : Ref sig .tc := ⟨.hbm, 380, rfl⟩
abbrev main_call1_call0_call0_v73 : Ref sig .tc := ⟨.hbm, 381, rfl⟩
abbrev main_call1_call0_call0_v74 : Ref sig .tc := ⟨.hbm, 382, rfl⟩
abbrev main_call1_call0_call0_c_18 : Ref sig .tc := ⟨.hbm, 383, rfl⟩
abbrev main_call1_call0_call0_v75 : Ref sig .tc := ⟨.hbm, 384, rfl⟩
abbrev main_call1_call0_call0_v76 : Ref sig .tc := ⟨.hbm, 385, rfl⟩
abbrev main_call1_call0_call0_c_19 : Ref sig .tc := ⟨.hbm, 386, rfl⟩
abbrev main_call1_call0_call0_v77 : Ref sig .tc := ⟨.hbm, 387, rfl⟩
abbrev main_call1_call0_call0_v78 : Ref sig .tc := ⟨.hbm, 388, rfl⟩
abbrev main_call1_call0_call0_v79 : Ref sig .tc := ⟨.hbm, 389, rfl⟩
abbrev main_call1_call0_call0_v80 : Ref sig .tc := ⟨.hbm, 390, rfl⟩
abbrev main_call1_call0_call0_v81 : Ref sig .tc := ⟨.hbm, 391, rfl⟩
abbrev main_call1_call0_call0_c_20 : Ref sig .tc := ⟨.hbm, 392, rfl⟩
abbrev main_call1_call0_call0_v82 : Ref sig .tc := ⟨.hbm, 393, rfl⟩
abbrev main_call1_call0_call0_v83 : Ref sig .tc := ⟨.hbm, 394, rfl⟩
abbrev main_call1_call0_call0_c_21 : Ref sig .tc := ⟨.hbm, 395, rfl⟩
abbrev main_call1_call0_call0_v84 : Ref sig .tc := ⟨.hbm, 396, rfl⟩
abbrev main_call1_call0_call0_v85 : Ref sig .tc := ⟨.hbm, 397, rfl⟩
abbrev main_call1_call0_call0_v86 : Ref sig .tc := ⟨.hbm, 398, rfl⟩
abbrev main_call1_call0_call0_v87 : Ref sig .tc := ⟨.hbm, 399, rfl⟩
abbrev main_call1_call0_call0_v88 : Ref sig .tc := ⟨.hbm, 400, rfl⟩
abbrev main_call1_call0_call0_c_22 : Ref sig .tc := ⟨.hbm, 401, rfl⟩
abbrev main_call1_call0_call0_v89 : Ref sig .tc := ⟨.hbm, 402, rfl⟩
abbrev main_call1_call0_call0_v90 : Ref sig .tc := ⟨.hbm, 403, rfl⟩
abbrev main_call1_call0_call0_c_23 : Ref sig .tc := ⟨.hbm, 404, rfl⟩
abbrev main_call1_call0_call0_v91 : Ref sig .tc := ⟨.hbm, 405, rfl⟩
abbrev main_call1_call0_call0_v92 : Ref sig .tc := ⟨.hbm, 406, rfl⟩
abbrev main_call1_call0_call0_v93 : Ref sig .tc := ⟨.hbm, 407, rfl⟩
abbrev main_call1_call0_call0_v94 : Ref sig .tc := ⟨.hbm, 408, rfl⟩
abbrev main_call1_call0_call0_v95 : Ref sig .tc := ⟨.hbm, 409, rfl⟩
abbrev main_call1_call0_call0_c_24 : Ref sig .tc := ⟨.hbm, 410, rfl⟩
abbrev main_call1_call0_call0_v96 : Ref sig .tc := ⟨.hbm, 411, rfl⟩
abbrev main_call1_call0_call0_v97 : Ref sig .tc := ⟨.hbm, 412, rfl⟩
abbrev main_call1_call0_call0_c_25 : Ref sig .tc := ⟨.hbm, 413, rfl⟩
abbrev main_call1_call0_call0_v98 : Ref sig .tc := ⟨.hbm, 414, rfl⟩
abbrev main_call1_call0_call0_v99 : Ref sig .tc := ⟨.hbm, 415, rfl⟩
abbrev main_call1_call0_call0_v100 : Ref sig .tc := ⟨.hbm, 416, rfl⟩
abbrev main_call1_call0_call0_v101 : Ref sig .tc := ⟨.hbm, 417, rfl⟩
abbrev main_call1_call0_call0_v102 : Ref sig .tc := ⟨.hbm, 418, rfl⟩
abbrev main_call1_call0_call0_v103 : Ref sig .tc := ⟨.hbm, 419, rfl⟩
abbrev main_call1_call0_call0_v104 : Ref sig .tc := ⟨.hbm, 420, rfl⟩
abbrev main_call1_call0_call0_v105 : Ref sig .tc := ⟨.hbm, 421, rfl⟩
abbrev main_call1_call0_call0_c_26 : Ref sig .tc := ⟨.hbm, 422, rfl⟩
abbrev main_call1_call0_call0_v106 : Ref sig .tc := ⟨.hbm, 423, rfl⟩
abbrev main_call1_call0_call0_v107 : Ref sig .tc := ⟨.hbm, 424, rfl⟩
abbrev main_call1_call0_call0_v108 : Ref sig .tc := ⟨.hbm, 425, rfl⟩
abbrev main_call1_call0_call0_c_27 : Ref sig .tc := ⟨.hbm, 426, rfl⟩
abbrev main_call1_call0_call0_v109 : Ref sig .tc := ⟨.hbm, 427, rfl⟩
abbrev main_call1_call0_call0_v110 : Ref sig .tc := ⟨.hbm, 428, rfl⟩
abbrev main_call1_call0_call0_c_28 : Ref sig .tc := ⟨.hbm, 429, rfl⟩
abbrev main_call1_call0_call0_v111 : Ref sig .tc := ⟨.hbm, 430, rfl⟩
abbrev main_call1_call0_call0_v112 : Ref sig .tc := ⟨.hbm, 431, rfl⟩
abbrev main_call1_call0_call0_v113 : Ref sig .tc := ⟨.hbm, 432, rfl⟩
abbrev main_call1_call0_call0_v114 : Ref sig .tc := ⟨.hbm, 433, rfl⟩
abbrev main_call1_call0_call0_v115 : Ref sig .tc := ⟨.hbm, 434, rfl⟩
abbrev main_call1_call0_call0_c_29 : Ref sig .tc := ⟨.hbm, 435, rfl⟩
abbrev main_call1_call0_call0_v116 : Ref sig .tc := ⟨.hbm, 436, rfl⟩
abbrev main_call1_call0_call0_v117 : Ref sig .tc := ⟨.hbm, 437, rfl⟩
abbrev main_call1_call0_call0_c_30 : Ref sig .tc := ⟨.hbm, 438, rfl⟩
abbrev main_call1_call0_call0_v118 : Ref sig .tc := ⟨.hbm, 439, rfl⟩
abbrev main_call1_call0_call0_v119 : Ref sig .tc := ⟨.hbm, 440, rfl⟩
abbrev main_call1_call0_call0_v120 : Ref sig .tc := ⟨.hbm, 441, rfl⟩
abbrev main_call1_call0_call0_v121 : Ref sig .tc := ⟨.hbm, 442, rfl⟩
abbrev main_call1_call0_call0_v122 : Ref sig .tc := ⟨.hbm, 443, rfl⟩
abbrev main_call1_call0_call0_c_31 : Ref sig .tc := ⟨.hbm, 444, rfl⟩
abbrev main_call1_call0_call0_v123 : Ref sig .tc := ⟨.hbm, 445, rfl⟩
abbrev main_call1_call0_call0_v124 : Ref sig .tc := ⟨.hbm, 446, rfl⟩
abbrev main_call1_call0_call0_c_32 : Ref sig .tc := ⟨.hbm, 447, rfl⟩
abbrev main_call1_call0_call0_v125 : Ref sig .tc := ⟨.hbm, 448, rfl⟩
abbrev main_call1_call0_call0_v126 : Ref sig .tc := ⟨.hbm, 449, rfl⟩
abbrev main_call1_call0_call0_v127 : Ref sig .tc := ⟨.hbm, 450, rfl⟩
abbrev main_call1_call0_call0_v128 : Ref sig .tc := ⟨.hbm, 451, rfl⟩
abbrev main_call1_call0_call0_v129 : Ref sig .tc := ⟨.hbm, 452, rfl⟩
abbrev main_call1_call0_call0_c_33 : Ref sig .tc := ⟨.hbm, 453, rfl⟩
abbrev main_call1_call0_call0_v130 : Ref sig .tc := ⟨.hbm, 454, rfl⟩
abbrev main_call1_call0_call0_v131 : Ref sig .tc := ⟨.hbm, 455, rfl⟩
abbrev main_call1_call0_call0_c_34 : Ref sig .tc := ⟨.hbm, 456, rfl⟩
abbrev main_call1_call0_call0_v132 : Ref sig .tc := ⟨.hbm, 457, rfl⟩
abbrev main_call1_call0_call0_v133 : Ref sig .tc := ⟨.hbm, 458, rfl⟩
abbrev main_call1_call0_call0_v134 : Ref sig .tc := ⟨.hbm, 459, rfl⟩
abbrev main_call1_call0_call0_v135 : Ref sig .tc := ⟨.hbm, 460, rfl⟩
abbrev main_call1_call0_call0_v136 : Ref sig .tc := ⟨.hbm, 461, rfl⟩
abbrev main_call1_call0_call0_v137 : Ref sig .tc := ⟨.hbm, 462, rfl⟩
abbrev main_call1_call0_call0_v138 : Ref sig .tc := ⟨.hbm, 463, rfl⟩
abbrev main_call1_call0_call0_v139 : Ref sig .tc := ⟨.hbm, 464, rfl⟩
abbrev main_call1_call0_call0_c_35 : Ref sig .tc := ⟨.hbm, 465, rfl⟩
abbrev main_call1_call0_call0_v140 : Ref sig .tc := ⟨.hbm, 466, rfl⟩
abbrev main_call1_call0_call0_v141 : Ref sig .tc := ⟨.hbm, 467, rfl⟩
abbrev main_call1_call0_call0_v142 : Ref sig .tc := ⟨.hbm, 468, rfl⟩
abbrev main_call1_call0_call0_c_36 : Ref sig .tc := ⟨.hbm, 469, rfl⟩
abbrev main_call1_call0_call0_v143 : Ref sig .tc := ⟨.hbm, 470, rfl⟩
abbrev main_call1_call0_call0_v144 : Ref sig .tc := ⟨.hbm, 471, rfl⟩
abbrev main_call1_call0_call0_c_37 : Ref sig .tc := ⟨.hbm, 472, rfl⟩
abbrev main_call1_call0_call0_v145 : Ref sig .tc := ⟨.hbm, 473, rfl⟩
abbrev main_call1_call0_call0_v146 : Ref sig .tc := ⟨.hbm, 474, rfl⟩
abbrev main_call1_call0_call0_v147 : Ref sig .tc := ⟨.hbm, 475, rfl⟩
abbrev main_call1_call0_call0_v148 : Ref sig .tc := ⟨.hbm, 476, rfl⟩
abbrev main_call1_call0_call0_v149 : Ref sig .tc := ⟨.hbm, 477, rfl⟩
abbrev main_call1_call0_call0_c_38 : Ref sig .tc := ⟨.hbm, 478, rfl⟩
abbrev main_call1_call0_call0_v150 : Ref sig .tc := ⟨.hbm, 479, rfl⟩
abbrev main_call1_call0_call0_v151 : Ref sig .tc := ⟨.hbm, 480, rfl⟩
abbrev main_call1_call0_call0_c_39 : Ref sig .tc := ⟨.hbm, 481, rfl⟩
abbrev main_call1_call0_call0_v152 : Ref sig .tc := ⟨.hbm, 482, rfl⟩
abbrev main_call1_call0_call0_v153 : Ref sig .tc := ⟨.hbm, 483, rfl⟩
abbrev main_call1_call0_call0_v154 : Ref sig .tc := ⟨.hbm, 484, rfl⟩
abbrev main_call1_call0_call0_v155 : Ref sig .tc := ⟨.hbm, 485, rfl⟩
abbrev main_call1_call0_call0_v156 : Ref sig .tc := ⟨.hbm, 486, rfl⟩
abbrev main_call1_call0_call0_c_40 : Ref sig .tc := ⟨.hbm, 487, rfl⟩
abbrev main_call1_call0_call0_v157 : Ref sig .tc := ⟨.hbm, 488, rfl⟩
abbrev main_call1_call0_call0_v158 : Ref sig .tc := ⟨.hbm, 489, rfl⟩
abbrev main_call1_call0_call0_c_41 : Ref sig .tc := ⟨.hbm, 490, rfl⟩
abbrev main_call1_call0_call0_v159 : Ref sig .tc := ⟨.hbm, 491, rfl⟩
abbrev main_call1_call0_call0_v160 : Ref sig .tc := ⟨.hbm, 492, rfl⟩
abbrev main_call1_call0_call0_v161 : Ref sig .tc := ⟨.hbm, 493, rfl⟩
abbrev main_call1_call0_call0_v162 : Ref sig .tc := ⟨.hbm, 494, rfl⟩
abbrev main_call1_call0_call0_v163 : Ref sig .tc := ⟨.hbm, 495, rfl⟩
abbrev main_call1_call0_call0_c_42 : Ref sig .tc := ⟨.hbm, 496, rfl⟩
abbrev main_call1_call0_call0_v164 : Ref sig .tc := ⟨.hbm, 497, rfl⟩
abbrev main_call1_call0_call0_v165 : Ref sig .tc := ⟨.hbm, 498, rfl⟩
abbrev main_call1_call0_call0_c_43 : Ref sig .tc := ⟨.hbm, 499, rfl⟩
abbrev main_call1_call0_call0_v166 : Ref sig .tc := ⟨.hbm, 500, rfl⟩
abbrev main_call1_call0_call0_v167 : Ref sig .tc := ⟨.hbm, 501, rfl⟩
abbrev main_call1_call0_call0_v168 : Ref sig .tc := ⟨.hbm, 502, rfl⟩
abbrev main_call1_call0_call0_v169 : Ref sig .tc := ⟨.hbm, 503, rfl⟩
abbrev main_call1_call0_call0_v170 : Ref sig .tc := ⟨.hbm, 504, rfl⟩
abbrev main_call1_call0_v22_0 : Ref sig .tc := ⟨.hbm, 505, rfl⟩
abbrev main_call1_call0_call0_v172 : Ref sig .tc := ⟨.hbm, 506, rfl⟩
abbrev main_call1_call0_call0_v173 : Ref sig .tc := ⟨.hbm, 507, rfl⟩
abbrev main_call1_call0_call0_c_44 : Ref sig .tc := ⟨.hbm, 508, rfl⟩
abbrev main_call1_call0_call0_v174 : Ref sig .tc := ⟨.hbm, 509, rfl⟩
abbrev main_call1_call0_v22_1 : Ref sig .tc := ⟨.hbm, 510, rfl⟩
abbrev main_call1_call0_v23 : Ref sig .tc := ⟨.hbm, 511, rfl⟩
abbrev main_call1_call0_c_3 : Ref sig .tc := ⟨.hbm, 512, rfl⟩
abbrev main_call1_call0_v24 : Ref sig .tc := ⟨.hbm, 513, rfl⟩
abbrev main_call1_call0_v25 : Ref sig .tc := ⟨.hbm, 514, rfl⟩
abbrev main_call1_call0_c_4 : Ref sig .tc := ⟨.hbm, 515, rfl⟩
abbrev main_call1_call0_v26 : Ref sig .tc := ⟨.hbm, 516, rfl⟩
abbrev main_call1_call0_v27 : Ref sig .tc := ⟨.hbm, 517, rfl⟩
abbrev main_call1_call0_v28 : Ref sig .tc := ⟨.hbm, 518, rfl⟩
abbrev main_call1_call0_cst : Ref sig .tc := ⟨.hbm, 519, rfl⟩
abbrev main_call1_call0_v29 : Ref sig .tc := ⟨.hbm, 520, rfl⟩
abbrev main_call1_call0_v30 : Ref sig .tc := ⟨.hbm, 521, rfl⟩
abbrev main_call1_call0_v31 : Ref sig .tc := ⟨.hbm, 522, rfl⟩
abbrev main_call1_call0_v32 : Ref sig .tc := ⟨.hbm, 523, rfl⟩
abbrev main_call1_call0_v33 : Ref sig .tc := ⟨.hbm, 524, rfl⟩
abbrev main_call1_call0_v34 : Ref sig .tc := ⟨.hbm, 525, rfl⟩
abbrev main_call1_call0_v35 : Ref sig .tc := ⟨.hbm, 526, rfl⟩
abbrev main_call1_call0_v36 : Ref sig .tc := ⟨.hbm, 527, rfl⟩
abbrev main_call1_v0 : Ref sig .tc := ⟨.hbm, 528, rfl⟩
abbrev main_call1_v1 : Ref sig .tc := ⟨.hbm, 529, rfl⟩
abbrev main_call1_v2 : Ref sig .tc := ⟨.hbm, 530, rfl⟩
abbrev main_call1_v3 : Ref sig .tc := ⟨.hbm, 531, rfl⟩
abbrev main_v17 : Ref sig .tc := ⟨.hbm, 532, rfl⟩
abbrev main_v18 : Ref sig .tc := ⟨.hbm, 533, rfl⟩
abbrev main_v19 : Ref sig .tc := ⟨.hbm, 534, rfl⟩
abbrev main_v20 : Ref sig .tc := ⟨.hbm, 535, rfl⟩
abbrev main_call2_v0 : Ref sig .tc := ⟨.hbm, 536, rfl⟩
abbrev main_call2_cst : Ref sig .tc := ⟨.hbm, 537, rfl⟩
abbrev main_call2_c : Ref sig .tc := ⟨.hbm, 538, rfl⟩
abbrev main_call2_v1_0 : Ref sig .tc := ⟨.hbm, 539, rfl⟩
abbrev main_v21 : Ref sig .tc := ⟨.hbm, 540, rfl⟩
abbrev main_c_4 : Ref sig .tc := ⟨.hbm, 541, rfl⟩
abbrev main_v22 : Ref sig .tc := ⟨.hbm, 542, rfl⟩
abbrev main_v23 : Ref sig .tc := ⟨.hbm, 543, rfl⟩
abbrev main_v24 : Ref sig .tc := ⟨.hbm, 544, rfl⟩
abbrev main_c_5 : Ref sig .tc := ⟨.hbm, 545, rfl⟩
abbrev main_c_6 : Ref sig .tc := ⟨.hbm, 546, rfl⟩
abbrev main_call3_c : Ref sig .tc := ⟨.hbm, 547, rfl⟩
abbrev main_call3_c_0 : Ref sig .tc := ⟨.hbm, 548, rfl⟩
abbrev main_call3_c_1 : Ref sig .tc := ⟨.hbm, 549, rfl⟩
abbrev main_call3_call0_v0 : Ref sig .tc := ⟨.hbm, 550, rfl⟩
abbrev main_call3_v0 : Ref sig .tc := ⟨.hbm, 551, rfl⟩
abbrev main_call3_v1 : Ref sig .tc := ⟨.hbm, 552, rfl⟩
abbrev main_call3_c_2 : Ref sig .tc := ⟨.hbm, 553, rfl⟩
abbrev main_call3_c_3 : Ref sig .tc := ⟨.hbm, 554, rfl⟩
abbrev main_call3_call1_v0 : Ref sig .tc := ⟨.hbm, 555, rfl⟩
abbrev main_call3_v2 : Ref sig .tc := ⟨.hbm, 556, rfl⟩
abbrev main_call3_v3 : Ref sig .tc := ⟨.hbm, 557, rfl⟩
abbrev main_call3_c_4 : Ref sig .tc := ⟨.hbm, 558, rfl⟩
abbrev main_call3_c_5 : Ref sig .tc := ⟨.hbm, 559, rfl⟩
abbrev main_call3_call2_v0 : Ref sig .tc := ⟨.hbm, 560, rfl⟩
abbrev main_call3_v4 : Ref sig .tc := ⟨.hbm, 561, rfl⟩
abbrev main_call3_v5 : Ref sig .tc := ⟨.hbm, 562, rfl⟩
abbrev main_call3_v6 : Ref sig .tc := ⟨.hbm, 563, rfl⟩
abbrev main_call3_v7 : Ref sig .tc := ⟨.hbm, 564, rfl⟩
abbrev main_call3_call3_v0 : Ref sig .tc := ⟨.hbm, 565, rfl⟩
abbrev main_call3_call3_v1 : Ref sig .tc := ⟨.hbm, 566, rfl⟩
abbrev main_call3_call3_v2 : Ref sig .tc := ⟨.hbm, 567, rfl⟩
abbrev main_call3_call3_v3 : Ref sig .tc := ⟨.hbm, 568, rfl⟩
abbrev main_call3_call3_v4 : Ref sig .tc := ⟨.hbm, 569, rfl⟩
abbrev main_call3_call3_c : Ref sig .tc := ⟨.hbm, 570, rfl⟩
abbrev main_call3_call3_v5 : Ref sig .tc := ⟨.hbm, 571, rfl⟩
abbrev main_call3_call3_v6 : Ref sig .tc := ⟨.hbm, 572, rfl⟩
abbrev main_call3_call3_c_0 : Ref sig .tc := ⟨.hbm, 573, rfl⟩
abbrev main_call3_call3_v7 : Ref sig .tc := ⟨.hbm, 574, rfl⟩
abbrev main_call3_call3_v8 : Ref sig .tc := ⟨.hbm, 575, rfl⟩
abbrev main_call3_call3_v9 : Ref sig .tc := ⟨.hbm, 576, rfl⟩
abbrev main_call3_call3_v10 : Ref sig .tc := ⟨.hbm, 577, rfl⟩
abbrev main_call3_call3_call0_v0 : Ref sig .tc := ⟨.hbm, 578, rfl⟩
abbrev main_call3_call3_call0_c : Ref sig .tc := ⟨.hbm, 579, rfl⟩
abbrev main_call3_call3_call0_v1 : Ref sig .tc := ⟨.hbm, 580, rfl⟩
abbrev main_call3_call3_call0_v2 : Ref sig .tc := ⟨.hbm, 581, rfl⟩
abbrev main_call3_call3_call0_v3 : Ref sig .tc := ⟨.hbm, 582, rfl⟩
abbrev main_call3_call3_call0_v4 : Ref sig .tc := ⟨.hbm, 583, rfl⟩
abbrev main_call3_call3_call0_v5 : Ref sig .tc := ⟨.hbm, 584, rfl⟩
abbrev main_call3_call3_call0_v6 : Ref sig .tc := ⟨.hbm, 585, rfl⟩
abbrev main_call3_call3_call0_c_0 : Ref sig .tc := ⟨.hbm, 586, rfl⟩
abbrev main_call3_call3_call0_v7 : Ref sig .tc := ⟨.hbm, 587, rfl⟩
abbrev main_call3_call3_call0_v8 : Ref sig .tc := ⟨.hbm, 588, rfl⟩
abbrev main_call3_call3_call0_c_1 : Ref sig .tc := ⟨.hbm, 589, rfl⟩
abbrev main_call3_call3_call0_v9 : Ref sig .tc := ⟨.hbm, 590, rfl⟩
abbrev main_call3_call3_call0_v10 : Ref sig .tc := ⟨.hbm, 591, rfl⟩
abbrev main_call3_call3_call0_v11 : Ref sig .tc := ⟨.hbm, 592, rfl⟩
abbrev main_call3_call3_call0_v12 : Ref sig .tc := ⟨.hbm, 593, rfl⟩
abbrev main_call3_call3_call0_v13 : Ref sig .tc := ⟨.hbm, 594, rfl⟩
abbrev main_call3_call3_call0_c_2 : Ref sig .tc := ⟨.hbm, 595, rfl⟩
abbrev main_call3_call3_call0_v14 : Ref sig .tc := ⟨.hbm, 596, rfl⟩
abbrev main_call3_call3_call0_v15 : Ref sig .tc := ⟨.hbm, 597, rfl⟩
abbrev main_call3_call3_call0_c_3 : Ref sig .tc := ⟨.hbm, 598, rfl⟩
abbrev main_call3_call3_call0_v16 : Ref sig .tc := ⟨.hbm, 599, rfl⟩
abbrev main_call3_call3_call0_v17 : Ref sig .tc := ⟨.hbm, 600, rfl⟩
abbrev main_call3_call3_call0_v18 : Ref sig .tc := ⟨.hbm, 601, rfl⟩
abbrev main_call3_call3_call0_v19 : Ref sig .tc := ⟨.hbm, 602, rfl⟩
abbrev main_call3_call3_call0_v20 : Ref sig .tc := ⟨.hbm, 603, rfl⟩
abbrev main_call3_call3_call0_c_4 : Ref sig .tc := ⟨.hbm, 604, rfl⟩
abbrev main_call3_call3_call0_v21 : Ref sig .tc := ⟨.hbm, 605, rfl⟩
abbrev main_call3_call3_call0_v22 : Ref sig .tc := ⟨.hbm, 606, rfl⟩
abbrev main_call3_call3_call0_c_5 : Ref sig .tc := ⟨.hbm, 607, rfl⟩
abbrev main_call3_call3_call0_v23 : Ref sig .tc := ⟨.hbm, 608, rfl⟩
abbrev main_call3_call3_call0_v24 : Ref sig .tc := ⟨.hbm, 609, rfl⟩
abbrev main_call3_call3_call0_v25 : Ref sig .tc := ⟨.hbm, 610, rfl⟩
abbrev main_call3_call3_call0_v26 : Ref sig .tc := ⟨.hbm, 611, rfl⟩
abbrev main_call3_call3_call0_v27 : Ref sig .tc := ⟨.hbm, 612, rfl⟩
abbrev main_call3_call3_call0_c_6 : Ref sig .tc := ⟨.hbm, 613, rfl⟩
abbrev main_call3_call3_call0_v28 : Ref sig .tc := ⟨.hbm, 614, rfl⟩
abbrev main_call3_call3_call0_v29 : Ref sig .tc := ⟨.hbm, 615, rfl⟩
abbrev main_call3_call3_call0_c_7 : Ref sig .tc := ⟨.hbm, 616, rfl⟩
abbrev main_call3_call3_call0_v30 : Ref sig .tc := ⟨.hbm, 617, rfl⟩
abbrev main_call3_call3_call0_v31 : Ref sig .tc := ⟨.hbm, 618, rfl⟩
abbrev main_call3_call3_call0_v32 : Ref sig .tc := ⟨.hbm, 619, rfl⟩
abbrev main_call3_call3_call0_v33 : Ref sig .tc := ⟨.hbm, 620, rfl⟩
abbrev main_call3_call3_call0_v34 : Ref sig .tc := ⟨.hbm, 621, rfl⟩
abbrev main_call3_call3_call0_v35 : Ref sig .tc := ⟨.hbm, 622, rfl⟩
abbrev main_call3_call3_call0_v36 : Ref sig .tc := ⟨.hbm, 623, rfl⟩
abbrev main_call3_call3_call0_v37 : Ref sig .tc := ⟨.hbm, 624, rfl⟩
abbrev main_call3_call3_call0_c_8 : Ref sig .tc := ⟨.hbm, 625, rfl⟩
abbrev main_call3_call3_call0_v38 : Ref sig .tc := ⟨.hbm, 626, rfl⟩
abbrev main_call3_call3_call0_v39 : Ref sig .tc := ⟨.hbm, 627, rfl⟩
abbrev main_call3_call3_call0_v40 : Ref sig .tc := ⟨.hbm, 628, rfl⟩
abbrev main_call3_call3_call0_c_9 : Ref sig .tc := ⟨.hbm, 629, rfl⟩
abbrev main_call3_call3_call0_v41 : Ref sig .tc := ⟨.hbm, 630, rfl⟩
abbrev main_call3_call3_call0_v42 : Ref sig .tc := ⟨.hbm, 631, rfl⟩
abbrev main_call3_call3_call0_c_10 : Ref sig .tc := ⟨.hbm, 632, rfl⟩
abbrev main_call3_call3_call0_v43 : Ref sig .tc := ⟨.hbm, 633, rfl⟩
abbrev main_call3_call3_call0_v44 : Ref sig .tc := ⟨.hbm, 634, rfl⟩
abbrev main_call3_call3_call0_v45 : Ref sig .tc := ⟨.hbm, 635, rfl⟩
abbrev main_call3_call3_call0_v46 : Ref sig .tc := ⟨.hbm, 636, rfl⟩
abbrev main_call3_call3_call0_v47 : Ref sig .tc := ⟨.hbm, 637, rfl⟩
abbrev main_call3_call3_call0_c_11 : Ref sig .tc := ⟨.hbm, 638, rfl⟩
abbrev main_call3_call3_call0_v48 : Ref sig .tc := ⟨.hbm, 639, rfl⟩
abbrev main_call3_call3_call0_v49 : Ref sig .tc := ⟨.hbm, 640, rfl⟩
abbrev main_call3_call3_call0_c_12 : Ref sig .tc := ⟨.hbm, 641, rfl⟩
abbrev main_call3_call3_call0_v50 : Ref sig .tc := ⟨.hbm, 642, rfl⟩
abbrev main_call3_call3_call0_v51 : Ref sig .tc := ⟨.hbm, 643, rfl⟩
abbrev main_call3_call3_call0_v52 : Ref sig .tc := ⟨.hbm, 644, rfl⟩
abbrev main_call3_call3_call0_v53 : Ref sig .tc := ⟨.hbm, 645, rfl⟩
abbrev main_call3_call3_call0_v54 : Ref sig .tc := ⟨.hbm, 646, rfl⟩
abbrev main_call3_call3_call0_c_13 : Ref sig .tc := ⟨.hbm, 647, rfl⟩
abbrev main_call3_call3_call0_v55 : Ref sig .tc := ⟨.hbm, 648, rfl⟩
abbrev main_call3_call3_call0_v56 : Ref sig .tc := ⟨.hbm, 649, rfl⟩
abbrev main_call3_call3_call0_c_14 : Ref sig .tc := ⟨.hbm, 650, rfl⟩
abbrev main_call3_call3_call0_v57 : Ref sig .tc := ⟨.hbm, 651, rfl⟩
abbrev main_call3_call3_call0_v58 : Ref sig .tc := ⟨.hbm, 652, rfl⟩
abbrev main_call3_call3_call0_v59 : Ref sig .tc := ⟨.hbm, 653, rfl⟩
abbrev main_call3_call3_call0_v60 : Ref sig .tc := ⟨.hbm, 654, rfl⟩
abbrev main_call3_call3_call0_v61 : Ref sig .tc := ⟨.hbm, 655, rfl⟩
abbrev main_call3_call3_call0_c_15 : Ref sig .tc := ⟨.hbm, 656, rfl⟩
abbrev main_call3_call3_call0_v62 : Ref sig .tc := ⟨.hbm, 657, rfl⟩
abbrev main_call3_call3_call0_v63 : Ref sig .tc := ⟨.hbm, 658, rfl⟩
abbrev main_call3_call3_call0_c_16 : Ref sig .tc := ⟨.hbm, 659, rfl⟩
abbrev main_call3_call3_call0_v64 : Ref sig .tc := ⟨.hbm, 660, rfl⟩
abbrev main_call3_call3_call0_v65 : Ref sig .tc := ⟨.hbm, 661, rfl⟩
abbrev main_call3_call3_call0_v66 : Ref sig .tc := ⟨.hbm, 662, rfl⟩
abbrev main_call3_call3_call0_v67 : Ref sig .tc := ⟨.hbm, 663, rfl⟩
abbrev main_call3_call3_call0_v68 : Ref sig .tc := ⟨.hbm, 664, rfl⟩
abbrev main_call3_call3_call0_v69 : Ref sig .tc := ⟨.hbm, 665, rfl⟩
abbrev main_call3_call3_call0_v70 : Ref sig .tc := ⟨.hbm, 666, rfl⟩
abbrev main_call3_call3_call0_v71 : Ref sig .tc := ⟨.hbm, 667, rfl⟩
abbrev main_call3_call3_call0_c_17 : Ref sig .tc := ⟨.hbm, 668, rfl⟩
abbrev main_call3_call3_call0_v72 : Ref sig .tc := ⟨.hbm, 669, rfl⟩
abbrev main_call3_call3_call0_v73 : Ref sig .tc := ⟨.hbm, 670, rfl⟩
abbrev main_call3_call3_call0_v74 : Ref sig .tc := ⟨.hbm, 671, rfl⟩
abbrev main_call3_call3_call0_c_18 : Ref sig .tc := ⟨.hbm, 672, rfl⟩
abbrev main_call3_call3_call0_v75 : Ref sig .tc := ⟨.hbm, 673, rfl⟩
abbrev main_call3_call3_call0_v76 : Ref sig .tc := ⟨.hbm, 674, rfl⟩
abbrev main_call3_call3_call0_c_19 : Ref sig .tc := ⟨.hbm, 675, rfl⟩
abbrev main_call3_call3_call0_v77 : Ref sig .tc := ⟨.hbm, 676, rfl⟩
abbrev main_call3_call3_call0_v78 : Ref sig .tc := ⟨.hbm, 677, rfl⟩
abbrev main_call3_call3_call0_v79 : Ref sig .tc := ⟨.hbm, 678, rfl⟩
abbrev main_call3_call3_call0_v80 : Ref sig .tc := ⟨.hbm, 679, rfl⟩
abbrev main_call3_call3_call0_v81 : Ref sig .tc := ⟨.hbm, 680, rfl⟩
abbrev main_call3_call3_call0_c_20 : Ref sig .tc := ⟨.hbm, 681, rfl⟩
abbrev main_call3_call3_call0_v82 : Ref sig .tc := ⟨.hbm, 682, rfl⟩
abbrev main_call3_call3_call0_v83 : Ref sig .tc := ⟨.hbm, 683, rfl⟩
abbrev main_call3_call3_call0_c_21 : Ref sig .tc := ⟨.hbm, 684, rfl⟩
abbrev main_call3_call3_call0_v84 : Ref sig .tc := ⟨.hbm, 685, rfl⟩
abbrev main_call3_call3_call0_v85 : Ref sig .tc := ⟨.hbm, 686, rfl⟩
abbrev main_call3_call3_call0_v86 : Ref sig .tc := ⟨.hbm, 687, rfl⟩
abbrev main_call3_call3_call0_v87 : Ref sig .tc := ⟨.hbm, 688, rfl⟩
abbrev main_call3_call3_call0_v88 : Ref sig .tc := ⟨.hbm, 689, rfl⟩
abbrev main_call3_call3_call0_c_22 : Ref sig .tc := ⟨.hbm, 690, rfl⟩
abbrev main_call3_call3_call0_v89 : Ref sig .tc := ⟨.hbm, 691, rfl⟩
abbrev main_call3_call3_call0_v90 : Ref sig .tc := ⟨.hbm, 692, rfl⟩
abbrev main_call3_call3_call0_c_23 : Ref sig .tc := ⟨.hbm, 693, rfl⟩
abbrev main_call3_call3_call0_v91 : Ref sig .tc := ⟨.hbm, 694, rfl⟩
abbrev main_call3_call3_call0_v92 : Ref sig .tc := ⟨.hbm, 695, rfl⟩
abbrev main_call3_call3_call0_v93 : Ref sig .tc := ⟨.hbm, 696, rfl⟩
abbrev main_call3_call3_call0_v94 : Ref sig .tc := ⟨.hbm, 697, rfl⟩
abbrev main_call3_call3_call0_v95 : Ref sig .tc := ⟨.hbm, 698, rfl⟩
abbrev main_call3_call3_call0_c_24 : Ref sig .tc := ⟨.hbm, 699, rfl⟩
abbrev main_call3_call3_call0_v96 : Ref sig .tc := ⟨.hbm, 700, rfl⟩
abbrev main_call3_call3_call0_v97 : Ref sig .tc := ⟨.hbm, 701, rfl⟩
abbrev main_call3_call3_call0_c_25 : Ref sig .tc := ⟨.hbm, 702, rfl⟩
abbrev main_call3_call3_call0_v98 : Ref sig .tc := ⟨.hbm, 703, rfl⟩
abbrev main_call3_call3_call0_v99 : Ref sig .tc := ⟨.hbm, 704, rfl⟩
abbrev main_call3_call3_call0_v100 : Ref sig .tc := ⟨.hbm, 705, rfl⟩
abbrev main_call3_call3_call0_v101 : Ref sig .tc := ⟨.hbm, 706, rfl⟩
abbrev main_call3_call3_call0_v102 : Ref sig .tc := ⟨.hbm, 707, rfl⟩
abbrev main_call3_call3_call0_v103 : Ref sig .tc := ⟨.hbm, 708, rfl⟩
abbrev main_call3_call3_call0_v104 : Ref sig .tc := ⟨.hbm, 709, rfl⟩
abbrev main_call3_call3_call0_v105 : Ref sig .tc := ⟨.hbm, 710, rfl⟩
abbrev main_call3_call3_call0_c_26 : Ref sig .tc := ⟨.hbm, 711, rfl⟩
abbrev main_call3_call3_call0_v106 : Ref sig .tc := ⟨.hbm, 712, rfl⟩
abbrev main_call3_call3_call0_v107 : Ref sig .tc := ⟨.hbm, 713, rfl⟩
abbrev main_call3_call3_call0_v108 : Ref sig .tc := ⟨.hbm, 714, rfl⟩
abbrev main_call3_call3_call0_c_27 : Ref sig .tc := ⟨.hbm, 715, rfl⟩
abbrev main_call3_call3_call0_v109 : Ref sig .tc := ⟨.hbm, 716, rfl⟩
abbrev main_call3_call3_call0_v110 : Ref sig .tc := ⟨.hbm, 717, rfl⟩
abbrev main_call3_call3_call0_c_28 : Ref sig .tc := ⟨.hbm, 718, rfl⟩
abbrev main_call3_call3_call0_v111 : Ref sig .tc := ⟨.hbm, 719, rfl⟩
abbrev main_call3_call3_call0_v112 : Ref sig .tc := ⟨.hbm, 720, rfl⟩
abbrev main_call3_call3_call0_v113 : Ref sig .tc := ⟨.hbm, 721, rfl⟩
abbrev main_call3_call3_call0_v114 : Ref sig .tc := ⟨.hbm, 722, rfl⟩
abbrev main_call3_call3_call0_v115 : Ref sig .tc := ⟨.hbm, 723, rfl⟩
abbrev main_call3_call3_call0_c_29 : Ref sig .tc := ⟨.hbm, 724, rfl⟩
abbrev main_call3_call3_call0_v116 : Ref sig .tc := ⟨.hbm, 725, rfl⟩
abbrev main_call3_call3_call0_v117 : Ref sig .tc := ⟨.hbm, 726, rfl⟩
abbrev main_call3_call3_call0_c_30 : Ref sig .tc := ⟨.hbm, 727, rfl⟩
abbrev main_call3_call3_call0_v118 : Ref sig .tc := ⟨.hbm, 728, rfl⟩
abbrev main_call3_call3_call0_v119 : Ref sig .tc := ⟨.hbm, 729, rfl⟩
abbrev main_call3_call3_call0_v120 : Ref sig .tc := ⟨.hbm, 730, rfl⟩
abbrev main_call3_call3_call0_v121 : Ref sig .tc := ⟨.hbm, 731, rfl⟩
abbrev main_call3_call3_call0_v122 : Ref sig .tc := ⟨.hbm, 732, rfl⟩
abbrev main_call3_call3_call0_c_31 : Ref sig .tc := ⟨.hbm, 733, rfl⟩
abbrev main_call3_call3_call0_v123 : Ref sig .tc := ⟨.hbm, 734, rfl⟩
abbrev main_call3_call3_call0_v124 : Ref sig .tc := ⟨.hbm, 735, rfl⟩
abbrev main_call3_call3_call0_c_32 : Ref sig .tc := ⟨.hbm, 736, rfl⟩
abbrev main_call3_call3_call0_v125 : Ref sig .tc := ⟨.hbm, 737, rfl⟩
abbrev main_call3_call3_call0_v126 : Ref sig .tc := ⟨.hbm, 738, rfl⟩
abbrev main_call3_call3_call0_v127 : Ref sig .tc := ⟨.hbm, 739, rfl⟩
abbrev main_call3_call3_call0_v128 : Ref sig .tc := ⟨.hbm, 740, rfl⟩
abbrev main_call3_call3_call0_v129 : Ref sig .tc := ⟨.hbm, 741, rfl⟩
abbrev main_call3_call3_call0_c_33 : Ref sig .tc := ⟨.hbm, 742, rfl⟩
abbrev main_call3_call3_call0_v130 : Ref sig .tc := ⟨.hbm, 743, rfl⟩
abbrev main_call3_call3_call0_v131 : Ref sig .tc := ⟨.hbm, 744, rfl⟩
abbrev main_call3_call3_call0_c_34 : Ref sig .tc := ⟨.hbm, 745, rfl⟩
abbrev main_call3_call3_call0_v132 : Ref sig .tc := ⟨.hbm, 746, rfl⟩
abbrev main_call3_call3_call0_v133 : Ref sig .tc := ⟨.hbm, 747, rfl⟩
abbrev main_call3_call3_call0_v134 : Ref sig .tc := ⟨.hbm, 748, rfl⟩
abbrev main_call3_call3_call0_v135 : Ref sig .tc := ⟨.hbm, 749, rfl⟩
abbrev main_call3_call3_call0_v136 : Ref sig .tc := ⟨.hbm, 750, rfl⟩
abbrev main_call3_call3_call0_v137 : Ref sig .tc := ⟨.hbm, 751, rfl⟩
abbrev main_call3_call3_call0_v138 : Ref sig .tc := ⟨.hbm, 752, rfl⟩
abbrev main_call3_call3_call0_v139 : Ref sig .tc := ⟨.hbm, 753, rfl⟩
abbrev main_call3_call3_call0_c_35 : Ref sig .tc := ⟨.hbm, 754, rfl⟩
abbrev main_call3_call3_call0_v140 : Ref sig .tc := ⟨.hbm, 755, rfl⟩
abbrev main_call3_call3_call0_v141 : Ref sig .tc := ⟨.hbm, 756, rfl⟩
abbrev main_call3_call3_call0_v142 : Ref sig .tc := ⟨.hbm, 757, rfl⟩
abbrev main_call3_call3_call0_c_36 : Ref sig .tc := ⟨.hbm, 758, rfl⟩
abbrev main_call3_call3_call0_v143 : Ref sig .tc := ⟨.hbm, 759, rfl⟩
abbrev main_call3_call3_call0_v144 : Ref sig .tc := ⟨.hbm, 760, rfl⟩
abbrev main_call3_call3_call0_c_37 : Ref sig .tc := ⟨.hbm, 761, rfl⟩
abbrev main_call3_call3_call0_v145 : Ref sig .tc := ⟨.hbm, 762, rfl⟩
abbrev main_call3_call3_call0_v146 : Ref sig .tc := ⟨.hbm, 763, rfl⟩
abbrev main_call3_call3_call0_v147 : Ref sig .tc := ⟨.hbm, 764, rfl⟩
abbrev main_call3_call3_call0_v148 : Ref sig .tc := ⟨.hbm, 765, rfl⟩
abbrev main_call3_call3_call0_v149 : Ref sig .tc := ⟨.hbm, 766, rfl⟩
abbrev main_call3_call3_call0_c_38 : Ref sig .tc := ⟨.hbm, 767, rfl⟩
abbrev main_call3_call3_call0_v150 : Ref sig .tc := ⟨.hbm, 768, rfl⟩
abbrev main_call3_call3_call0_v151 : Ref sig .tc := ⟨.hbm, 769, rfl⟩
abbrev main_call3_call3_call0_c_39 : Ref sig .tc := ⟨.hbm, 770, rfl⟩
abbrev main_call3_call3_call0_v152 : Ref sig .tc := ⟨.hbm, 771, rfl⟩
abbrev main_call3_call3_call0_v153 : Ref sig .tc := ⟨.hbm, 772, rfl⟩
abbrev main_call3_call3_call0_v154 : Ref sig .tc := ⟨.hbm, 773, rfl⟩
abbrev main_call3_call3_call0_v155 : Ref sig .tc := ⟨.hbm, 774, rfl⟩
abbrev main_call3_call3_call0_v156 : Ref sig .tc := ⟨.hbm, 775, rfl⟩
abbrev main_call3_call3_call0_c_40 : Ref sig .tc := ⟨.hbm, 776, rfl⟩
abbrev main_call3_call3_call0_v157 : Ref sig .tc := ⟨.hbm, 777, rfl⟩
abbrev main_call3_call3_call0_v158 : Ref sig .tc := ⟨.hbm, 778, rfl⟩
abbrev main_call3_call3_call0_c_41 : Ref sig .tc := ⟨.hbm, 779, rfl⟩
abbrev main_call3_call3_call0_v159 : Ref sig .tc := ⟨.hbm, 780, rfl⟩
abbrev main_call3_call3_call0_v160 : Ref sig .tc := ⟨.hbm, 781, rfl⟩
abbrev main_call3_call3_call0_v161 : Ref sig .tc := ⟨.hbm, 782, rfl⟩
abbrev main_call3_call3_call0_v162 : Ref sig .tc := ⟨.hbm, 783, rfl⟩
abbrev main_call3_call3_call0_v163 : Ref sig .tc := ⟨.hbm, 784, rfl⟩
abbrev main_call3_call3_call0_c_42 : Ref sig .tc := ⟨.hbm, 785, rfl⟩
abbrev main_call3_call3_call0_v164 : Ref sig .tc := ⟨.hbm, 786, rfl⟩
abbrev main_call3_call3_call0_v165 : Ref sig .tc := ⟨.hbm, 787, rfl⟩
abbrev main_call3_call3_call0_c_43 : Ref sig .tc := ⟨.hbm, 788, rfl⟩
abbrev main_call3_call3_call0_v166 : Ref sig .tc := ⟨.hbm, 789, rfl⟩
abbrev main_call3_call3_call0_v167 : Ref sig .tc := ⟨.hbm, 790, rfl⟩
abbrev main_call3_call3_call0_v168 : Ref sig .tc := ⟨.hbm, 791, rfl⟩
abbrev main_call3_call3_call0_v169 : Ref sig .tc := ⟨.hbm, 792, rfl⟩
abbrev main_call3_call3_call0_v170 : Ref sig .tc := ⟨.hbm, 793, rfl⟩
abbrev main_call3_call3_v11_0 : Ref sig .tc := ⟨.hbm, 794, rfl⟩
abbrev main_call3_call3_call0_v172 : Ref sig .tc := ⟨.hbm, 795, rfl⟩
abbrev main_call3_call3_call0_v173 : Ref sig .tc := ⟨.hbm, 796, rfl⟩
abbrev main_call3_call3_call0_c_44 : Ref sig .tc := ⟨.hbm, 797, rfl⟩
abbrev main_call3_call3_call0_v174 : Ref sig .tc := ⟨.hbm, 798, rfl⟩
abbrev main_call3_call3_v11_1 : Ref sig .tc := ⟨.hbm, 799, rfl⟩
abbrev main_call3_call3_v12 : Ref sig .tc := ⟨.hbm, 800, rfl⟩
abbrev main_call3_call3_v13 : Ref sig .tc := ⟨.hbm, 801, rfl⟩
abbrev main_call3_v8 : Ref sig .tc := ⟨.hbm, 802, rfl⟩
abbrev main_call3_v9 : Ref sig .tc := ⟨.hbm, 803, rfl⟩
abbrev main_call3_v10 : Ref sig .tc := ⟨.hbm, 804, rfl⟩
abbrev main_call3_v11 : Ref sig .tc := ⟨.hbm, 805, rfl⟩
abbrev main_call3_v12 : Ref sig .tc := ⟨.hbm, 806, rfl⟩
abbrev main_call3_v13 : Ref sig .tc := ⟨.hbm, 807, rfl⟩
abbrev main_call3_v14 : Ref sig .tc := ⟨.hbm, 808, rfl⟩
abbrev main_call3_v15 : Ref sig .tc := ⟨.hbm, 809, rfl⟩
abbrev main_call3_v16 : Ref sig .tc := ⟨.hbm, 810, rfl⟩
abbrev main_call3_v17 : Ref sig .tc := ⟨.hbm, 811, rfl⟩
abbrev main_call3_v18 : Ref sig .tc := ⟨.hbm, 812, rfl⟩
abbrev main_call3_c_6 : Ref sig .tc := ⟨.hbm, 813, rfl⟩
abbrev main_call3_v19 : Ref sig .tc := ⟨.hbm, 814, rfl⟩
abbrev main_call3_v20 : Ref sig .tc := ⟨.hbm, 815, rfl⟩
abbrev main_call3_c_7 : Ref sig .tc := ⟨.hbm, 816, rfl⟩
abbrev main_call3_v21 : Ref sig .tc := ⟨.hbm, 817, rfl⟩
abbrev main_call3_v22 : Ref sig .tc := ⟨.hbm, 818, rfl⟩
abbrev main_call3_v23 : Ref sig .tc := ⟨.hbm, 819, rfl⟩
abbrev main_call3_c_8 : Ref sig .tc := ⟨.hbm, 820, rfl⟩
abbrev main_call3_v24 : Ref sig .tc := ⟨.hbm, 821, rfl⟩
abbrev main_call3_v25 : Ref sig .tc := ⟨.hbm, 822, rfl⟩
abbrev main_call3_v26 : Ref sig .tc := ⟨.hbm, 823, rfl⟩
abbrev main_call3_v27 : Ref sig .tc := ⟨.hbm, 824, rfl⟩
abbrev main_call3_call4_v0 : Ref sig .tc := ⟨.hbm, 825, rfl⟩
abbrev main_call3_call4_c : Ref sig .tc := ⟨.hbm, 826, rfl⟩
abbrev main_call3_call4_v1 : Ref sig .tc := ⟨.hbm, 827, rfl⟩
abbrev main_call3_call4_v2 : Ref sig .tc := ⟨.hbm, 828, rfl⟩
abbrev main_call3_call4_v3 : Ref sig .tc := ⟨.hbm, 829, rfl⟩
abbrev main_call3_call4_v4 : Ref sig .tc := ⟨.hbm, 830, rfl⟩
abbrev main_call3_call4_v5 : Ref sig .tc := ⟨.hbm, 831, rfl⟩
abbrev main_call3_call4_v6 : Ref sig .tc := ⟨.hbm, 832, rfl⟩
abbrev main_call3_call4_c_0 : Ref sig .tc := ⟨.hbm, 833, rfl⟩
abbrev main_call3_call4_v7 : Ref sig .tc := ⟨.hbm, 834, rfl⟩
abbrev main_call3_call4_v8 : Ref sig .tc := ⟨.hbm, 835, rfl⟩
abbrev main_call3_call4_c_1 : Ref sig .tc := ⟨.hbm, 836, rfl⟩
abbrev main_call3_call4_v9 : Ref sig .tc := ⟨.hbm, 837, rfl⟩
abbrev main_call3_call4_v10 : Ref sig .tc := ⟨.hbm, 838, rfl⟩
abbrev main_call3_call4_v11 : Ref sig .tc := ⟨.hbm, 839, rfl⟩
abbrev main_call3_call4_v12 : Ref sig .tc := ⟨.hbm, 840, rfl⟩
abbrev main_call3_call4_v13 : Ref sig .tc := ⟨.hbm, 841, rfl⟩
abbrev main_call3_call4_c_2 : Ref sig .tc := ⟨.hbm, 842, rfl⟩
abbrev main_call3_call4_v14 : Ref sig .tc := ⟨.hbm, 843, rfl⟩
abbrev main_call3_call4_v15 : Ref sig .tc := ⟨.hbm, 844, rfl⟩
abbrev main_call3_call4_c_3 : Ref sig .tc := ⟨.hbm, 845, rfl⟩
abbrev main_call3_call4_v16 : Ref sig .tc := ⟨.hbm, 846, rfl⟩
abbrev main_call3_call4_v17 : Ref sig .tc := ⟨.hbm, 847, rfl⟩
abbrev main_call3_call4_v18 : Ref sig .tc := ⟨.hbm, 848, rfl⟩
abbrev main_call3_call4_v19 : Ref sig .tc := ⟨.hbm, 849, rfl⟩
abbrev main_call3_call4_v20 : Ref sig .tc := ⟨.hbm, 850, rfl⟩
abbrev main_call3_call4_c_4 : Ref sig .tc := ⟨.hbm, 851, rfl⟩
abbrev main_call3_call4_v21 : Ref sig .tc := ⟨.hbm, 852, rfl⟩
abbrev main_call3_call4_v22 : Ref sig .tc := ⟨.hbm, 853, rfl⟩
abbrev main_call3_call4_c_5 : Ref sig .tc := ⟨.hbm, 854, rfl⟩
abbrev main_call3_call4_v23 : Ref sig .tc := ⟨.hbm, 855, rfl⟩
abbrev main_call3_call4_v24 : Ref sig .tc := ⟨.hbm, 856, rfl⟩
abbrev main_call3_call4_v25 : Ref sig .tc := ⟨.hbm, 857, rfl⟩
abbrev main_call3_call4_v26 : Ref sig .tc := ⟨.hbm, 858, rfl⟩
abbrev main_call3_call4_v27 : Ref sig .tc := ⟨.hbm, 859, rfl⟩
abbrev main_call3_call4_c_6 : Ref sig .tc := ⟨.hbm, 860, rfl⟩
abbrev main_call3_call4_v28 : Ref sig .tc := ⟨.hbm, 861, rfl⟩
abbrev main_call3_call4_v29 : Ref sig .tc := ⟨.hbm, 862, rfl⟩
abbrev main_call3_call4_c_7 : Ref sig .tc := ⟨.hbm, 863, rfl⟩
abbrev main_call3_call4_v30 : Ref sig .tc := ⟨.hbm, 864, rfl⟩
abbrev main_call3_call4_v31 : Ref sig .tc := ⟨.hbm, 865, rfl⟩
abbrev main_call3_call4_v32 : Ref sig .tc := ⟨.hbm, 866, rfl⟩
abbrev main_call3_call4_v33 : Ref sig .tc := ⟨.hbm, 867, rfl⟩
abbrev main_call3_call4_v34 : Ref sig .tc := ⟨.hbm, 868, rfl⟩
abbrev main_call3_call4_v35 : Ref sig .tc := ⟨.hbm, 869, rfl⟩
abbrev main_call3_call4_v36 : Ref sig .tc := ⟨.hbm, 870, rfl⟩
abbrev main_call3_call4_v37 : Ref sig .tc := ⟨.hbm, 871, rfl⟩
abbrev main_call3_call4_c_8 : Ref sig .tc := ⟨.hbm, 872, rfl⟩
abbrev main_call3_call4_v38 : Ref sig .tc := ⟨.hbm, 873, rfl⟩
abbrev main_call3_call4_v39 : Ref sig .tc := ⟨.hbm, 874, rfl⟩
abbrev main_call3_call4_v40 : Ref sig .tc := ⟨.hbm, 875, rfl⟩
abbrev main_call3_call4_c_9 : Ref sig .tc := ⟨.hbm, 876, rfl⟩
abbrev main_call3_call4_v41 : Ref sig .tc := ⟨.hbm, 877, rfl⟩
abbrev main_call3_call4_v42 : Ref sig .tc := ⟨.hbm, 878, rfl⟩
abbrev main_call3_call4_c_10 : Ref sig .tc := ⟨.hbm, 879, rfl⟩
abbrev main_call3_call4_v43 : Ref sig .tc := ⟨.hbm, 880, rfl⟩
abbrev main_call3_call4_v44 : Ref sig .tc := ⟨.hbm, 881, rfl⟩
abbrev main_call3_call4_v45 : Ref sig .tc := ⟨.hbm, 882, rfl⟩
abbrev main_call3_call4_v46 : Ref sig .tc := ⟨.hbm, 883, rfl⟩
abbrev main_call3_call4_v47 : Ref sig .tc := ⟨.hbm, 884, rfl⟩
abbrev main_call3_call4_c_11 : Ref sig .tc := ⟨.hbm, 885, rfl⟩
abbrev main_call3_call4_v48 : Ref sig .tc := ⟨.hbm, 886, rfl⟩
abbrev main_call3_call4_v49 : Ref sig .tc := ⟨.hbm, 887, rfl⟩
abbrev main_call3_call4_c_12 : Ref sig .tc := ⟨.hbm, 888, rfl⟩
abbrev main_call3_call4_v50 : Ref sig .tc := ⟨.hbm, 889, rfl⟩
abbrev main_call3_call4_v51 : Ref sig .tc := ⟨.hbm, 890, rfl⟩
abbrev main_call3_call4_v52 : Ref sig .tc := ⟨.hbm, 891, rfl⟩
abbrev main_call3_call4_v53 : Ref sig .tc := ⟨.hbm, 892, rfl⟩
abbrev main_call3_call4_v54 : Ref sig .tc := ⟨.hbm, 893, rfl⟩
abbrev main_call3_call4_c_13 : Ref sig .tc := ⟨.hbm, 894, rfl⟩
abbrev main_call3_call4_v55 : Ref sig .tc := ⟨.hbm, 895, rfl⟩
abbrev main_call3_call4_v56 : Ref sig .tc := ⟨.hbm, 896, rfl⟩
abbrev main_call3_call4_c_14 : Ref sig .tc := ⟨.hbm, 897, rfl⟩
abbrev main_call3_call4_v57 : Ref sig .tc := ⟨.hbm, 898, rfl⟩
abbrev main_call3_call4_v58 : Ref sig .tc := ⟨.hbm, 899, rfl⟩
abbrev main_call3_call4_v59 : Ref sig .tc := ⟨.hbm, 900, rfl⟩
abbrev main_call3_call4_v60 : Ref sig .tc := ⟨.hbm, 901, rfl⟩
abbrev main_call3_call4_v61 : Ref sig .tc := ⟨.hbm, 902, rfl⟩
abbrev main_call3_call4_c_15 : Ref sig .tc := ⟨.hbm, 903, rfl⟩
abbrev main_call3_call4_v62 : Ref sig .tc := ⟨.hbm, 904, rfl⟩
abbrev main_call3_call4_v63 : Ref sig .tc := ⟨.hbm, 905, rfl⟩
abbrev main_call3_call4_c_16 : Ref sig .tc := ⟨.hbm, 906, rfl⟩
abbrev main_call3_call4_v64 : Ref sig .tc := ⟨.hbm, 907, rfl⟩
abbrev main_call3_call4_v65 : Ref sig .tc := ⟨.hbm, 908, rfl⟩
abbrev main_call3_call4_v66 : Ref sig .tc := ⟨.hbm, 909, rfl⟩
abbrev main_call3_call4_v67 : Ref sig .tc := ⟨.hbm, 910, rfl⟩
abbrev main_call3_call4_v68 : Ref sig .tc := ⟨.hbm, 911, rfl⟩
abbrev main_call3_call4_v69 : Ref sig .tc := ⟨.hbm, 912, rfl⟩
abbrev main_call3_call4_v70 : Ref sig .tc := ⟨.hbm, 913, rfl⟩
abbrev main_call3_call4_v71 : Ref sig .tc := ⟨.hbm, 914, rfl⟩
abbrev main_call3_call4_c_17 : Ref sig .tc := ⟨.hbm, 915, rfl⟩
abbrev main_call3_call4_v72 : Ref sig .tc := ⟨.hbm, 916, rfl⟩
abbrev main_call3_call4_v73 : Ref sig .tc := ⟨.hbm, 917, rfl⟩
abbrev main_call3_call4_v74 : Ref sig .tc := ⟨.hbm, 918, rfl⟩
abbrev main_call3_call4_c_18 : Ref sig .tc := ⟨.hbm, 919, rfl⟩
abbrev main_call3_call4_v75 : Ref sig .tc := ⟨.hbm, 920, rfl⟩
abbrev main_call3_call4_v76 : Ref sig .tc := ⟨.hbm, 921, rfl⟩
abbrev main_call3_call4_c_19 : Ref sig .tc := ⟨.hbm, 922, rfl⟩
abbrev main_call3_call4_v77 : Ref sig .tc := ⟨.hbm, 923, rfl⟩
abbrev main_call3_call4_v78 : Ref sig .tc := ⟨.hbm, 924, rfl⟩
abbrev main_call3_call4_v79 : Ref sig .tc := ⟨.hbm, 925, rfl⟩
abbrev main_call3_call4_v80 : Ref sig .tc := ⟨.hbm, 926, rfl⟩
abbrev main_call3_call4_v81 : Ref sig .tc := ⟨.hbm, 927, rfl⟩
abbrev main_call3_call4_c_20 : Ref sig .tc := ⟨.hbm, 928, rfl⟩
abbrev main_call3_call4_v82 : Ref sig .tc := ⟨.hbm, 929, rfl⟩
abbrev main_call3_call4_v83 : Ref sig .tc := ⟨.hbm, 930, rfl⟩
abbrev main_call3_call4_c_21 : Ref sig .tc := ⟨.hbm, 931, rfl⟩
abbrev main_call3_call4_v84 : Ref sig .tc := ⟨.hbm, 932, rfl⟩
abbrev main_call3_call4_v85 : Ref sig .tc := ⟨.hbm, 933, rfl⟩
abbrev main_call3_call4_v86 : Ref sig .tc := ⟨.hbm, 934, rfl⟩
abbrev main_call3_call4_v87 : Ref sig .tc := ⟨.hbm, 935, rfl⟩
abbrev main_call3_call4_v88 : Ref sig .tc := ⟨.hbm, 936, rfl⟩
abbrev main_call3_call4_c_22 : Ref sig .tc := ⟨.hbm, 937, rfl⟩
abbrev main_call3_call4_v89 : Ref sig .tc := ⟨.hbm, 938, rfl⟩
abbrev main_call3_call4_v90 : Ref sig .tc := ⟨.hbm, 939, rfl⟩
abbrev main_call3_call4_c_23 : Ref sig .tc := ⟨.hbm, 940, rfl⟩
abbrev main_call3_call4_v91 : Ref sig .tc := ⟨.hbm, 941, rfl⟩
abbrev main_call3_call4_v92 : Ref sig .tc := ⟨.hbm, 942, rfl⟩
abbrev main_call3_call4_v93 : Ref sig .tc := ⟨.hbm, 943, rfl⟩
abbrev main_call3_call4_v94 : Ref sig .tc := ⟨.hbm, 944, rfl⟩
abbrev main_call3_call4_v95 : Ref sig .tc := ⟨.hbm, 945, rfl⟩
abbrev main_call3_call4_c_24 : Ref sig .tc := ⟨.hbm, 946, rfl⟩
abbrev main_call3_call4_v96 : Ref sig .tc := ⟨.hbm, 947, rfl⟩
abbrev main_call3_call4_v97 : Ref sig .tc := ⟨.hbm, 948, rfl⟩
abbrev main_call3_call4_c_25 : Ref sig .tc := ⟨.hbm, 949, rfl⟩
abbrev main_call3_call4_v98 : Ref sig .tc := ⟨.hbm, 950, rfl⟩
abbrev main_call3_call4_v99 : Ref sig .tc := ⟨.hbm, 951, rfl⟩
abbrev main_call3_call4_v100 : Ref sig .tc := ⟨.hbm, 952, rfl⟩
abbrev main_call3_call4_v101 : Ref sig .tc := ⟨.hbm, 953, rfl⟩
abbrev main_call3_call4_v102 : Ref sig .tc := ⟨.hbm, 954, rfl⟩
abbrev main_call3_call4_v103 : Ref sig .tc := ⟨.hbm, 955, rfl⟩
abbrev main_call3_call4_v104 : Ref sig .tc := ⟨.hbm, 956, rfl⟩
abbrev main_call3_call4_v105 : Ref sig .tc := ⟨.hbm, 957, rfl⟩
abbrev main_call3_call4_c_26 : Ref sig .tc := ⟨.hbm, 958, rfl⟩
abbrev main_call3_call4_v106 : Ref sig .tc := ⟨.hbm, 959, rfl⟩
abbrev main_call3_call4_v107 : Ref sig .tc := ⟨.hbm, 960, rfl⟩
abbrev main_call3_call4_v108 : Ref sig .tc := ⟨.hbm, 961, rfl⟩
abbrev main_call3_call4_c_27 : Ref sig .tc := ⟨.hbm, 962, rfl⟩
abbrev main_call3_call4_v109 : Ref sig .tc := ⟨.hbm, 963, rfl⟩
abbrev main_call3_call4_v110 : Ref sig .tc := ⟨.hbm, 964, rfl⟩
abbrev main_call3_call4_c_28 : Ref sig .tc := ⟨.hbm, 965, rfl⟩
abbrev main_call3_call4_v111 : Ref sig .tc := ⟨.hbm, 966, rfl⟩
abbrev main_call3_call4_v112 : Ref sig .tc := ⟨.hbm, 967, rfl⟩
abbrev main_call3_call4_v113 : Ref sig .tc := ⟨.hbm, 968, rfl⟩
abbrev main_call3_call4_v114 : Ref sig .tc := ⟨.hbm, 969, rfl⟩
abbrev main_call3_call4_v115 : Ref sig .tc := ⟨.hbm, 970, rfl⟩
abbrev main_call3_call4_c_29 : Ref sig .tc := ⟨.hbm, 971, rfl⟩
abbrev main_call3_call4_v116 : Ref sig .tc := ⟨.hbm, 972, rfl⟩
abbrev main_call3_call4_v117 : Ref sig .tc := ⟨.hbm, 973, rfl⟩
abbrev main_call3_call4_c_30 : Ref sig .tc := ⟨.hbm, 974, rfl⟩
abbrev main_call3_call4_v118 : Ref sig .tc := ⟨.hbm, 975, rfl⟩
abbrev main_call3_call4_v119 : Ref sig .tc := ⟨.hbm, 976, rfl⟩
abbrev main_call3_call4_v120 : Ref sig .tc := ⟨.hbm, 977, rfl⟩
abbrev main_call3_call4_v121 : Ref sig .tc := ⟨.hbm, 978, rfl⟩
abbrev main_call3_call4_v122 : Ref sig .tc := ⟨.hbm, 979, rfl⟩
abbrev main_call3_call4_c_31 : Ref sig .tc := ⟨.hbm, 980, rfl⟩
abbrev main_call3_call4_v123 : Ref sig .tc := ⟨.hbm, 981, rfl⟩
abbrev main_call3_call4_v124 : Ref sig .tc := ⟨.hbm, 982, rfl⟩
abbrev main_call3_call4_c_32 : Ref sig .tc := ⟨.hbm, 983, rfl⟩
abbrev main_call3_call4_v125 : Ref sig .tc := ⟨.hbm, 984, rfl⟩
abbrev main_call3_call4_v126 : Ref sig .tc := ⟨.hbm, 985, rfl⟩
abbrev main_call3_call4_v127 : Ref sig .tc := ⟨.hbm, 986, rfl⟩
abbrev main_call3_call4_v128 : Ref sig .tc := ⟨.hbm, 987, rfl⟩
abbrev main_call3_call4_v129 : Ref sig .tc := ⟨.hbm, 988, rfl⟩
abbrev main_call3_call4_c_33 : Ref sig .tc := ⟨.hbm, 989, rfl⟩
abbrev main_call3_call4_v130 : Ref sig .tc := ⟨.hbm, 990, rfl⟩
abbrev main_call3_call4_v131 : Ref sig .tc := ⟨.hbm, 991, rfl⟩
abbrev main_call3_call4_c_34 : Ref sig .tc := ⟨.hbm, 992, rfl⟩
abbrev main_call3_call4_v132 : Ref sig .tc := ⟨.hbm, 993, rfl⟩
abbrev main_call3_call4_v133 : Ref sig .tc := ⟨.hbm, 994, rfl⟩
abbrev main_call3_call4_v134 : Ref sig .tc := ⟨.hbm, 995, rfl⟩
abbrev main_call3_call4_v135 : Ref sig .tc := ⟨.hbm, 996, rfl⟩
abbrev main_call3_call4_v136 : Ref sig .tc := ⟨.hbm, 997, rfl⟩
abbrev main_call3_call4_v137 : Ref sig .tc := ⟨.hbm, 998, rfl⟩
abbrev main_call3_call4_v138 : Ref sig .tc := ⟨.hbm, 999, rfl⟩
abbrev main_call3_call4_v139 : Ref sig .tc := ⟨.hbm, 1000, rfl⟩
abbrev main_call3_call4_c_35 : Ref sig .tc := ⟨.hbm, 1001, rfl⟩
abbrev main_call3_call4_v140 : Ref sig .tc := ⟨.hbm, 1002, rfl⟩
abbrev main_call3_call4_v141 : Ref sig .tc := ⟨.hbm, 1003, rfl⟩
abbrev main_call3_call4_v142 : Ref sig .tc := ⟨.hbm, 1004, rfl⟩
abbrev main_call3_call4_c_36 : Ref sig .tc := ⟨.hbm, 1005, rfl⟩
abbrev main_call3_call4_v143 : Ref sig .tc := ⟨.hbm, 1006, rfl⟩
abbrev main_call3_call4_v144 : Ref sig .tc := ⟨.hbm, 1007, rfl⟩
abbrev main_call3_call4_c_37 : Ref sig .tc := ⟨.hbm, 1008, rfl⟩
abbrev main_call3_call4_v145 : Ref sig .tc := ⟨.hbm, 1009, rfl⟩
abbrev main_call3_call4_v146 : Ref sig .tc := ⟨.hbm, 1010, rfl⟩
abbrev main_call3_call4_v147 : Ref sig .tc := ⟨.hbm, 1011, rfl⟩
abbrev main_call3_call4_v148 : Ref sig .tc := ⟨.hbm, 1012, rfl⟩
abbrev main_call3_call4_v149 : Ref sig .tc := ⟨.hbm, 1013, rfl⟩
abbrev main_call3_call4_c_38 : Ref sig .tc := ⟨.hbm, 1014, rfl⟩
abbrev main_call3_call4_v150 : Ref sig .tc := ⟨.hbm, 1015, rfl⟩
abbrev main_call3_call4_v151 : Ref sig .tc := ⟨.hbm, 1016, rfl⟩
abbrev main_call3_call4_c_39 : Ref sig .tc := ⟨.hbm, 1017, rfl⟩
abbrev main_call3_call4_v152 : Ref sig .tc := ⟨.hbm, 1018, rfl⟩
abbrev main_call3_call4_v153 : Ref sig .tc := ⟨.hbm, 1019, rfl⟩
abbrev main_call3_call4_v154 : Ref sig .tc := ⟨.hbm, 1020, rfl⟩
abbrev main_call3_call4_v155 : Ref sig .tc := ⟨.hbm, 1021, rfl⟩
abbrev main_call3_call4_v156 : Ref sig .tc := ⟨.hbm, 1022, rfl⟩
abbrev main_call3_call4_c_40 : Ref sig .tc := ⟨.hbm, 1023, rfl⟩
abbrev main_call3_call4_v157 : Ref sig .tc := ⟨.hbm, 1024, rfl⟩
abbrev main_call3_call4_v158 : Ref sig .tc := ⟨.hbm, 1025, rfl⟩
abbrev main_call3_call4_c_41 : Ref sig .tc := ⟨.hbm, 1026, rfl⟩
abbrev main_call3_call4_v159 : Ref sig .tc := ⟨.hbm, 1027, rfl⟩
abbrev main_call3_call4_v160 : Ref sig .tc := ⟨.hbm, 1028, rfl⟩
abbrev main_call3_call4_v161 : Ref sig .tc := ⟨.hbm, 1029, rfl⟩
abbrev main_call3_call4_v162 : Ref sig .tc := ⟨.hbm, 1030, rfl⟩
abbrev main_call3_call4_v163 : Ref sig .tc := ⟨.hbm, 1031, rfl⟩
abbrev main_call3_call4_c_42 : Ref sig .tc := ⟨.hbm, 1032, rfl⟩
abbrev main_call3_call4_v164 : Ref sig .tc := ⟨.hbm, 1033, rfl⟩
abbrev main_call3_call4_v165 : Ref sig .tc := ⟨.hbm, 1034, rfl⟩
abbrev main_call3_call4_c_43 : Ref sig .tc := ⟨.hbm, 1035, rfl⟩
abbrev main_call3_call4_v166 : Ref sig .tc := ⟨.hbm, 1036, rfl⟩
abbrev main_call3_call4_v167 : Ref sig .tc := ⟨.hbm, 1037, rfl⟩
abbrev main_call3_call4_v168 : Ref sig .tc := ⟨.hbm, 1038, rfl⟩
abbrev main_call3_call4_v169 : Ref sig .tc := ⟨.hbm, 1039, rfl⟩
abbrev main_call3_call4_v170 : Ref sig .tc := ⟨.hbm, 1040, rfl⟩
abbrev main_call3_v28_0 : Ref sig .tc := ⟨.hbm, 1041, rfl⟩
abbrev main_call3_call4_v172 : Ref sig .tc := ⟨.hbm, 1042, rfl⟩
abbrev main_call3_call4_v173 : Ref sig .tc := ⟨.hbm, 1043, rfl⟩
abbrev main_call3_call4_c_44 : Ref sig .tc := ⟨.hbm, 1044, rfl⟩
abbrev main_call3_call4_v174 : Ref sig .tc := ⟨.hbm, 1045, rfl⟩
abbrev main_call3_v28_1 : Ref sig .tc := ⟨.hbm, 1046, rfl⟩
abbrev main_call3_v29 : Ref sig .tc := ⟨.hbm, 1047, rfl⟩
abbrev main_call3_v30 : Ref sig .tc := ⟨.hbm, 1048, rfl⟩
abbrev main_call3_v31 : Ref sig .tc := ⟨.hbm, 1049, rfl⟩
abbrev main_call3_v32 : Ref sig .tc := ⟨.hbm, 1050, rfl⟩
abbrev main_call3_v33 : Ref sig .tc := ⟨.hbm, 1051, rfl⟩
abbrev main_call3_v34 : Ref sig .tc := ⟨.hbm, 1052, rfl⟩
abbrev main_call3_v35 : Ref sig .tc := ⟨.hbm, 1053, rfl⟩
abbrev main_call3_c_9 : Ref sig .tc := ⟨.hbm, 1054, rfl⟩
abbrev main_call3_v36 : Ref sig .tc := ⟨.hbm, 1055, rfl⟩
abbrev main_call3_v37 : Ref sig .tc := ⟨.hbm, 1056, rfl⟩
abbrev main_call3_c_10 : Ref sig .tc := ⟨.hbm, 1057, rfl⟩
abbrev main_call3_v38 : Ref sig .tc := ⟨.hbm, 1058, rfl⟩
abbrev main_call3_v39 : Ref sig .tc := ⟨.hbm, 1059, rfl⟩
abbrev main_call3_v40 : Ref sig .tc := ⟨.hbm, 1060, rfl⟩
abbrev main_call3_c_11 : Ref sig .tc := ⟨.hbm, 1061, rfl⟩
abbrev main_call3_v41 : Ref sig .tc := ⟨.hbm, 1062, rfl⟩
abbrev main_call3_v42 : Ref sig .tc := ⟨.hbm, 1063, rfl⟩
abbrev main_call3_v43 : Ref sig .tc := ⟨.hbm, 1064, rfl⟩
abbrev main_call3_v44 : Ref sig .tc := ⟨.hbm, 1065, rfl⟩
abbrev main_call3_call5_v0 : Ref sig .tc := ⟨.hbm, 1066, rfl⟩
abbrev main_call3_call5_c : Ref sig .tc := ⟨.hbm, 1067, rfl⟩
abbrev main_call3_call5_v1 : Ref sig .tc := ⟨.hbm, 1068, rfl⟩
abbrev main_call3_call5_v2 : Ref sig .tc := ⟨.hbm, 1069, rfl⟩
abbrev main_call3_call5_v3 : Ref sig .tc := ⟨.hbm, 1070, rfl⟩
abbrev main_call3_call5_v4 : Ref sig .tc := ⟨.hbm, 1071, rfl⟩
abbrev main_call3_call5_v5 : Ref sig .tc := ⟨.hbm, 1072, rfl⟩
abbrev main_call3_call5_v6 : Ref sig .tc := ⟨.hbm, 1073, rfl⟩
abbrev main_call3_call5_c_0 : Ref sig .tc := ⟨.hbm, 1074, rfl⟩
abbrev main_call3_call5_v7 : Ref sig .tc := ⟨.hbm, 1075, rfl⟩
abbrev main_call3_call5_v8 : Ref sig .tc := ⟨.hbm, 1076, rfl⟩
abbrev main_call3_call5_c_1 : Ref sig .tc := ⟨.hbm, 1077, rfl⟩
abbrev main_call3_call5_v9 : Ref sig .tc := ⟨.hbm, 1078, rfl⟩
abbrev main_call3_call5_v10 : Ref sig .tc := ⟨.hbm, 1079, rfl⟩
abbrev main_call3_call5_v11 : Ref sig .tc := ⟨.hbm, 1080, rfl⟩
abbrev main_call3_call5_v12 : Ref sig .tc := ⟨.hbm, 1081, rfl⟩
abbrev main_call3_call5_v13 : Ref sig .tc := ⟨.hbm, 1082, rfl⟩
abbrev main_call3_call5_c_2 : Ref sig .tc := ⟨.hbm, 1083, rfl⟩
abbrev main_call3_call5_v14 : Ref sig .tc := ⟨.hbm, 1084, rfl⟩
abbrev main_call3_call5_v15 : Ref sig .tc := ⟨.hbm, 1085, rfl⟩
abbrev main_call3_call5_c_3 : Ref sig .tc := ⟨.hbm, 1086, rfl⟩
abbrev main_call3_call5_v16 : Ref sig .tc := ⟨.hbm, 1087, rfl⟩
abbrev main_call3_call5_v17 : Ref sig .tc := ⟨.hbm, 1088, rfl⟩
abbrev main_call3_call5_v18 : Ref sig .tc := ⟨.hbm, 1089, rfl⟩
abbrev main_call3_call5_v19 : Ref sig .tc := ⟨.hbm, 1090, rfl⟩
abbrev main_call3_call5_v20 : Ref sig .tc := ⟨.hbm, 1091, rfl⟩
abbrev main_call3_call5_c_4 : Ref sig .tc := ⟨.hbm, 1092, rfl⟩
abbrev main_call3_call5_v21 : Ref sig .tc := ⟨.hbm, 1093, rfl⟩
abbrev main_call3_call5_v22 : Ref sig .tc := ⟨.hbm, 1094, rfl⟩
abbrev main_call3_call5_c_5 : Ref sig .tc := ⟨.hbm, 1095, rfl⟩
abbrev main_call3_call5_v23 : Ref sig .tc := ⟨.hbm, 1096, rfl⟩
abbrev main_call3_call5_v24 : Ref sig .tc := ⟨.hbm, 1097, rfl⟩
abbrev main_call3_call5_v25 : Ref sig .tc := ⟨.hbm, 1098, rfl⟩
abbrev main_call3_call5_v26 : Ref sig .tc := ⟨.hbm, 1099, rfl⟩
abbrev main_call3_call5_v27 : Ref sig .tc := ⟨.hbm, 1100, rfl⟩
abbrev main_call3_call5_c_6 : Ref sig .tc := ⟨.hbm, 1101, rfl⟩
abbrev main_call3_call5_v28 : Ref sig .tc := ⟨.hbm, 1102, rfl⟩
abbrev main_call3_call5_v29 : Ref sig .tc := ⟨.hbm, 1103, rfl⟩
abbrev main_call3_call5_c_7 : Ref sig .tc := ⟨.hbm, 1104, rfl⟩
abbrev main_call3_call5_v30 : Ref sig .tc := ⟨.hbm, 1105, rfl⟩
abbrev main_call3_call5_v31 : Ref sig .tc := ⟨.hbm, 1106, rfl⟩
abbrev main_call3_call5_v32 : Ref sig .tc := ⟨.hbm, 1107, rfl⟩
abbrev main_call3_call5_v33 : Ref sig .tc := ⟨.hbm, 1108, rfl⟩
abbrev main_call3_call5_v34 : Ref sig .tc := ⟨.hbm, 1109, rfl⟩
abbrev main_call3_call5_v35 : Ref sig .tc := ⟨.hbm, 1110, rfl⟩
abbrev main_call3_call5_v36 : Ref sig .tc := ⟨.hbm, 1111, rfl⟩
abbrev main_call3_call5_v37 : Ref sig .tc := ⟨.hbm, 1112, rfl⟩
abbrev main_call3_call5_c_8 : Ref sig .tc := ⟨.hbm, 1113, rfl⟩
abbrev main_call3_call5_v38 : Ref sig .tc := ⟨.hbm, 1114, rfl⟩
abbrev main_call3_call5_v39 : Ref sig .tc := ⟨.hbm, 1115, rfl⟩
abbrev main_call3_call5_v40 : Ref sig .tc := ⟨.hbm, 1116, rfl⟩
abbrev main_call3_call5_c_9 : Ref sig .tc := ⟨.hbm, 1117, rfl⟩
abbrev main_call3_call5_v41 : Ref sig .tc := ⟨.hbm, 1118, rfl⟩
abbrev main_call3_call5_v42 : Ref sig .tc := ⟨.hbm, 1119, rfl⟩
abbrev main_call3_call5_c_10 : Ref sig .tc := ⟨.hbm, 1120, rfl⟩
abbrev main_call3_call5_v43 : Ref sig .tc := ⟨.hbm, 1121, rfl⟩
abbrev main_call3_call5_v44 : Ref sig .tc := ⟨.hbm, 1122, rfl⟩
abbrev main_call3_call5_v45 : Ref sig .tc := ⟨.hbm, 1123, rfl⟩
abbrev main_call3_call5_v46 : Ref sig .tc := ⟨.hbm, 1124, rfl⟩
abbrev main_call3_call5_v47 : Ref sig .tc := ⟨.hbm, 1125, rfl⟩
abbrev main_call3_call5_c_11 : Ref sig .tc := ⟨.hbm, 1126, rfl⟩
abbrev main_call3_call5_v48 : Ref sig .tc := ⟨.hbm, 1127, rfl⟩
abbrev main_call3_call5_v49 : Ref sig .tc := ⟨.hbm, 1128, rfl⟩
abbrev main_call3_call5_c_12 : Ref sig .tc := ⟨.hbm, 1129, rfl⟩
abbrev main_call3_call5_v50 : Ref sig .tc := ⟨.hbm, 1130, rfl⟩
abbrev main_call3_call5_v51 : Ref sig .tc := ⟨.hbm, 1131, rfl⟩
abbrev main_call3_call5_v52 : Ref sig .tc := ⟨.hbm, 1132, rfl⟩
abbrev main_call3_call5_v53 : Ref sig .tc := ⟨.hbm, 1133, rfl⟩
abbrev main_call3_call5_v54 : Ref sig .tc := ⟨.hbm, 1134, rfl⟩
abbrev main_call3_call5_c_13 : Ref sig .tc := ⟨.hbm, 1135, rfl⟩
abbrev main_call3_call5_v55 : Ref sig .tc := ⟨.hbm, 1136, rfl⟩
abbrev main_call3_call5_v56 : Ref sig .tc := ⟨.hbm, 1137, rfl⟩
abbrev main_call3_call5_c_14 : Ref sig .tc := ⟨.hbm, 1138, rfl⟩
abbrev main_call3_call5_v57 : Ref sig .tc := ⟨.hbm, 1139, rfl⟩
abbrev main_call3_call5_v58 : Ref sig .tc := ⟨.hbm, 1140, rfl⟩
abbrev main_call3_call5_v59 : Ref sig .tc := ⟨.hbm, 1141, rfl⟩
abbrev main_call3_call5_v60 : Ref sig .tc := ⟨.hbm, 1142, rfl⟩
abbrev main_call3_call5_v61 : Ref sig .tc := ⟨.hbm, 1143, rfl⟩
abbrev main_call3_call5_c_15 : Ref sig .tc := ⟨.hbm, 1144, rfl⟩
abbrev main_call3_call5_v62 : Ref sig .tc := ⟨.hbm, 1145, rfl⟩
abbrev main_call3_call5_v63 : Ref sig .tc := ⟨.hbm, 1146, rfl⟩
abbrev main_call3_call5_c_16 : Ref sig .tc := ⟨.hbm, 1147, rfl⟩
abbrev main_call3_call5_v64 : Ref sig .tc := ⟨.hbm, 1148, rfl⟩
abbrev main_call3_call5_v65 : Ref sig .tc := ⟨.hbm, 1149, rfl⟩
abbrev main_call3_call5_v66 : Ref sig .tc := ⟨.hbm, 1150, rfl⟩
abbrev main_call3_call5_v67 : Ref sig .tc := ⟨.hbm, 1151, rfl⟩
abbrev main_call3_call5_v68 : Ref sig .tc := ⟨.hbm, 1152, rfl⟩
abbrev main_call3_call5_v69 : Ref sig .tc := ⟨.hbm, 1153, rfl⟩
abbrev main_call3_call5_v70 : Ref sig .tc := ⟨.hbm, 1154, rfl⟩
abbrev main_call3_call5_v71 : Ref sig .tc := ⟨.hbm, 1155, rfl⟩
abbrev main_call3_call5_c_17 : Ref sig .tc := ⟨.hbm, 1156, rfl⟩
abbrev main_call3_call5_v72 : Ref sig .tc := ⟨.hbm, 1157, rfl⟩
abbrev main_call3_call5_v73 : Ref sig .tc := ⟨.hbm, 1158, rfl⟩
abbrev main_call3_call5_v74 : Ref sig .tc := ⟨.hbm, 1159, rfl⟩
abbrev main_call3_call5_c_18 : Ref sig .tc := ⟨.hbm, 1160, rfl⟩
abbrev main_call3_call5_v75 : Ref sig .tc := ⟨.hbm, 1161, rfl⟩
abbrev main_call3_call5_v76 : Ref sig .tc := ⟨.hbm, 1162, rfl⟩
abbrev main_call3_call5_c_19 : Ref sig .tc := ⟨.hbm, 1163, rfl⟩
abbrev main_call3_call5_v77 : Ref sig .tc := ⟨.hbm, 1164, rfl⟩
abbrev main_call3_call5_v78 : Ref sig .tc := ⟨.hbm, 1165, rfl⟩
abbrev main_call3_call5_v79 : Ref sig .tc := ⟨.hbm, 1166, rfl⟩
abbrev main_call3_call5_v80 : Ref sig .tc := ⟨.hbm, 1167, rfl⟩
abbrev main_call3_call5_v81 : Ref sig .tc := ⟨.hbm, 1168, rfl⟩
abbrev main_call3_call5_c_20 : Ref sig .tc := ⟨.hbm, 1169, rfl⟩
abbrev main_call3_call5_v82 : Ref sig .tc := ⟨.hbm, 1170, rfl⟩
abbrev main_call3_call5_v83 : Ref sig .tc := ⟨.hbm, 1171, rfl⟩
abbrev main_call3_call5_c_21 : Ref sig .tc := ⟨.hbm, 1172, rfl⟩
abbrev main_call3_call5_v84 : Ref sig .tc := ⟨.hbm, 1173, rfl⟩
abbrev main_call3_call5_v85 : Ref sig .tc := ⟨.hbm, 1174, rfl⟩
abbrev main_call3_call5_v86 : Ref sig .tc := ⟨.hbm, 1175, rfl⟩
abbrev main_call3_call5_v87 : Ref sig .tc := ⟨.hbm, 1176, rfl⟩
abbrev main_call3_call5_v88 : Ref sig .tc := ⟨.hbm, 1177, rfl⟩
abbrev main_call3_call5_c_22 : Ref sig .tc := ⟨.hbm, 1178, rfl⟩
abbrev main_call3_call5_v89 : Ref sig .tc := ⟨.hbm, 1179, rfl⟩
abbrev main_call3_call5_v90 : Ref sig .tc := ⟨.hbm, 1180, rfl⟩
abbrev main_call3_call5_c_23 : Ref sig .tc := ⟨.hbm, 1181, rfl⟩
abbrev main_call3_call5_v91 : Ref sig .tc := ⟨.hbm, 1182, rfl⟩
abbrev main_call3_call5_v92 : Ref sig .tc := ⟨.hbm, 1183, rfl⟩
abbrev main_call3_call5_v93 : Ref sig .tc := ⟨.hbm, 1184, rfl⟩
abbrev main_call3_call5_v94 : Ref sig .tc := ⟨.hbm, 1185, rfl⟩
abbrev main_call3_call5_v95 : Ref sig .tc := ⟨.hbm, 1186, rfl⟩
abbrev main_call3_call5_c_24 : Ref sig .tc := ⟨.hbm, 1187, rfl⟩
abbrev main_call3_call5_v96 : Ref sig .tc := ⟨.hbm, 1188, rfl⟩
abbrev main_call3_call5_v97 : Ref sig .tc := ⟨.hbm, 1189, rfl⟩
abbrev main_call3_call5_c_25 : Ref sig .tc := ⟨.hbm, 1190, rfl⟩
abbrev main_call3_call5_v98 : Ref sig .tc := ⟨.hbm, 1191, rfl⟩
abbrev main_call3_call5_v99 : Ref sig .tc := ⟨.hbm, 1192, rfl⟩
abbrev main_call3_call5_v100 : Ref sig .tc := ⟨.hbm, 1193, rfl⟩
abbrev main_call3_call5_v101 : Ref sig .tc := ⟨.hbm, 1194, rfl⟩
abbrev main_call3_call5_v102 : Ref sig .tc := ⟨.hbm, 1195, rfl⟩
abbrev main_call3_call5_v103 : Ref sig .tc := ⟨.hbm, 1196, rfl⟩
abbrev main_call3_call5_v104 : Ref sig .tc := ⟨.hbm, 1197, rfl⟩
abbrev main_call3_call5_v105 : Ref sig .tc := ⟨.hbm, 1198, rfl⟩
abbrev main_call3_call5_c_26 : Ref sig .tc := ⟨.hbm, 1199, rfl⟩
abbrev main_call3_call5_v106 : Ref sig .tc := ⟨.hbm, 1200, rfl⟩
abbrev main_call3_call5_v107 : Ref sig .tc := ⟨.hbm, 1201, rfl⟩
abbrev main_call3_call5_v108 : Ref sig .tc := ⟨.hbm, 1202, rfl⟩
abbrev main_call3_call5_c_27 : Ref sig .tc := ⟨.hbm, 1203, rfl⟩
abbrev main_call3_call5_v109 : Ref sig .tc := ⟨.hbm, 1204, rfl⟩
abbrev main_call3_call5_v110 : Ref sig .tc := ⟨.hbm, 1205, rfl⟩
abbrev main_call3_call5_c_28 : Ref sig .tc := ⟨.hbm, 1206, rfl⟩
abbrev main_call3_call5_v111 : Ref sig .tc := ⟨.hbm, 1207, rfl⟩
abbrev main_call3_call5_v112 : Ref sig .tc := ⟨.hbm, 1208, rfl⟩
abbrev main_call3_call5_v113 : Ref sig .tc := ⟨.hbm, 1209, rfl⟩
abbrev main_call3_call5_v114 : Ref sig .tc := ⟨.hbm, 1210, rfl⟩
abbrev main_call3_call5_v115 : Ref sig .tc := ⟨.hbm, 1211, rfl⟩
abbrev main_call3_call5_c_29 : Ref sig .tc := ⟨.hbm, 1212, rfl⟩
abbrev main_call3_call5_v116 : Ref sig .tc := ⟨.hbm, 1213, rfl⟩
abbrev main_call3_call5_v117 : Ref sig .tc := ⟨.hbm, 1214, rfl⟩
abbrev main_call3_call5_c_30 : Ref sig .tc := ⟨.hbm, 1215, rfl⟩
abbrev main_call3_call5_v118 : Ref sig .tc := ⟨.hbm, 1216, rfl⟩
abbrev main_call3_call5_v119 : Ref sig .tc := ⟨.hbm, 1217, rfl⟩
abbrev main_call3_call5_v120 : Ref sig .tc := ⟨.hbm, 1218, rfl⟩
abbrev main_call3_call5_v121 : Ref sig .tc := ⟨.hbm, 1219, rfl⟩
abbrev main_call3_call5_v122 : Ref sig .tc := ⟨.hbm, 1220, rfl⟩
abbrev main_call3_call5_c_31 : Ref sig .tc := ⟨.hbm, 1221, rfl⟩
abbrev main_call3_call5_v123 : Ref sig .tc := ⟨.hbm, 1222, rfl⟩
abbrev main_call3_call5_v124 : Ref sig .tc := ⟨.hbm, 1223, rfl⟩
abbrev main_call3_call5_c_32 : Ref sig .tc := ⟨.hbm, 1224, rfl⟩
abbrev main_call3_call5_v125 : Ref sig .tc := ⟨.hbm, 1225, rfl⟩
abbrev main_call3_call5_v126 : Ref sig .tc := ⟨.hbm, 1226, rfl⟩
abbrev main_call3_call5_v127 : Ref sig .tc := ⟨.hbm, 1227, rfl⟩
abbrev main_call3_call5_v128 : Ref sig .tc := ⟨.hbm, 1228, rfl⟩
abbrev main_call3_call5_v129 : Ref sig .tc := ⟨.hbm, 1229, rfl⟩
abbrev main_call3_call5_c_33 : Ref sig .tc := ⟨.hbm, 1230, rfl⟩
abbrev main_call3_call5_v130 : Ref sig .tc := ⟨.hbm, 1231, rfl⟩
abbrev main_call3_call5_v131 : Ref sig .tc := ⟨.hbm, 1232, rfl⟩
abbrev main_call3_call5_c_34 : Ref sig .tc := ⟨.hbm, 1233, rfl⟩
abbrev main_call3_call5_v132 : Ref sig .tc := ⟨.hbm, 1234, rfl⟩
abbrev main_call3_call5_v133 : Ref sig .tc := ⟨.hbm, 1235, rfl⟩
abbrev main_call3_call5_v134 : Ref sig .tc := ⟨.hbm, 1236, rfl⟩
abbrev main_call3_call5_v135 : Ref sig .tc := ⟨.hbm, 1237, rfl⟩
abbrev main_call3_call5_v136 : Ref sig .tc := ⟨.hbm, 1238, rfl⟩
abbrev main_call3_call5_v137 : Ref sig .tc := ⟨.hbm, 1239, rfl⟩
abbrev main_call3_call5_v138 : Ref sig .tc := ⟨.hbm, 1240, rfl⟩
abbrev main_call3_call5_v139 : Ref sig .tc := ⟨.hbm, 1241, rfl⟩
abbrev main_call3_call5_c_35 : Ref sig .tc := ⟨.hbm, 1242, rfl⟩
abbrev main_call3_call5_v140 : Ref sig .tc := ⟨.hbm, 1243, rfl⟩
abbrev main_call3_call5_v141 : Ref sig .tc := ⟨.hbm, 1244, rfl⟩
abbrev main_call3_call5_v142 : Ref sig .tc := ⟨.hbm, 1245, rfl⟩
abbrev main_call3_call5_c_36 : Ref sig .tc := ⟨.hbm, 1246, rfl⟩
abbrev main_call3_call5_v143 : Ref sig .tc := ⟨.hbm, 1247, rfl⟩
abbrev main_call3_call5_v144 : Ref sig .tc := ⟨.hbm, 1248, rfl⟩
abbrev main_call3_call5_c_37 : Ref sig .tc := ⟨.hbm, 1249, rfl⟩
abbrev main_call3_call5_v145 : Ref sig .tc := ⟨.hbm, 1250, rfl⟩
abbrev main_call3_call5_v146 : Ref sig .tc := ⟨.hbm, 1251, rfl⟩
abbrev main_call3_call5_v147 : Ref sig .tc := ⟨.hbm, 1252, rfl⟩
abbrev main_call3_call5_v148 : Ref sig .tc := ⟨.hbm, 1253, rfl⟩
abbrev main_call3_call5_v149 : Ref sig .tc := ⟨.hbm, 1254, rfl⟩
abbrev main_call3_call5_c_38 : Ref sig .tc := ⟨.hbm, 1255, rfl⟩
abbrev main_call3_call5_v150 : Ref sig .tc := ⟨.hbm, 1256, rfl⟩
abbrev main_call3_call5_v151 : Ref sig .tc := ⟨.hbm, 1257, rfl⟩
abbrev main_call3_call5_c_39 : Ref sig .tc := ⟨.hbm, 1258, rfl⟩
abbrev main_call3_call5_v152 : Ref sig .tc := ⟨.hbm, 1259, rfl⟩
abbrev main_call3_call5_v153 : Ref sig .tc := ⟨.hbm, 1260, rfl⟩
abbrev main_call3_call5_v154 : Ref sig .tc := ⟨.hbm, 1261, rfl⟩
abbrev main_call3_call5_v155 : Ref sig .tc := ⟨.hbm, 1262, rfl⟩
abbrev main_call3_call5_v156 : Ref sig .tc := ⟨.hbm, 1263, rfl⟩
abbrev main_call3_call5_c_40 : Ref sig .tc := ⟨.hbm, 1264, rfl⟩
abbrev main_call3_call5_v157 : Ref sig .tc := ⟨.hbm, 1265, rfl⟩
abbrev main_call3_call5_v158 : Ref sig .tc := ⟨.hbm, 1266, rfl⟩
abbrev main_call3_call5_c_41 : Ref sig .tc := ⟨.hbm, 1267, rfl⟩
abbrev main_call3_call5_v159 : Ref sig .tc := ⟨.hbm, 1268, rfl⟩
abbrev main_call3_call5_v160 : Ref sig .tc := ⟨.hbm, 1269, rfl⟩
abbrev main_call3_call5_v161 : Ref sig .tc := ⟨.hbm, 1270, rfl⟩
abbrev main_call3_call5_v162 : Ref sig .tc := ⟨.hbm, 1271, rfl⟩
abbrev main_call3_call5_v163 : Ref sig .tc := ⟨.hbm, 1272, rfl⟩
abbrev main_call3_call5_c_42 : Ref sig .tc := ⟨.hbm, 1273, rfl⟩
abbrev main_call3_call5_v164 : Ref sig .tc := ⟨.hbm, 1274, rfl⟩
abbrev main_call3_call5_v165 : Ref sig .tc := ⟨.hbm, 1275, rfl⟩
abbrev main_call3_call5_c_43 : Ref sig .tc := ⟨.hbm, 1276, rfl⟩
abbrev main_call3_call5_v166 : Ref sig .tc := ⟨.hbm, 1277, rfl⟩
abbrev main_call3_call5_v167 : Ref sig .tc := ⟨.hbm, 1278, rfl⟩
abbrev main_call3_call5_v168 : Ref sig .tc := ⟨.hbm, 1279, rfl⟩
abbrev main_call3_call5_v169 : Ref sig .tc := ⟨.hbm, 1280, rfl⟩
abbrev main_call3_call5_v170 : Ref sig .tc := ⟨.hbm, 1281, rfl⟩
abbrev main_call3_v45_0 : Ref sig .tc := ⟨.hbm, 1282, rfl⟩
abbrev main_call3_call5_v172 : Ref sig .tc := ⟨.hbm, 1283, rfl⟩
abbrev main_call3_call5_v173 : Ref sig .tc := ⟨.hbm, 1284, rfl⟩
abbrev main_call3_call5_c_44 : Ref sig .tc := ⟨.hbm, 1285, rfl⟩
abbrev main_call3_call5_v174 : Ref sig .tc := ⟨.hbm, 1286, rfl⟩
abbrev main_call3_v45_1 : Ref sig .tc := ⟨.hbm, 1287, rfl⟩
abbrev main_call3_v46 : Ref sig .tc := ⟨.hbm, 1288, rfl⟩
abbrev main_call3_v47 : Ref sig .tc := ⟨.hbm, 1289, rfl⟩
abbrev main_call3_v48 : Ref sig .tc := ⟨.hbm, 1290, rfl⟩
abbrev main_call3_v49 : Ref sig .tc := ⟨.hbm, 1291, rfl⟩
abbrev main_call3_c_12 : Ref sig .tc := ⟨.hbm, 1292, rfl⟩
abbrev main_call3_v50 : Ref sig .tc := ⟨.hbm, 1293, rfl⟩
abbrev main_call3_v51 : Ref sig .tc := ⟨.hbm, 1294, rfl⟩
abbrev main_call3_v52 : Ref sig .tc := ⟨.hbm, 1295, rfl⟩
abbrev main_call3_v53 : Ref sig .tc := ⟨.hbm, 1296, rfl⟩
abbrev main_call3_v54 : Ref sig .tc := ⟨.hbm, 1297, rfl⟩
abbrev main_call3_c_13 : Ref sig .tc := ⟨.hbm, 1298, rfl⟩
abbrev main_call3_v55 : Ref sig .tc := ⟨.hbm, 1299, rfl⟩
abbrev main_call3_v56 : Ref sig .tc := ⟨.hbm, 1300, rfl⟩
abbrev main_call3_v57 : Ref sig .tc := ⟨.hbm, 1301, rfl⟩
abbrev main_call3_c_14 : Ref sig .tc := ⟨.hbm, 1302, rfl⟩
abbrev main_call3_v58 : Ref sig .tc := ⟨.hbm, 1303, rfl⟩
abbrev main_call3_v59 : Ref sig .tc := ⟨.hbm, 1304, rfl⟩
abbrev main_call3_v60 : Ref sig .tc := ⟨.hbm, 1305, rfl⟩
abbrev main_call3_v61 : Ref sig .tc := ⟨.hbm, 1306, rfl⟩
abbrev main_call3_v62 : Ref sig .tc := ⟨.hbm, 1307, rfl⟩
abbrev main_call3_v63 : Ref sig .tc := ⟨.hbm, 1308, rfl⟩
abbrev main_call3_v64 : Ref sig .tc := ⟨.hbm, 1309, rfl⟩
abbrev main_call3_v65 : Ref sig .tc := ⟨.hbm, 1310, rfl⟩
abbrev main_call3_v66 : Ref sig .tc := ⟨.hbm, 1311, rfl⟩
abbrev main_call3_v67 : Ref sig .tc := ⟨.hbm, 1312, rfl⟩
abbrev main_call3_v68 : Ref sig .tc := ⟨.hbm, 1313, rfl⟩
abbrev main_call3_v69 : Ref sig .tc := ⟨.hbm, 1314, rfl⟩
abbrev main_call3_v70 : Ref sig .tc := ⟨.hbm, 1315, rfl⟩
abbrev main_call3_v71 : Ref sig .tc := ⟨.hbm, 1316, rfl⟩
abbrev main_call3_v72 : Ref sig .tc := ⟨.hbm, 1317, rfl⟩
abbrev main_v25 : Ref sig .tc := ⟨.hbm, 1318, rfl⟩
abbrev main_v26 : Ref sig .tc := ⟨.hbm, 1319, rfl⟩
abbrev main_cst_7 : Ref sig .tc := ⟨.hbm, 1320, rfl⟩
abbrev main_v27 : Ref sig .tc := ⟨.hbm, 1321, rfl⟩
abbrev main_v28 : Ref sig .tc := ⟨.hbm, 1322, rfl⟩
abbrev main_v29 : Ref sig .tc := ⟨.hbm, 1323, rfl⟩
abbrev main_v30 : Ref sig .tc := ⟨.hbm, 1324, rfl⟩
abbrev main_v31 : Ref sig .tc := ⟨.hbm, 1325, rfl⟩
abbrev main_cst_8 : Ref sig .tc := ⟨.hbm, 1326, rfl⟩
abbrev main_v32 : Ref sig .tc := ⟨.hbm, 1327, rfl⟩
abbrev main_v33 : Ref sig .tc := ⟨.hbm, 1328, rfl⟩
abbrev main_cst_9 : Ref sig .tc := ⟨.hbm, 1329, rfl⟩
abbrev main_cst_10 : Ref sig .tc := ⟨.hbm, 1330, rfl⟩
abbrev main_v34 : Ref sig .tc := ⟨.hbm, 1331, rfl⟩
abbrev main_v35 : Ref sig .tc := ⟨.hbm, 1332, rfl⟩
abbrev main_v36 : Ref sig .tc := ⟨.hbm, 1333, rfl⟩
abbrev main_v37 : Ref sig .tc := ⟨.hbm, 1334, rfl⟩

abbrev nD : Nat := 1
abbrev τ : Topo := Topo.v7x

variable {F : FTy → Type} [FloatOps F]
-- ==== Proof.Block.lean ====
module

public import proofs.«01_k».proof.Proof.Gen.KernelIdeal.Value
public import Idealize.ShloMosaic.PureOps.Ideal
public import Idealize.ShloMosaic.Lib.Pipeline.ValueKit.Basic

@[expose] public section

set_option maxRecDepth 16384

noncomputable section

namespace Cert.Block

open Idealize.ShloMosaic Cert.KernelIdeal Cert.KernelIdeal.Gen

/-! What one block of the kernel computes at one of its positions, in the kernel's own operations. -/

abbrev Word := BitVec 32

/-- A word turned left by `r`, as the kernel writes it (`s` is `32 - r`). -/
def turned (r s x : Word) : Word := IntOp.ori (IntOp.shli .vector x r) (IntOp.shrui .vector x s)

/-! The state of the hash between two rounds is kept as the sum of its two words and the second word. -/

/-- One round: the second word turned and crossed with the sum. -/
def step (r s : Word) (p : Word × Word) : Word × Word :=
  (IntOp.addi p.1 (IntOp.xori p.1 (turned r s p.2)), IntOp.xori p.1 (turned r s p.2))

/-- One round after which the key words `a`, `b` are added. -/
def keyed (r s a b : Word) (p : Word × Word) : Word × Word :=
  (IntOp.addi (IntOp.addi p.1 a) (IntOp.addi (IntOp.xori p.1 (turned r s p.2)) b), IntOp.addi (IntOp.xori p.1 (turned r s p.2)) b)

/-- The first round, on a counter to which its key word is already added. -/
def opened (k x : Word) : Word × Word :=
  (IntOp.addi (IntOp.addi x k) (IntOp.xori (turned 13#32 19#32 x) (IntOp.addi x k)),
    IntOp.xori (turned 13#32 19#32 x) (IntOp.addi x k))

/-- Rounds 1 to 5 on the counter `x`. -/
def toFive (k a b x : Word) : Word × Word :=
  step 17#32 15#32 (keyed 6#32 26#32 a b (step 26#32 6#32 (step 15#32 17#32 (opened k x))))

/-- Rounds 6 to 11. -/
def toEleven (a b : Word) (p : Word × Word) : Word × Word :=
  step 26#32 6#32 (step 15#32 17#32 (step 13#32 19#32 (keyed 24#32 8#32 a b (step 16#32 16#32 (step 29#32 3#32 p)))))

/-- Rounds 12 to 16. -/
def toSixteen (a b a' b' : Word) (p : Word × Word) : Word × Word :=
  keyed 24#32 8#32 a' b' (step 16#32 16#32 (step 29#32 3#32 (step 17#32 15#32 (keyed 6#32 26#32 a b p))))

/-- Rounds 18 to 20 and the two words crossed. -/
def closed (a b : Word) (p : Word × Word) : Word :=
  IntOp.xori (IntOp.addi (step 26#32 6#32 (step 15#32 17#32 p)).1 a)
    (IntOp.addi (IntOp.xori (step 26#32 6#32 (step 15#32 17#32 p)).1 (turned 6#32 26#32 (step 26#32 6#32 (step 15#32 17#32 p)).2)) b)

/-- The kernel's hash of a counter. -/
def hashed (k a₁ b₁ a₂ b₂ a₃ b₃ a₄ b₄ a₅ b₅ x : Word) : Word :=
  closed a₅ b₅ (step 13#32 19#32 (toSixteen a₃ b₃ a₄ b₄ (toEleven a₂ b₂ (toFive k a₁ b₁ x))))

/-- The hash under the mask's key. -/
def maskHash (x : Word) : Word :=
  hashed 1832780943#32 270669613#32 1724713081#32 1724713080#32 1832780945#32 1832780943#32 270669616#32
    270669613#32 1724713084#32 1724713080#32 1832780948#32 x

/-- The hash under the replacement tokens' key. -/
def sampleHash (x : Word) : Word :=
  hashed 2350016172#32 1168365246#32 3529550793#32 3529550792#32 2350016174#32 2350016172#32 1168365249#32
    1168365246#32 3529550796#32 3529550792#32 2350016177#32 x

/-- A hash's uniform draw in `[0, 1)`. -/
def fraction (w : Word) : Ideal .f32 :=
  FloatOps.subf (FloatOps.ofBits .f32 (IntOp.ori (w := 32) (IntOp.shrui .vector w 9#32) 1065353216#32)) (Scalar.ofBits .f32 0x3F800000#32)

/-- A hash's Gumbel score plus the logit `c`. -/
def rated (c : BitVec 32) (w : Word) : Ideal .f32 :=
  FloatOps.addf (FloatOps.subf (Scalar.ofBits .f32 0x00000000#32) (FloatOps.log (FloatOps.subf (Scalar.ofBits .f32 0x00000000#32)
    (FloatOps.log (fraction w))))) (Scalar.ofBits .f32 c)

/-- Whether the first score is at least the second. -/
def atLeast (a b : Ideal .f32) : BitVec 1 := FloatOps.cmpf (F := Ideal) (φ := .f32) .oge a b

/-- Whether a token is replaced: the comparison of the two scores of its counter. -/
def replaced (a : Word) : BitVec 1 :=
  atLeast (rated 0xBF9A1BC8#32 (maskHash a)) (rated 0xBEB69E19#32 (maskHash (IntOp.addi a 1#32)))

/-- A hash as a float. -/
def floated (w : Word) : Ideal .f32 :=
  FloatOps.addf (FloatOps.mulf (FloatOps.sitofp .f32 (IntOp.shrui .vector w 16#32)) (Scalar.ofBits .f32 0x47800000#32))
    (FloatOps.sitofp .f32 (IntOp.andi w 65535#32))

/-- A hash less 100000 times its approximate quotient. -/
def rest (w : Word) : Word :=
  IntOp.subi w (IntOp.muli (FloatOps.fptosi 32 (FloatOps.floor (FloatOps.mulf (floated w) (Scalar.ofBits .f32 0x3727C5AC#32)))) 100000#32)

/-- A remainder brought up if it is negative. -/
def raised (r : Word) : Word := Scalar.select (IntOp.cmpi .slt r 0#32) (IntOp.addi r 100000#32) r

/-- A remainder brought down if it is too large. -/
def lowered (r : Word) : Word := Scalar.select (IntOp.cmpi .sge r 100000#32) (IntOp.subi r 100000#32) r

/-- The kernel's result at a position with token `x` and counters `a`, `b`. -/
def result (x : Ideal .f32) (a b : Word) : Ideal .f32 :=
  Scalar.select (replaced a) (FloatOps.sitofp .f32 (lowered (raised (rest (sampleHash b))))) x

/-! The kernel's vectors at a position: the three hashes, each cut at the same four places. -/

section Vectors

variable (v u : IVec S8x8192 32) (i : S8x8192.Idx)

/-- The last rounds and the two words crossed, on vectors. -/
def ended (a b : Word) : IVec S8x8192 32 :=
  let z := xori u (ori (shli v (broadcast S8x8192 13#32)) (shrui v (broadcast S8x8192 19#32)))
  let s := addi u z
  let z := xori s (ori (shli z (broadcast S8x8192 15#32)) (shrui z (broadcast S8x8192 17#32)))
  let s := addi s z
  let z := xori s (ori (shli z (broadcast S8x8192 26#32)) (shrui z (broadcast S8x8192 6#32)))
  let s := addi s z
  let z := xori s (ori (shli z (broadcast S8x8192 6#32)) (shrui z (broadcast S8x8192 26#32)))
  xori (addi s (broadcast S8x8192 a)) (addi z (broadcast S8x8192 b))

/-- They are the rounds of a single word. -/
theorem ended_at (a b : Word) : ended v u a b i = closed a b (step 13#32 19#32 (u i, v i)) := by
  simp only [ended, closed, step, turned, addi, xori, ori, shli, shrui, broadcast]

/-- The score of a hash, on vectors. -/
def scored (c : BitVec 32) (w : IVec S8x8192 32) : FVec Ideal S8x8192 .f32 :=
  addf (subf (broadcast S8x8192 (Scalar.ofBits .f32 0x00000000#32)) (log (subf (broadcast S8x8192 (Scalar.ofBits .f32 0x00000000#32))
    (log (subf (bitcastToFloat .f32 (ori (w := 32) (shrui w (broadcast S8x8192 9#32)) (broadcast S8x8192 1065353216#32)))
      (broadcast S8x8192 (Scalar.ofBits .f32 0x3F800000#32)))))))
    (broadcast S8x8192 (Scalar.ofBits .f32 c))

/-- It is the score of a single hash. -/
theorem scored_at (c : BitVec 32) (w : IVec S8x8192 32) : scored c w i = rated c (w i) := rfl

/-- Rounds 1 to 5, the first mask hash. -/
theorem five₀ : (k0_pay13 (F := Ideal) v i, k0_pay12 (F := Ideal) v i)
    = toFive 1832780943#32 270669613#32 1724713081#32 (k0_pay2 (F := Ideal) v i) := by
  simp only [k0_pay3, k0_pay4, k0_pay5, k0_pay6, k0_pay7, k0_pay8, k0_pay9, k0_pay10, k0_pay11, k0_pay12, k0_pay13,
    toFive, step, keyed, opened, turned, addi, xori, ori, shli, shrui, broadcast]

/-- Rounds 6 to 11, the first mask hash. -/
theorem eleven₀ : (k0_pay25 v u 29#32 i, k0_pay24 v u 29#32 i)
    = toEleven 1724713080#32 1832780945#32 (u i, v i) := by
  simp only [k0_pay14, k0_pay15, k0_pay16, k0_pay17, k0_pay18, k0_pay19, k0_pay20, k0_pay21, k0_pay22, k0_pay23, k0_pay24, k0_pay25,
    toEleven, step, keyed, turned, addi, xori, ori, shli, shrui, broadcast]

/-- Rounds 12 to 16, the first mask hash. -/
theorem sixteen₀ : (k0_pay35 v u 6#32 i, k0_pay34 v u 6#32 i)
    = toSixteen 1832780943#32 270669616#32 270669613#32 1724713084#32 (u i, v i) := by
  simp only [k0_pay26, k0_pay27, k0_pay28, k0_pay29, k0_pay30, k0_pay31, k0_pay32, k0_pay33, k0_pay34, k0_pay35,
    toSixteen, step, keyed, turned, addi, xori, ori, shli, shrui, broadcast]

/-- The last rounds and what is made of the hash, the first mask hash: the vectors. -/
theorem ended₀ : k0_pay37 (F := Ideal) v u (shli v (broadcast S8x8192 13#32)) 19#32
    = scored 0xBF9A1BC8#32 (ended v u 1724713080#32 1832780948#32) := by
  unfold k0_pay37 scored ended
  rfl

/-- The last rounds and what is made of the hash, the first mask hash. -/
theorem last₀ : k0_pay37 (F := Ideal) v u (shli v (broadcast S8x8192 13#32)) 19#32 i
    = rated 0xBF9A1BC8#32 (closed 1724713080#32 1832780948#32 (step 13#32 19#32 (u i, v i))) :=
  (congrFun (ended₀ v u) i).trans ((scored_at i _ (ended v u 1724713080#32 1832780948#32)).trans
    (congrArg (rated 0xBF9A1BC8#32) (ended_at v u i 1724713080#32 1832780948#32)))

/-- Rounds 1 to 5, the second mask hash. -/
theorem five₁ : (k0_pay49 v 1#32 i, k0_pay48 v 1#32 i)
    = toFive 1832780943#32 270669613#32 1724713081#32 (IntOp.addi (v i) 1#32) := by
  simp only [k0_pay38, k0_pay39, k0_pay40, k0_pay41, k0_pay42, k0_pay43, k0_pay44, k0_pay45, k0_pay46, k0_pay47, k0_pay48, k0_pay49,
    toFive, step, keyed, opened, turned, addi, xori, ori, shli, shrui, broadcast]

/-- Rounds 6 to 11, the second mask hash. -/
theorem eleven₁ : (k0_pay62 v u (shli v (broadcast S8x8192 29#32)) 3#32 i, k0_pay61 v u (shli v (broadcast S8x8192 29#32)) 3#32 i)
    = toEleven 1724713080#32 1832780945#32 (u i, v i) := by
  simp only [k0_pay51, k0_pay52, k0_pay53, k0_pay54, k0_pay55, k0_pay56, k0_pay57, k0_pay58, k0_pay59, k0_pay60, k0_pay61, k0_pay62,
    toEleven, step, keyed, turned, addi, xori, ori, shli, shrui, broadcast]

/-- Rounds 12 to 16, the second mask hash. -/
theorem sixteen₁ : (k0_pay73 v u (shli v (broadcast S8x8192 6#32)) 26#32 i, k0_pay72 v u (shli v (broadcast S8x8192 6#32)) 26#32 i)
    = toSixteen 1832780943#32 270669616#32 270669613#32 1724713084#32 (u i, v i) := by
  simp only [k0_pay64, k0_pay65, k0_pay66, k0_pay67, k0_pay68, k0_pay69, k0_pay70, k0_pay71, k0_pay72, k0_pay73,
    toSixteen, step, keyed, turned, addi, xori, ori, shli, shrui, broadcast]

/-- The last rounds and what is made of the hash, the second mask hash: the vectors. -/
theorem ended₁ (z : FVec Ideal S8x8192 .f32) :
    k0_pay75 (F := Ideal) z u (ori (shli v (broadcast S8x8192 13#32)) (shrui v (broadcast S8x8192 19#32)))
      = cmpf .oge z (scored 0xBEB69E19#32 (ended v u 1724713080#32 1832780948#32)) := by
  unfold k0_pay75 scored ended
  rfl

/-- The score of the second mask hash. -/
theorem last₁ : scored 0xBEB69E19#32 (ended v u 1724713080#32 1832780948#32) i
    = rated 0xBEB69E19#32 (closed 1724713080#32 1832780948#32 (step 13#32 19#32 (u i, v i))) :=
  (scored_at i _ (ended v u 1724713080#32 1832780948#32)).trans
    (congrArg (rated 0xBEB69E19#32) (ended_at v u i 1724713080#32 1832780948#32))

/-- Rounds 1 to 5, the replacement hash. -/
theorem five₂ : (k0_pay87 (F := Ideal) v i, k0_pay86 (F := Ideal) v i)
    = toFive 2350016172#32 1168365246#32 3529550793#32 (k0_pay76 (F := Ideal) v i) := by
  simp only [k0_pay77, k0_pay78, k0_pay79, k0_pay80, k0_pay81, k0_pay82, k0_pay83, k0_pay84, k0_pay85, k0_pay86, k0_pay87,
    toFive, step, keyed, opened, turned, addi, xori, ori, shli, shrui, broadcast]

/-- Rounds 6 to 11, the replacement hash. -/
theorem eleven₂ : (k0_pay101 v u (shli v (broadcast S8x8192 29#32)) k0_pay89 i, k0_pay100 v u (shli v (broadcast S8x8192 29#32)) k0_pay89 i)
    = toEleven 3529550792#32 2350016174#32 (u i, v i) := by
  simp only [k0_pay89, k0_pay90, k0_pay91, k0_pay92, k0_pay93, k0_pay94, k0_pay95, k0_pay96, k0_pay97, k0_pay98, k0_pay99, k0_pay100, k0_pay101,
    toEleven, step, keyed, turned, addi, xori, ori, shli, shrui, broadcast]

/-- Rounds 12 to 16, the replacement hash. -/
theorem sixteen₂ : (k0_pay113 v u (shli v (broadcast S8x8192 6#32)) k0_pay103 i, k0_pay112 v u (shli v (broadcast S8x8192 6#32)) k0_pay103 i)
    = toSixteen 2350016172#32 1168365249#32 1168365246#32 3529550796#32 (u i, v i) := by
  simp only [k0_pay103, k0_pay104, k0_pay105, k0_pay106, k0_pay107, k0_pay108, k0_pay109, k0_pay110, k0_pay111, k0_pay112, k0_pay113,
    toSixteen, step, keyed, turned, addi, xori, ori, shli, shrui, broadcast]

/-- The last rounds and what is made of the hash, the replacement hash. -/
theorem last₂ : k0_pay115 (F := Ideal) u (xori u (ori (shli v (broadcast S8x8192 13#32)) (shrui v (broadcast S8x8192 19#32)))) i
    = rest (closed 3529550792#32 2350016177#32 (step 13#32 19#32 (u i, v i))) := by
  simp only [k0_pay115,
    rest, floated, closed, step, turned, andi, muli, subi, sitofp, fptosi, floor, mulf, addf, addi, xori, ori, shli, shrui, broadcast]

/-- A comparison of vectors at a position. -/
theorem compared_at (x y : FVec Ideal S8x8192 .f32) : cmpf .oge x y i = atLeast (x i) (y i) := rfl

/-- The mask from the states of the two mask hashes after eleven rounds. -/
theorem masked (v' u' : IVec S8x8192 32) :
    k0_pay75 (F := Ideal) (k0_pay37 (F := Ideal) (k0_pay34 v u 6#32) (k0_pay35 v u 6#32) (k0_pay36 v u 6#32) 19#32)
        (k0_pay73 v' u' (shli v' (broadcast S8x8192 6#32)) 26#32) (k0_pay74 v' u' (shli v' (broadcast S8x8192 6#32)) 26#32) i
      = atLeast
          (rated 0xBF9A1BC8#32 (closed 1724713080#32 1832780948#32 (step 13#32 19#32
            (toSixteen 1832780943#32 270669616#32 270669613#32 1724713084#32 (u i, v i)))))
          (rated 0xBEB69E19#32 (closed 1724713080#32 1832780948#32 (step 13#32 19#32
            (toSixteen 1832780943#32 270669616#32 270669613#32 1724713084#32 (u' i, v' i))))) := by
  have e : k0_pay36 v u 6#32 = shli (k0_pay34 v u 6#32) (broadcast S8x8192 13#32) := by
    unfold k0_pay36
    rfl
  have e' : k0_pay74 v' u' (shli v' (broadcast S8x8192 6#32)) 26#32
      = ori (shli (k0_pay72 v' u' (shli v' (broadcast S8x8192 6#32)) 26#32) (broadcast S8x8192 13#32))
          (shrui (k0_pay72 v' u' (shli v' (broadcast S8x8192 6#32)) 26#32) (broadcast S8x8192 19#32)) := by
    unfold k0_pay74
    rfl
  rw [e, e', ended₁, ended₀, compared_at, last₁, scored_at, ended_at, sixteen₁, sixteen₀]

end Vectors

/-- The mask at a position of the block. -/
theorem mask_at (x0 : Vec Ideal S8x8192 .f32) (x1 x2 : Vec Ideal S8x8192 .i32) (i : S8x8192.Idx) (e₁ : View.ld x1 r0_0 = x1) :
    k0_pay75 (F := Ideal) (k0_pay37 (F := Ideal) (k0_pay34 (k0_pay121 x0 x1 x2) (k0_pay122 x0 x1 x2) 6#32) (k0_pay35 (k0_pay121 x0 x1 x2) (k0_pay122 x0 x1 x2) 6#32) (k0_pay36 (k0_pay121 x0 x1 x2) (k0_pay122 x0 x1 x2) 6#32) 19#32) (k0_pay73 (k0_pay126 x0 x1 x2) (k0_pay127 x0 x1 x2) (k0_pay128 x0 x1 x2) 26#32) (k0_pay74 (k0_pay126 x0 x1 x2) (k0_pay127 x0 x1 x2) (k0_pay128 x0 x1 x2) 26#32) i
      = replaced (x1 i) := by
  have f₁ : k0_pay2 (F := Ideal) x1 = x1 := shapeCast_self _ _
  have g : k0_pay128 x0 x1 x2 = shli (k0_pay126 x0 x1 x2) (broadcast S8x8192 6#32) := by
    unfold k0_pay128 k0_pay126 k0_pay63
    rfl
  have g' : k0_pay125 x0 x1 x2 = shli (k0_pay123 x0 x1 x2) (broadcast S8x8192 29#32) := by
    unfold k0_pay125 k0_pay123 k0_pay50
    rfl
  have h : (k0_pay122 x0 x1 x2 i, k0_pay121 x0 x1 x2 i)
      = toEleven 1724713080#32 1832780945#32 (toFive 1832780943#32 270669613#32 1724713081#32 (x1 i)) := by
    unfold k0_pay121 k0_pay122
    rw [eleven₀]
    unfold k0_pay119 k0_pay120
    rw [five₀, e₁, f₁]
  have h' : (k0_pay127 x0 x1 x2 i, k0_pay126 x0 x1 x2 i)
      = toEleven 1724713080#32 1832780945#32 (toFive 1832780943#32 270669613#32 1724713081#32 (IntOp.addi (x1 i) 1#32)) := by
    unfold k0_pay126 k0_pay127
    rw [g', eleven₁]
    unfold k0_pay123 k0_pay124
    rw [five₁]
    unfold k0_pay118
    rw [e₁, f₁]
  rw [g, masked, h, h']
  rfl

/-- The approximate remainder at a position of the block. -/
theorem rest_at (x0 : Vec Ideal S8x8192 .f32) (x1 x2 : Vec Ideal S8x8192 .i32) (i : S8x8192.Idx) (e₂ : View.ld x2 r0_0 = x2) :
    k0_pay115 (F := Ideal) (k0_pay137 x0 x1 x2) (k0_pay138 x0 x1 x2) i = rest (sampleHash (x2 i)) := by
  have f₂ : k0_pay76 (F := Ideal) x2 = x2 := shapeCast_self _ _
  refine (last₂ (k0_pay112 (k0_pay133 x0 x1 x2) (k0_pay134 x0 x1 x2) (k0_pay135 x0 x1 x2) (k0_pay136 x0 x1 x2)) _ i).trans ?_
  refine congrArg (fun p => rest (closed 3529550792#32 2350016177#32 (step 13#32 19#32 p))) ?_
  refine (sixteen₂ (k0_pay133 x0 x1 x2) (k0_pay134 x0 x1 x2) i).trans (congrArg _ ?_)
  refine (eleven₂ (k0_pay129 x0 x1 x2) (k0_pay130 x0 x1 x2) i).trans (congrArg _ ?_)
  unfold k0_pay129 k0_pay130
  refine (five₂ _ i).trans ?_
  rw [e₂, f₂]

/-- A block's result at a position is the kernel's result there. -/
theorem out_at (x0 : Vec Ideal S8x8192 .f32) (x1 x2 : Vec Ideal S8x8192 .i32) (i : S8x8192.Idx) :
    out0_3 x0 x1 x2 i = result (x0 i) (x1 i) (x2 i) := by
  have e₀ : View.ld x0 r0_0 = x0 := View.ld_unit_lit (S := S8x8192) _ x0 (by decide)
  have e₁ : View.ld x1 r0_0 = x1 := View.ld_unit_lit (S := S8x8192) _ x1 (by decide)
  have e₂ : View.ld x2 r0_0 = x2 := View.ld_unit_lit (S := S8x8192) _ x2 (by decide)
  unfold out0_3
  refine (congrFun (View.canon_cons_unit_lit (S := S8x8192) _ _ _ (by decide)) i).trans ?_
  simp only [k0_pay1, k0_pay116, k0_pay117, select, sitofp, cmpi, addi, subi, broadcast]
  rw [mask_at x0 x1 x2 i e₁, rest_at x0 x1 x2 i e₂, e₀]
  rfl

end Cert.Block

end
-- ==== Proof.Array.lean ====
module

public import proofs.«01_k».proof.Proof.Block
public import Idealize.ShloMosaic.Lib.StableHlo.ReadAt
public import Idealize.ShloMosaic.Lib.Pipeline.Value

@[expose] public section

set_option maxRecDepth 16384

noncomputable section

namespace Cert.Array

open Idealize.ShloMosaic Idealize.ShloMosaic.TcCoe Idealize.SL.Sem Cert.KernelIdeal Cert.KernelIdeal.Gen
open Idealize.ShloMosaic.Pipeline (Dat)
open Cert.Block (result out_at)

/-! What the kernel's result array holds: at every position, the block's result of the token and the two
    counters there. -/

variable (m : (ℓ : Loc nD τ sig) → Buf (Elt Ideal) ℓ)

/-- The array whose blocks the grid writes: the block's result, position by position, of the three input arrays. -/
abbrev whole (c : Dev nD) : S128x8192.Idx → EReal := fun i =>
  result (V m c (Pipeline.arrRef spec0 0) i) (V m c (Pipeline.arrRef spec0 1) i) (V m c (Pipeline.arrRef spec0 2) i)

/-- A whole block is written back. -/
theorem cut_eq (t : Fin cfg0.N) (X : S8x8192.Idx → EReal) : (cfg0.win 3).cut (grid0.coords t) X = X := rfl

/-- The block's result as one function of its positions. -/
theorem out_eq (x0 : Vec Ideal S8x8192 .f32) (x1 x2 : Vec Ideal S8x8192 .i32) :
    out0_3 x0 x1 x2 = fun i => result (x0 i) (x1 i) (x2 i) := funext (out_at x0 x1 x2)

/-- A function of the positions of a block, computed from three arrays' blocks, is the block of the function of the
    arrays' positions. -/
theorem block_of (t : Fin cfg0.N) (f : EReal → BitVec 32 → BitVec 32 → EReal) (A₀ : S128x8192.Idx → EReal)
    (A₁ A₂ : S128x8192.Idx → BitVec 32) (x0 : S8x8192.Idx → EReal) (x1 x2 : S8x8192.Idx → BitVec 32)
    (h₀ : x0 = (win0_0.blk t).view.read (Elt Ideal) A₀) (h₁ : x1 = (win0_1.blk t).view.read (Elt Ideal) A₁)
    (h₂ : x2 = (win0_2.blk t).view.read (Elt Ideal) A₂) :
    (fun i : S8x8192.Idx => f (x0 i) (x1 i) (x2 i))
      = (win0_3.blk t).view.read (Elt Ideal) (fun i => f (A₀ i) (A₁ i) (A₂ i) : S128x8192.Idx → EReal) := by
  subst h₀ h₁ h₂
  rfl

/-- What point `t` writes back is block `t` of the results of any three arrays whose blocks it read. -/
theorem block_eq (t : Fin cfg0.N) (A₀ : S128x8192.Idx → EReal) (A₁ A₂ : S128x8192.Idx → BitVec 32)
    (x0 : Vec Ideal S8x8192 .f32) (x1 x2 : Vec Ideal S8x8192 .i32) (h₀ : x0 = (win0_0.blk t).view.read (Elt Ideal) A₀)
    (h₁ : x1 = (win0_1.blk t).view.read (Elt Ideal) A₁) (h₂ : x2 = (win0_2.blk t).view.read (Elt Ideal) A₂) :
    (cfg0.win 3).cut (grid0.coords t) (out0_3 x0 x1 x2)
      = (win0_3.blk t).view.read (Elt Ideal) (fun i => result (A₀ i) (A₁ i) (A₂ i) : S128x8192.Idx → EReal) := by
  rw [← block_of t result A₀ A₁ A₂ x0 x1 x2 h₀ h₁ h₂, ← out_eq]
  exact cut_eq t (out0_3 x0 x1 x2)

/-- What point `t` writes back is block `t` of `whole`. -/
theorem flushed_eq (c : Dev nD) (t : Fin cfg0.N) :
    (dats m 0 c).flushed 3 t = (win0_3.blk t).view.read (Elt Ideal) (whole m c) := by
  rw [Value.flushed3]
  exact block_eq t (V m c (Pipeline.arrRef spec0 0)) (V m c (Pipeline.arrRef spec0 1)) (V m c (Pipeline.arrRef spec0 2)) _ _ _ rfl rfl rfl

/-- An index of the result array lies in point `t`'s block when its row does. -/
theorem mem_blk (t : Fin cfg0.N) (i : S128x8192.Idx) :
    i ∈ ((cfg0.win 3).blk t).view.set ↔ t.val * 8 ≤ (i 0 : Nat) ∧ (i 0 : Nat) < t.val * 8 + 8 := by
  show i ∈ ((View.whole main_v8).slice (win0_3.rect t)).set ↔ _
  rw [View.set_slice_whole, Rect.mem_set_unit]
  have h1 : (i 1 : Nat) < 8192 := (i 1).isLt
  have e : ∀ t : Fin grid0.N, win0_3.index t 0 * win0_3.size 0 = t.val * 8 ∧ win0_3.xsize (grid0.coords t) 0 = 8
      ∧ win0_3.index t 1 * win0_3.size 1 = 0 ∧ win0_3.xsize (grid0.coords t) 1 = 8192 := by
    decide +kernel
  obtain ⟨e₀, e₁, e₂, e₃⟩ := e t
  refine ⟨fun h => ?_, fun h a => ?_⟩
  · have : win0_3.index t 0 * win0_3.size 0 ≤ (i 0 : Nat) ∧ (i 0 : Nat) < win0_3.index t 0 * win0_3.size 0 + win0_3.xsize (grid0.coords t) 0 := h 0
    rwa [e₀, e₁] at this
  · match a with
    | ⟨0, _⟩ =>
      show win0_3.index t 0 * win0_3.size 0 ≤ (i 0 : Nat) ∧ (i 0 : Nat) < win0_3.index t 0 * win0_3.size 0 + win0_3.xsize (grid0.coords t) 0
      rwa [e₀, e₁]
    | ⟨1, _⟩ =>
      show win0_3.index t 1 * win0_3.size 1 ≤ (i 1 : Nat) ∧ (i 1 : Nat) < win0_3.index t 1 * win0_3.size 1 + win0_3.xsize (grid0.coords t) 1
      rw [e₂, e₃]
      omega

/-- Every position lies in a block the grid writes back. -/
theorem cover (i : S128x8192.Idx) :
    ∃ t : Fin cfg0.N, (cfg0.win 3).flush t = true ∧ i ∈ ((cfg0.win 3).blk t).view.set := by
  have h0 : (i 0 : Nat) < 128 := (i 0).isLt
  have hN : cfg0.N = 16 := N_0
  refine ⟨⟨(i 0 : Nat) / 8, by omega⟩, flush0_3 _, ?_⟩
  rw [mem_blk]
  dsimp only
  omega

/-- The kernel's result array after the run. -/
theorem final (c : Dev nD) : (dats m 0 c).arrAt 3 cfg0.N = whole m c :=
  (dats m 0 c).arrAt_eq_of_cover 3 (whole m c) (fun t _ => flushed_eq m c t) cover

/-- The flat position of an index. -/
theorem flat (r : Fin 128) (k : Fin 8192) (x : S1048576.Idx → BitVec 32) (h : S1048576.ShapeCasts S128x8192)
    (hx : ∀ j, x j = BitVec.ofNat 32 (j 0).val) : shapeCast S128x8192 x h (ix2 r k) = BitVec.ofNat 32 (8192 * r.val + k.val) := by
  rw [shapeCast_apply _ _ (ix2 r k) (ix1 ⟨8192 * r.val + k.val, by omega⟩) (by
    rw [Shape.rowMajor_val_one, Shape.rowMajor_val_two]
    show 8192 * r.val + k.val = r.val * 8192 + k.val
    omega), hx]
  rfl

/-- The mask's counters. -/
theorem maskCounter (c : Dev nD) (r : Fin 128) (k : Fin 8192) :
    (V m c main_v5 : S128x8192.Idx → BitVec 32) (ix2 r k) = BitVec.ofNat 32 (2 * (8192 * r.val + k.val)) + 270669613#32 := by
  have e : (V m c main_v5 : S128x8192.Idx → BitVec 32)
      = addi (muli (shapeCast S128x8192 (iotaInDim S1048576 32 0) shapeCasts_S1048576_S128x8192)
          (broadcastInDim S128x8192 ![] bcast_S_S128x8192 (constantI S_ 32 2#32)))
        (broadcastInDim S128x8192 ![] bcast_S_S128x8192 (constantI S_ 32 270669613#32)) := by
    unfold V hostOps0
    after_reads_simp
    rfl
  rw [e]
  show shapeCast S128x8192 (iotaInDim S1048576 32 0) shapeCasts_S1048576_S128x8192 (ix2 r k) * 2#32 + 270669613#32 = _
  rw [flat r k (iotaInDim S1048576 32 0) _ fun j => rfl, Nat.mul_comm 2, BitVec.ofNat_mul]

/-- The sample's counters. -/
theorem sampleCounter (c : Dev nD) (r : Fin 128) (k : Fin 8192) :
    (V m c main_v7 : S128x8192.Idx → BitVec 32) (ix2 r k) = BitVec.ofNat 32 (8192 * r.val + k.val) + 1168365246#32 := by
  have e : (V m c main_v7 : S128x8192.Idx → BitVec 32)
      = addi (shapeCast S128x8192 (iotaInDim S1048576 32 0) shapeCasts_S1048576_S128x8192)
        (broadcastInDim S128x8192 ![] bcast_S_S128x8192 (constantI S_ 32 1168365246#32)) := by
    unfold V hostOps0
    after_reads_simp
    rfl
  rw [e]
  show shapeCast S128x8192 (iotaInDim S1048576 32 0) shapeCasts_S1048576_S128x8192 (ix2 r k) + 1168365246#32 = _
  rw [flat r k (iotaInDim S1048576 32 0) _ fun j => rfl]

end Cert.Array

end
-- ==== Proof.Hash.lean ====
module

public import Mathlib.Data.Nat.Basic

@[expose] public section

namespace Cert.Hash

/-- One 32-bit word. -/
abbrev Word := BitVec 32

/-- A word turned left by `r` places. -/
def turn (r : Nat) (x : Word) : Word := x <<< r ||| x >>> (32 - r)

/-- One round of the cipher on the pair of words `x`: the first word gains the second, and the second,
    turned by `r`, is crossed with the new first. -/
def stir (r : Nat) (x : Word × Word) : Word × Word := (x.1 + x.2, turn r x.2 ^^^ (x.1 + x.2))

/-- Four rounds and the key words `a`, `b` added. -/
def four (r₀ r₁ r₂ r₃ : Nat) (a b : Word) (x : Word × Word) : Word × Word :=
  let y := stir r₃ (stir r₂ (stir r₁ (stir r₀ x)))
  (y.1 + a, y.2 + b)

/-- The third key word. -/
def third (k₀ k₁ : Word) : Word := k₀ ^^^ k₁ ^^^ 0x1BD11BDA#32

/-- The twenty rounds of Threefry-2x32 from a state to which the key words are already added. -/
def rounds (k₀ k₁ : Word) (x : Word × Word) : Word × Word :=
  four 13 15 26 6 k₂ (k₀ + 5#32) <| four 17 29 16 24 k₁ (k₂ + 4#32) <| four 13 15 26 6 k₀ (k₁ + 3#32) <|
    four 17 29 16 24 k₂ (k₀ + 2#32) <| four 13 15 26 6 k₁ (k₂ + 1#32) x
where k₂ : Word := third k₀ k₁

/-- Threefry-2x32 of the counter `(c₀, c₁)` under the key `(k₀, k₁)`. -/
def cipher (k₀ k₁ c₀ c₁ : Word) : Word × Word := rounds k₀ k₁ (c₀ + k₀, c₁ + k₁)

/-- The random word at position `n` of the stream of the key `(k₀, k₁)`. -/
def word (k₀ k₁ : Word) (n : Nat) : Word :=
  (cipher k₀ k₁ 0 (BitVec.ofNat 32 n)).1 ^^^ (cipher k₀ k₁ 0 (BitVec.ofNat 32 n)).2

/-- The key under which the mask is drawn. -/
def maskKey : Word × Word := (1832780943#32, 270669613#32)

/-- The key under which the replacement tokens are drawn. -/
def sampleKey : Word × Word := (2350016172#32, 1168365246#32)

/-- The 23 random bits at position `n` of the mask's stream. -/
def bits (n : Nat) : Nat := (word maskKey.1 maskKey.2 n).toNat / 2 ^ 9

/-- The two draws `m₀`, `m₁` of a position are nonzero and `(m₀ / 2^23)^7` and `(m₁ / 2^23)^3` lie apart by a
    factor of more than `1.000007`. -/
def Apart (m₀ m₁ : Nat) : Prop :=
  1 ≤ m₀ ∧ 1 ≤ m₁ ∧ (m₁ ^ 3 * 2 ^ 92 * 1000007 ≤ m₀ ^ 7 * 1000000 ∨ m₀ ^ 7 * 1000007 ≤ m₁ ^ 3 * 2 ^ 92 * 1000000)

end Cert.Hash

end
-- ==== Proof.Lanes.lean ====
module

public import proofs.«01_k».proof.Proof.Hash
public import Mathlib.Tactic.Ring
public import Mathlib.Tactic.Linarith

@[expose] public section

noncomputable section

namespace Cert.Hash

/-! Many words at once: `n` words side by side in one natural number, one per lane of 64 bits. -/

/-- The values `f s, …, f (s + n - 1)`, one per lane of 64 bits, the first in the lowest. -/
def lanes : Nat → Nat → (Nat → Nat) → Nat
  | 0, _, _ => 0
  | n + 1, s, f => 2 ^ 64 * lanes n (s + 1) f + f s

theorem lanes_congr {f g : Nat → Nat} : ∀ (n s : Nat), (∀ i, s ≤ i → i < s + n → f i = g i) → lanes n s f = lanes n s g
  | 0, _, _ => rfl
  | n + 1, s, h => by
    rw [lanes, lanes, h s (by omega) (by omega), lanes_congr n (s + 1) fun i h₁ h₂ => h i (by omega) (by omega)]

theorem lanes_const (c : Nat) : ∀ n s, lanes n s (fun _ => c) = c * lanes n 0 (fun _ => 1) := by
  have key : ∀ n s t, lanes n s (fun _ => c) = c * lanes n t (fun _ => 1) := by
    intro n
    induction n with
    | zero => intros; rfl
    | succ n ih => intro s t; rw [lanes, lanes, ih (s + 1) (t + 1)]; ring
  exact fun n s => key n s 0

theorem lanes_add (f g : Nat → Nat) : ∀ n s, lanes n s f + lanes n s g = lanes n s fun i => f i + g i
  | 0, _ => by simp [lanes]
  | n + 1, s => by rw [lanes, lanes, lanes, ← lanes_add f g n (s + 1)]; ring

/-- The running index: `s, s + 1, …`. -/
theorem lanes_index (s : Nat) : ∀ n, s * lanes n 0 (fun _ => 1) + lanes n 0 (fun i => i) = lanes n s fun i => i := by
  have key : ∀ n t u, s * lanes n t (fun _ => 1) + lanes n u (fun i => i) = lanes n (s + u) fun i => i := by
    intro n
    induction n with
    | zero => intros; rfl
    | succ n ih =>
      intro t u
      have h := ih (t + 1) (u + 1)
      rw [lanes, lanes, lanes, show s + u + 1 = s + (u + 1) by omega, ← h]; ring
  exact fun n => by simpa using key n 0 0

theorem lanes_shiftLeft (r : Nat) (f : Nat → Nat) : ∀ n s, lanes n s f <<< r = lanes n s fun i => f i <<< r
  | 0, _ => Nat.zero_shiftLeft r
  | n + 1, s => by
    rw [lanes, lanes, ← lanes_shiftLeft r f n (s + 1)]
    simp only [Nat.shiftLeft_eq]; ring

theorem lanes_land (f g : Nat → Nat) (hf : ∀ i, f i < 2 ^ 64) (hg : ∀ i, g i < 2 ^ 64) :
    ∀ n s, lanes n s f &&& lanes n s g = lanes n s fun i => f i &&& g i
  | 0, _ => by simp [lanes]
  | n + 1, s => by
    rw [lanes, lanes, lanes, ← lanes_land f g hf hg n (s + 1)]
    refine Nat.eq_of_testBit_eq fun k => ?_
    rw [Nat.testBit_and, Nat.testBit_two_pow_mul_add _ (hf s), Nat.testBit_two_pow_mul_add _ (hg s),
      Nat.testBit_two_pow_mul_add _ (Nat.and_lt_two_pow _ (hg s))]
    split <;> rw [Nat.testBit_and]

theorem lanes_lor (f g : Nat → Nat) (hf : ∀ i, f i < 2 ^ 64) (hg : ∀ i, g i < 2 ^ 64) :
    ∀ n s, lanes n s f ||| lanes n s g = lanes n s fun i => f i ||| g i
  | 0, _ => by simp [lanes]
  | n + 1, s => by
    rw [lanes, lanes, lanes, ← lanes_lor f g hf hg n (s + 1)]
    refine Nat.eq_of_testBit_eq fun k => ?_
    rw [Nat.testBit_or, Nat.testBit_two_pow_mul_add _ (hf s), Nat.testBit_two_pow_mul_add _ (hg s),
      Nat.testBit_two_pow_mul_add _ (Nat.or_lt_two_pow (hf s) (hg s))]
    split <;> rw [Nat.testBit_or]

theorem lanes_xor (f g : Nat → Nat) (hf : ∀ i, f i < 2 ^ 64) (hg : ∀ i, g i < 2 ^ 64) :
    ∀ n s, lanes n s f ^^^ lanes n s g = lanes n s fun i => f i ^^^ g i
  | 0, _ => by simp [lanes]
  | n + 1, s => by
    rw [lanes, lanes, lanes, ← lanes_xor f g hf hg n (s + 1)]
    refine Nat.eq_of_testBit_eq fun k => ?_
    rw [Nat.testBit_xor, Nat.testBit_two_pow_mul_add _ (hf s), Nat.testBit_two_pow_mul_add _ (hg s),
      Nat.testBit_two_pow_mul_add _ (Nat.xor_lt_two_pow (hf s) (hg s))]
    split <;> rw [Nat.testBit_xor]

/-- A shift to the right carries bits from one lane into the top of the one below; a mask of the low bits drops them. -/
theorem lanes_shiftRight (r m : Nat) (hr : r ≤ 64) (hm : m < 2 ^ (64 - r)) (f : Nat → Nat) (hf : ∀ i, f i < 2 ^ 64) :
    ∀ n s t, (lanes n s f >>> r) &&& lanes n t (fun _ => m) = lanes n s fun i => (f i >>> r) &&& m
  | 0, _, _ => by simp [lanes]
  | n + 1, s, t => by
    have hm' : m < 2 ^ 64 := hm.trans_le (Nat.pow_le_pow_right (by omega) (by omega))
    rw [lanes, lanes, lanes, ← lanes_shiftRight r m hr hm f hf n (s + 1) (t + 1)]
    refine Nat.eq_of_testBit_eq fun k => ?_
    rw [Nat.testBit_and, Nat.testBit_shiftRight, Nat.testBit_two_pow_mul_add _ (hf s),
      Nat.testBit_two_pow_mul_add _ hm', Nat.testBit_two_pow_mul_add _ (Nat.and_lt_two_pow _ hm')]
    by_cases hk : k < 64
    · rw [if_pos hk, if_pos hk, Nat.testBit_and, Nat.testBit_shiftRight]
      by_cases h : r + k < 64
      · rw [if_pos h]
      · have : m.testBit k = false :=
          Nat.testBit_lt_two_pow (hm.trans_le (Nat.pow_le_pow_right (by omega) (by omega)))
        rw [this, Bool.and_false, Bool.and_false]
    · rw [if_neg hk, if_neg hk, if_neg (by omega), Nat.testBit_and, Nat.testBit_shiftRight,
        show r + k - 64 = r + (k - 64) by omega]

theorem lanes_lt (f : Nat → Nat) (hf : ∀ i, f i < 2 ^ 64) : ∀ n s, lanes n s f < 2 ^ (64 * n)
  | 0, _ => by simp [lanes]
  | n + 1, s => by
    have h := lanes_lt f hf n (s + 1)
    have h' := hf s
    rw [lanes, show 64 * (n + 1) = 64 + 64 * n by ring, pow_add]
    nlinarith

theorem lanes_append (f : Nat → Nat) (n : Nat) : ∀ m s,
    lanes (m + n) s f = 2 ^ (64 * m) * lanes n (s + m) f + lanes m s f
  | 0, s => by simp [lanes]
  | m + 1, s => by
    rw [show m + 1 + n = (m + n) + 1 by omega, lanes, lanes_append f n m (s + 1), lanes,
      show 64 * (m + 1) = 64 + 64 * m by ring, pow_add, show s + 1 + m = s + (m + 1) by omega]
    ring

end Cert.Hash

end
-- ==== Proof.Packed.lean ====
module

public import proofs.«01_k».proof.Proof.Lanes

@[expose] public section

noncomputable section

namespace Cert.Hash

/-! The mask's draws, a block of positions at a time, in a form that is quick to evaluate. -/

/-- `k n`, with `n` evaluated first. -/
def force {α : Type} (n : Nat) (k : Nat → α) : α := Nat.rec (k 0) (fun m _ => k (Nat.succ m)) n

@[simp] theorem force_eq {α : Type} (n : Nat) (k : Nat → α) : force n k = k n := by cases n <;> rfl

/-- `stir` in every lane; `M` masks the low 32 bits of each. -/
def stirAll (M r x₀ x₁ : Nat) (k : Nat → Nat → Bool) : Bool :=
  force ((x₀ + x₁) &&& M) fun y₀ => force ((((x₁ <<< r) ||| (x₁ >>> (32 - r))) &&& M) ^^^ y₀) fun y₁ => k y₀ y₁

/-- `four` in every lane. -/
def fourAll (M r₀ r₁ r₂ r₃ a b x₀ x₁ : Nat) (k : Nat → Nat → Bool) : Bool :=
  stirAll M r₀ x₀ x₁ fun x₀ x₁ => stirAll M r₁ x₀ x₁ fun x₀ x₁ => stirAll M r₂ x₀ x₁ fun x₀ x₁ =>
    stirAll M r₃ x₀ x₁ fun x₀ x₁ => force ((x₀ + a) &&& M) fun y₀ => force ((x₁ + b) &&& M) fun y₁ => k y₀ y₁

/-- Whether `Apart m₀ m₁`. -/
def apart (m₀ m₁ : Nat) : Bool :=
  and (Nat.ble 1 m₀) (and (Nat.ble 1 m₁)
    (force (Nat.pow m₀ 7) fun a => force (Nat.pow m₁ 3) fun b =>
      or (Nat.ble (Nat.mul b 1000007) (Nat.div (Nat.mul a 1000000) 0x100000000000000000000000))
        (Nat.ble (Nat.succ (Nat.div (Nat.mul a 1000007) 0x100000000000000000000000)) (Nat.mul b 1000000))))

theorem apart_sound {m₀ m₁ : Nat} (h : apart m₀ m₁ = true) : Apart m₀ m₁ := by
  simp only [apart, force_eq, Bool.and_eq_true, Bool.or_eq_true, Nat.ble_eq] at h
  obtain ⟨h₀, h₁, h⟩ := h
  refine ⟨h₀, h₁, h.imp (fun h => ?_) fun h => ?_⟩
  · have h := (Nat.le_div_iff_mul_le (by norm_num)).mp h
    calc m₁ ^ 3 * 2 ^ 92 * 1000007 = m₁ ^ 3 * 1000007 * 0x100000000000000000000000 := by ring
      _ ≤ m₀ ^ 7 * 1000000 := h
  · have h := (Nat.div_lt_iff_lt_mul (by norm_num)).mp (Nat.lt_of_succ_le h)
    calc m₀ ^ 7 * 1000007 ≤ m₁ ^ 3 * 1000000 * 0x100000000000000000000000 := h.le
      _ = m₁ ^ 3 * 2 ^ 92 * 1000000 := by ring

/-- `apart` of the two draws of each of `2 ^ k` positions, whose draws are the lanes of `w`. -/
def allApart (k : Nat) : Nat → Bool :=
  Nat.rec (fun w => apart (Nat.mod w 0x10000000000000000) (Nat.div w 0x10000000000000000))
    (fun k ih => force (Nat.pow 2 (Nat.mul 64 (Nat.pow 2 (Nat.succ k)))) fun d w =>
      and (force (Nat.div w d) ih) (force (Nat.mod w d) ih)) k

theorem allApart_sound (f : Nat → Nat) (hf : ∀ i, f i < 2 ^ 64) : ∀ (k s : Nat),
    allApart k (lanes (2 ^ (k + 1)) s f) = true → ∀ j < 2 ^ k, Apart (f (s + 2 * j)) (f (s + (2 * j + 1)))
  | 0, s, h, j, hj => by
    have h' : apart (lanes 2 s f % 2 ^ 64) (lanes 2 s f / 2 ^ 64) = true := h
    have e : lanes 2 s f = 2 ^ 64 * f (s + 1) + f s := by simp [lanes]
    have h0 := hf s
    rw [e, Nat.mul_add_mod, Nat.mod_eq_of_lt h0, Nat.mul_add_div (by norm_num), Nat.div_eq_of_lt h0] at h'
    obtain rfl : j = 0 := by simpa using hj
    exact apart_sound h'
  | k + 1, s, h, j, hj => by
    have e : lanes (2 ^ (k + 1 + 1)) s f
        = 2 ^ (64 * 2 ^ (k + 1)) * lanes (2 ^ (k + 1)) (s + 2 ^ (k + 1)) f + lanes (2 ^ (k + 1)) s f := by
      rw [show 2 ^ (k + 1 + 1) = 2 ^ (k + 1) + 2 ^ (k + 1) by ring, lanes_append]
    have hl := lanes_lt f hf (2 ^ (k + 1)) s
    have h' : force (2 ^ (64 * 2 ^ (k + 1))) (fun d w => and (force (w / d) (allApart k)) (force (w % d) (allApart k)))
        (lanes (2 ^ (k + 1 + 1)) s f) = true := h
    rw [force_eq, force_eq, force_eq, e, Nat.mul_add_mod, Nat.mod_eq_of_lt hl, Nat.mul_add_div (by positivity),
      Nat.div_eq_of_lt hl, Bool.and_eq_true, Nat.add_zero] at h'
    rcases Nat.lt_or_ge j (2 ^ k) with hj' | hj'
    · exact allApart_sound f hf k s h'.2 j hj'
    · have := allApart_sound f hf k _ h'.1 (j - 2 ^ k) (by rw [pow_succ] at hj; omega)
      rw [show s + 2 ^ (k + 1) + 2 * (j - 2 ^ k) = s + 2 * j by rw [pow_succ]; omega,
        show s + 2 ^ (k + 1) + (2 * (j - 2 ^ k) + 1) = s + (2 * j + 1) by rw [pow_succ]; omega] at this
      exact this

/-- The word 1 in each of `n` lanes. -/
def ones (n : Nat) : Nat := lanes n 0 fun _ => 1

/-- `apart` of the draws of the `2 ^ k` positions of block `b`. `o` is `ones`, `c` the running index and `M` the mask,
    each over `2 ^ (k + 1)` lanes. -/
def block (k o c M b : Nat) : Bool :=
  force ((b * 2 ^ (k + 1)) * o + c) fun c => force (1832780943 * o) fun k₀ => force (270669613 * o) fun k₁ =>
  force (1724713080 * o) fun k₂ => force ((c + k₁) &&& M) fun x₁ =>
  fourAll M 13 15 26 6 k₁ (1724713081 * o) k₀ x₁ fun x₀ x₁ =>
  fourAll M 17 29 16 24 k₂ (1832780945 * o) x₀ x₁ fun x₀ x₁ =>
  fourAll M 13 15 26 6 k₀ (270669616 * o) x₀ x₁ fun x₀ x₁ =>
  fourAll M 17 29 16 24 k₁ (1724713084 * o) x₀ x₁ fun x₀ x₁ =>
  fourAll M 13 15 26 6 k₂ (1832780948 * o) x₀ x₁ fun x₀ x₁ =>
  force (((x₀ ^^^ x₁) >>> 9) &&& ((2 ^ 23 - 1) * o)) fun w => allApart k w

/-- `block` of `n` consecutive blocks, of which the first is block `lo`. -/
def blocks (k lo n : Nat) : Bool :=
  force (ones (2 ^ (k + 1))) fun o => force (lanes (2 ^ (k + 1)) 0 fun i => i) fun c => force ((2 ^ 32 - 1) * o) fun M =>
    Nat.rec true (fun b ih => and (block k o c M (lo + b)) ih) n

/-- A stream of words, one per lane. -/
def pack (n s : Nat) (x : Nat → Word) : Nat := lanes n s fun i => (x i).toNat

theorem Word.small (x : Word) : x.toNat < 2 ^ 64 := x.isLt.trans (by norm_num)

theorem pack_const (n s : Nat) (c : Word) : pack n s (fun _ => c) = c.toNat * ones n := lanes_const _ n s

theorem pack_add (n s : Nat) (x y : Nat → Word) :
    (pack n s x + pack n s y) &&& ((2 ^ 32 - 1) * ones n) = pack n s fun i => x i + y i := by
  rw [pack, pack, lanes_add, ones, ← lanes_const _ n s, lanes_land _ _ (fun i => ?_) fun _ => by norm_num]
  · refine lanes_congr _ _ fun i _ _ => ?_
    rw [Nat.and_two_pow_sub_one_eq_mod, BitVec.toNat_add]
  · have := (x i).isLt; have := (y i).isLt; omega

theorem pack_xor (n s : Nat) (x y : Nat → Word) : pack n s x ^^^ pack n s y = pack n s fun i => x i ^^^ y i :=
  lanes_xor _ _ (fun i => Word.small _) (fun i => Word.small _) n s

theorem pack_turn (n s r : Nat) (hr : r ≤ 32) (x : Nat → Word) :
    ((pack n s x <<< r) ||| (pack n s x >>> (32 - r))) &&& ((2 ^ 32 - 1) * ones n) = pack n s fun i => turn r (x i) := by
  have hl : ∀ i, (x i).toNat <<< r < 2 ^ 64 := fun i => by
    rw [Nat.shiftLeft_eq]
    have h₁ := (x i).isLt
    have h₂ : 2 ^ r ≤ 2 ^ 32 := Nat.pow_le_pow_right (by omega) hr
    calc (x i).toNat * 2 ^ r < 2 ^ 32 * 2 ^ 32 := Nat.mul_lt_mul_of_lt_of_le h₁ h₂ (by norm_num)
      _ = 2 ^ 64 := by norm_num
  have hm : (2 ^ 32 - 1 : Nat) < 2 ^ (64 - (32 - r)) :=
    lt_of_lt_of_le (by norm_num : (2 ^ 32 - 1 : Nat) < 2 ^ 32) (Nat.pow_le_pow_right (by omega) (by omega))
  have hb : ∀ a : Nat, a &&& (2 ^ 32 - 1) < 2 ^ 64 := fun a => by
    rw [Nat.and_two_pow_sub_one_eq_mod]; exact (Nat.mod_lt _ (by norm_num)).trans (by norm_num)
  rw [Nat.and_or_distrib_right, pack, ones, ← lanes_const _ n s, lanes_shiftLeft, lanes_land _ _ hl fun _ => by norm_num,
    lanes_shiftRight _ _ (by omega) hm _ (fun i => Word.small _),
    lanes_lor _ _ (fun _ => hb _) (fun _ => hb _)]
  refine lanes_congr _ _ fun i _ _ => ?_
  have hs : (x i).toNat >>> (32 - r) < 2 ^ 32 := by
    rw [Nat.shiftRight_eq_div_pow]; exact (Nat.div_le_self _ _).trans_lt (x i).isLt
  show _ = (x i <<< r ||| x i >>> (32 - r)).toNat
  rw [Nat.and_two_pow_sub_one_eq_mod, Nat.and_two_pow_sub_one_eq_mod, Nat.mod_eq_of_lt hs, BitVec.toNat_or,
    BitVec.toNat_shiftLeft, BitVec.toNat_ushiftRight]

/-- Pairs of words in lanes, handed to `k`. -/
def give (n s : Nat) (k : Nat → Nat → Bool) (x : Nat → Word × Word) : Bool :=
  k (pack n s fun i => (x i).1) (pack n s fun i => (x i).2)

theorem stirAll_eq (n s r : Nat) (hr : r ≤ 32) (x : Nat → Word × Word) (k : Nat → Nat → Bool) :
    give n s (fun x₀ x₁ => stirAll ((2 ^ 32 - 1) * ones n) r x₀ x₁ k) x = give n s k fun i => stir r (x i) := by
  simp only [give, stirAll, force_eq]
  rw [pack_turn n s r hr, pack_add, pack_xor]
  rfl

theorem fourAll_eq (n s r₀ r₁ r₂ r₃ : Nat) (h₀ : r₀ ≤ 32) (h₁ : r₁ ≤ 32) (h₂ : r₂ ≤ 32) (h₃ : r₃ ≤ 32) (a b : Word)
    (x : Nat → Word × Word) (k : Nat → Nat → Bool) :
    give n s (fun x₀ x₁ => fourAll ((2 ^ 32 - 1) * ones n) r₀ r₁ r₂ r₃ (a.toNat * ones n) (b.toNat * ones n) x₀ x₁ k) x
      = give n s k fun i => four r₀ r₁ r₂ r₃ a b (x i) := by
  unfold fourAll
  rw [stirAll_eq n s r₀ h₀, stirAll_eq n s r₁ h₁, stirAll_eq n s r₂ h₂, stirAll_eq n s r₃ h₃]
  simp only [give, force_eq]
  rw [← pack_const n s a, ← pack_const n s b, pack_add, pack_add]
  rfl

/-- The mask's draws at the positions of block `b` are apart if `block` says so. -/
theorem block_sound (k b : Nat)
    (h : block k (ones (2 ^ (k + 1))) (lanes (2 ^ (k + 1)) 0 fun i => i) ((2 ^ 32 - 1) * ones (2 ^ (k + 1))) b = true)
    (hb : (b + 1) * 2 ^ (k + 1) ≤ 2 ^ 32) :
    ∀ j < 2 ^ k, Apart (bits (b * 2 ^ (k + 1) + 2 * j)) (bits (b * 2 ^ (k + 1) + (2 * j + 1))) := by
  have hc : lanes (2 ^ (k + 1)) (b * 2 ^ (k + 1)) (fun i => i)
      = pack (2 ^ (k + 1)) (b * 2 ^ (k + 1)) fun i => BitVec.ofNat 32 i := by
    refine lanes_congr _ _ fun i _ hi => ?_
    rw [BitVec.toNat_ofNat, Nat.mod_eq_of_lt (by rw [Nat.add_mul] at hb; omega)]
  generalize hn : 2 ^ (k + 1) = n at *
  generalize hs : b * n = s at *
  have g : give n s (fun x₀ x₁ =>
      fourAll ((2 ^ 32 - 1) * ones n) 13 15 26 6 ((270669613#32).toNat * ones n) ((1724713081#32).toNat * ones n) x₀ x₁ fun x₀ x₁ =>
      fourAll ((2 ^ 32 - 1) * ones n) 17 29 16 24 ((1724713080#32).toNat * ones n) ((1832780945#32).toNat * ones n) x₀ x₁ fun x₀ x₁ =>
      fourAll ((2 ^ 32 - 1) * ones n) 13 15 26 6 ((1832780943#32).toNat * ones n) ((270669616#32).toNat * ones n) x₀ x₁ fun x₀ x₁ =>
      fourAll ((2 ^ 32 - 1) * ones n) 17 29 16 24 ((270669613#32).toNat * ones n) ((1724713084#32).toNat * ones n) x₀ x₁ fun x₀ x₁ =>
      fourAll ((2 ^ 32 - 1) * ones n) 13 15 26 6 ((1724713080#32).toNat * ones n) ((1832780948#32).toNat * ones n) x₀ x₁ fun x₀ x₁ =>
      allApart k (((x₀ ^^^ x₁) >>> 9) &&& ((2 ^ 23 - 1) * ones n)))
      (fun i => (1832780943#32, BitVec.ofNat 32 i + 270669613#32)) = true := by
    unfold block at h
    simp only [force_eq] at h
    rw [hn, hs, ones, lanes_index, ← ones, hc] at h
    unfold give
    rw [pack_const, ← pack_add, pack_const]
    exact h
  rw [fourAll_eq n s 13 15 26 6 (by omega) (by omega) (by omega) (by omega),
    fourAll_eq n s 17 29 16 24 (by omega) (by omega) (by omega) (by omega),
    fourAll_eq n s 13 15 26 6 (by omega) (by omega) (by omega) (by omega),
    fourAll_eq n s 17 29 16 24 (by omega) (by omega) (by omega) (by omega),
    fourAll_eq n s 13 15 26 6 (by omega) (by omega) (by omega) (by omega)] at g
  simp only [give] at g
  rw [pack_xor, ones, ← lanes_const _ n s, pack,
    lanes_shiftRight 9 _ (by omega) (by norm_num) _ fun i => Word.small _] at g
  have e : ∀ i, (word maskKey.1 maskKey.2 i).toNat >>> 9 &&& (2 ^ 23 - 1) = bits i := fun i => by
    have := (word maskKey.1 maskKey.2 i).isLt
    rw [Nat.and_two_pow_sub_one_eq_mod, Nat.shiftRight_eq_div_pow, bits, Nat.mod_eq_of_lt (by omega)]
  have g' : allApart k (lanes n s bits) = true := by
    rw [← g]
    refine congrArg _ (lanes_congr _ _ fun i _ _ => ?_)
    rw [← e i]
    have h₃ : third 1832780943#32 270669613#32 = 1724713080#32 := by decide
    simp only [word, cipher, rounds, rounds.k₂, maskKey, BitVec.zero_add, h₃, BitVec.reduceAdd]
  rw [← hn] at g'
  refine allApart_sound bits (fun i => ?_) k s g'
  have := (word maskKey.1 maskKey.2 i).isLt
  rw [bits]; omega

/-- The mask's draws are apart at the positions of `n` blocks if `blocks` says so. -/
theorem blocks_sound {k lo n : Nat} (h : blocks k lo n = true) (hb : (lo + n) * 2 ^ (k + 1) ≤ 2 ^ 32) (j : Nat)
    (h₁ : lo * 2 ^ k ≤ j) (h₂ : j < (lo + n) * 2 ^ k) : Apart (bits (2 * j)) (bits (2 * j + 1)) := by
  have all : ∀ b < n, block k (ones (2 ^ (k + 1))) (lanes (2 ^ (k + 1)) 0 fun i => i)
      ((2 ^ 32 - 1) * ones (2 ^ (k + 1))) (lo + b) = true := by
    unfold blocks at h
    simp only [force_eq] at h
    clear hb h₂
    induction n with
    | zero => intro b hb; exact absurd hb (Nat.not_lt_zero b)
    | succ n ih =>
      have h := Bool.and_eq_true_iff.mp h
      intro b hb
      rcases Nat.lt_succ_iff_lt_or_eq.mp hb with hb | rfl
      · exact ih h.2 b hb
      · exact h.1
  have hp : 0 < 2 ^ k := by positivity
  have hj := Nat.div_add_mod j (2 ^ k)
  have hq₁ : lo ≤ j / 2 ^ k := (Nat.le_div_iff_mul_le hp).mpr h₁
  have hq₂ : j / 2 ^ k < lo + n := (Nat.div_lt_iff_lt_mul hp).mpr h₂
  have := block_sound k (lo + (j / 2 ^ k - lo)) (all _ (by omega))
    (le_trans (Nat.mul_le_mul_right _ (by omega)) hb) (j % 2 ^ k) (Nat.mod_lt _ hp)
  rw [show lo + (j / 2 ^ k - lo) = j / 2 ^ k by omega, pow_succ] at this
  rw [show j / 2 ^ k * (2 ^ k * 2) + 2 * (j % 2 ^ k) = 2 * j by nlinarith,
    show j / 2 ^ k * (2 ^ k * 2) + (2 * (j % 2 ^ k) + 1) = 2 * j + 1 by nlinarith] at this
  exact this

end Cert.Hash

end
-- ==== Proof.WordsA.lean ====
module

public import proofs.«01_k».proof.Proof.Packed

@[expose] public section

namespace Cert.Hash

/-! The mask's draws are apart at the positions of blocks 0 to 1023 (the first quarter). -/

theorem blocks_0 : blocks 8 0 256 = true := by decide +kernel

theorem blocks_256 : blocks 8 256 256 = true := by decide +kernel

theorem blocks_512 : blocks 8 512 256 = true := by decide +kernel

theorem blocks_768 : blocks 8 768 256 = true := by decide +kernel

end Cert.Hash

end
-- ==== Proof.WordsB.lean ====
module

public import proofs.«01_k».proof.Proof.Packed

@[expose] public section

namespace Cert.Hash

/-! The mask's draws are apart at the positions of blocks 1024 to 2047 (the second quarter). -/

theorem blocks_1024 : blocks 8 1024 256 = true := by decide +kernel

theorem blocks_1280 : blocks 8 1280 256 = true := by decide +kernel

theorem blocks_1536 : blocks 8 1536 256 = true := by decide +kernel

theorem blocks_1792 : blocks 8 1792 256 = true := by decide +kernel

end Cert.Hash

end
-- ==== Proof.WordsC.lean ====
module

public import proofs.«01_k».proof.Proof.Packed

@[expose] public section

namespace Cert.Hash

/-! The mask's draws are apart at the positions of blocks 2048 to 3071 (the third quarter). -/

theorem blocks_2048 : blocks 8 2048 256 = true := by decide +kernel

theorem blocks_2304 : blocks 8 2304 256 = true := by decide +kernel

theorem blocks_2560 : blocks 8 2560 256 = true := by decide +kernel

theorem blocks_2816 : blocks 8 2816 256 = true := by decide +kernel

end Cert.Hash

end
-- ==== Proof.WordsD.lean ====
module

public import proofs.«01_k».proof.Proof.Packed

@[expose] public section

namespace Cert.Hash

/-! The mask's draws are apart at the positions of blocks 3072 to 4095 (the fourth quarter). -/

theorem blocks_3072 : blocks 8 3072 256 = true := by decide +kernel

theorem blocks_3328 : blocks 8 3328 256 = true := by decide +kernel

theorem blocks_3584 : blocks 8 3584 256 = true := by decide +kernel

theorem blocks_3840 : blocks 8 3840 256 = true := by decide +kernel

end Cert.Hash

end
-- ==== Proof.Words.lean ====
module

public import proofs.«01_k».proof.Proof.WordsA
public import proofs.«01_k».proof.Proof.WordsB
public import proofs.«01_k».proof.Proof.WordsC
public import proofs.«01_k».proof.Proof.WordsD

@[expose] public section

namespace Cert.Hash

/-- The mask's draws are apart at every position. -/
theorem draws_apart (j : Nat) (hj : j < 2 ^ 20) : Apart (bits (2 * j)) (bits (2 * j + 1)) := by
  have use {lo : Nat} (h : blocks 8 lo 256 = true) (hlo : lo ≤ 3840) (h₁ : lo * 256 ≤ j) (h₂ : j < (lo + 256) * 256) :=
    blocks_sound h (by norm_num; omega) j (by norm_num; omega) (by norm_num; omega)
  rcases Nat.lt_or_ge j (2048 * 256) with hc | hc
  · rcases Nat.lt_or_ge j (1024 * 256) with hc | hc
    · rcases Nat.lt_or_ge j (512 * 256) with hc | hc
      · rcases Nat.lt_or_ge j (256 * 256) with hc | hc
        · exact use blocks_0 (by omega) (by omega) (by omega)
        · exact use blocks_256 (by omega) (by omega) (by omega)
      · rcases Nat.lt_or_ge j (768 * 256) with hc | hc
        · exact use blocks_512 (by omega) (by omega) (by omega)
        · exact use blocks_768 (by omega) (by omega) (by omega)
    · rcases Nat.lt_or_ge j (1536 * 256) with hc | hc
      · rcases Nat.lt_or_ge j (1280 * 256) with hc | hc
        · exact use blocks_1024 (by omega) (by omega) (by omega)
        · exact use blocks_1280 (by omega) (by omega) (by omega)
      · rcases Nat.lt_or_ge j (1792 * 256) with hc | hc
        · exact use blocks_1536 (by omega) (by omega) (by omega)
        · exact use blocks_1792 (by omega) (by omega) (by omega)
  · rcases Nat.lt_or_ge j (3072 * 256) with hc | hc
    · rcases Nat.lt_or_ge j (2560 * 256) with hc | hc
      · rcases Nat.lt_or_ge j (2304 * 256) with hc | hc
        · exact use blocks_2048 (by omega) (by omega) (by omega)
        · exact use blocks_2304 (by omega) (by omega) (by omega)
      · rcases Nat.lt_or_ge j (2816 * 256) with hc | hc
        · exact use blocks_2560 (by omega) (by omega) (by omega)
        · exact use blocks_2816 (by omega) (by omega) (by omega)
    · rcases Nat.lt_or_ge j (3584 * 256) with hc | hc
      · rcases Nat.lt_or_ge j (3328 * 256) with hc | hc
        · exact use blocks_3072 (by omega) (by omega) (by omega)
        · exact use blocks_3328 (by omega) (by omega) (by omega)
      · rcases Nat.lt_or_ge j (3840 * 256) with hc | hc
        · exact use blocks_3584 (by omega) (by omega) (by omega)
        · exact use blocks_3840 (by omega) (by omega) (by omega)

end Cert.Hash

end
-- ==== Proof.Sample.lean ====
module

public import proofs.«01_k».proof.Proof.Block
public import Idealize.ShloMosaic.PureOps.Ideal

@[expose] public section

set_option maxRecDepth 16384

noncomputable section

namespace Cert.Block

open Idealize.ShloMosaic

/-! The kernel's remainder by a rounded quotient, against the remainder of the words. -/

/-- The rounded quotient of a number below `2^32`. -/
def quotient (n : Nat) : Nat := n * 10995116 / 1099511627776

/-- The rounded quotient is the quotient or one less. -/
theorem quotient_range (n : Nat) (h : n < 2 ^ 32) :
    quotient n * 100000 ≤ n ∧ n < quotient n * 100000 + 200000 ∧ quotient n < 50000 := by
  unfold quotient
  omega

/-- The real number of a word below `2^31` is its natural number. -/
theorem sitofp_nat (w : Word) (n : Nat) (h : w.toNat = n) (l : n < 2 ^ 31) :
    (FloatOps.sitofp (F := Ideal) .f32 w : Ideal .f32) = ((n : ℝ) : EReal) := by
  show (((w.toInt : ℝ)) : EReal) = _
  rw [BitVec.toInt_eq_toNat_of_lt (by omega), h]
  simp

/-- The word by its halves, as a real number. -/
theorem floated_eq (w : Word) : floated w = ((w.toNat : ℝ) : EReal) := by
  have l := w.isLt
  have h : (IntOp.shrui .vector w 16#32 : Word).toNat = w.toNat / 65536 := by
    show (w >>> (16#32 : Word)).toNat = _
    simp [Nat.shiftRight_eq_div_pow]
  have k : (IntOp.andi w 65535#32 : Word).toNat = w.toNat % 65536 := by
    show (w &&& 65535#32).toNat = _
    rw [BitVec.toNat_and]
    exact Nat.and_two_pow_sub_one_eq_mod _ 16
  have c : (Scalar.ofBits (F := Ideal) .f32 0x47800000#32 : Ideal .f32) = ((65536 : ℝ) : EReal) := by
    show Ideal.ofBits .f32 0x47800000#32 = _
    simp [Ideal.ofBits, Ideal.ieee, -EReal.coe_mul]
    norm_num
  unfold floated
  rw [sitofp_nat _ _ h (by omega), sitofp_nat _ _ k (by omega), c]
  show ((_ : ℝ) : EReal) * ((65536 : ℝ) : EReal) + ((_ : ℝ) : EReal) = _
  rw [← EReal.coe_mul, ← EReal.coe_add]
  congr 1
  have := Nat.div_add_mod w.toNat 65536
  rw [← this]
  push_cast
  have e : (65536 * (w.toNat / 65536) + w.toNat % 65536) / 65536 = w.toNat / 65536 := by omega
  have e' : (65536 * (w.toNat / 65536) + w.toNat % 65536) % 65536 = w.toNat % 65536 := by omega
  rw [e, e']
  ring

/-- The reciprocal the kernel multiplies by. -/
theorem recip_eq : (Scalar.ofBits (F := Ideal) .f32 0x3727C5AC#32 : Ideal .f32) = ((10995116 / 1099511627776 : ℝ) : EReal) := by
  show Ideal.ofBits .f32 0x3727C5AC#32 = _
  simp [Ideal.ofBits, Ideal.ieee, -EReal.coe_mul]
  norm_num

/-- The floor of the product is the rounded quotient. -/
theorem floor_eq (n : Nat) : ⌊(n : ℝ) * (10995116 / 1099511627776)⌋ = (quotient n : Int) := by
  have a : quotient n * 1099511627776 ≤ n * 10995116 := by
    unfold quotient
    omega
  have b : n * 10995116 < quotient n * 1099511627776 + 1099511627776 := by
    unfold quotient
    omega
  have a' : (quotient n : ℝ) * 1099511627776 ≤ n * 10995116 := by exact_mod_cast a
  have b' : (n : ℝ) * 10995116 < quotient n * 1099511627776 + 1099511627776 := by exact_mod_cast b
  rw [Int.floor_eq_iff]
  push_cast
  constructor <;> linarith

/-- A small natural number as an integer word. -/
theorem word_of_nat (k : Nat) (h : k < 50000) : Ideal.fptosi 32 (((k : ℤ) : ℝ) : EReal) = BitVec.ofNat 32 k := by
  have z : (0 : ℝ) ≤ ((k : ℤ) : ℝ) := by positivity
  have clamp : ∀ lo hi : ℤ, lo ≤ k → k ≤ hi → max lo (min hi (k : ℤ)) = k := fun lo hi a b => by
    rw [min_eq_right b, max_eq_right a]
  unfold Ideal.fptosi
  rw [Ideal.toIntClamped_coe, if_pos z, Int.floor_intCast, clamp _ _ (by omega) (by omega)]
  exact BitVec.ofInt_natCast 32 k

/-- The floor of a real number, as an operation on the extended reals. -/
theorem floor_real (r : ℝ) : FloatOps.floor (F := Ideal) (φ := .f32) (r : EReal) = (((⌊r⌋ : ℤ) : ℝ) : EReal) := rfl

/-- The quotient as an integer word. -/
theorem quotient_word (n : Nat) (h : n < 2 ^ 32) :
    FloatOps.fptosi (F := Ideal) (φ := .f32) 32 (FloatOps.floor (F := Ideal) (φ := .f32) (((n : ℝ) * (10995116 / 1099511627776) : ℝ) : EReal))
      = BitVec.ofNat 32 (quotient n) := by
  rw [floor_real, floor_eq]
  exact word_of_nat _ (quotient_range n h).2.2

/-- A product of real numbers, as an operation on the extended reals. -/
theorem product (a b : ℝ) : FloatOps.mulf (F := Ideal) (φ := .f32) (a : EReal) (b : EReal) = ((a * b : ℝ) : EReal) :=
  (EReal.coe_mul _ _).symm

/-- The kernel's first remainder. -/
theorem rest_eq (w : Word) : rest w = BitVec.ofNat 32 (w.toNat - quotient w.toNat * 100000) := by
  have r := quotient_range w.toNat w.isLt
  unfold rest
  rw [floated_eq, recip_eq]
  rw [product, quotient_word _ w.isLt]
  simp only [IntOp.subi, IntOp.muli]
  have l := w.isLt
  rw [show BitVec.ofNat 32 (quotient w.toNat) * 100000#32 = BitVec.ofNat 32 (quotient w.toNat * 100000) from (BitVec.ofNat_mul _ _).symm,
    ← BitVec.ofNat_sub_ofNat_of_le _ _ (lt_of_le_of_lt r.1 l) r.1, BitVec.ofNat_toNat, BitVec.setWidth_eq]

/-- The kernel's remainder, corrected once, is the remainder by 100000. -/
theorem lowered_rest (w : Word) : lowered (raised (rest w)) = w % 100000#32 := by
  obtain ⟨a, b, _⟩ := quotient_range w.toNat w.isLt
  rw [rest_eq]
  generalize hk : w.toNat - quotient w.toNat * 100000 = k
  have kl : k < 200000 := by omega
  have km : w.toNat % 100000 = k % 100000 := by omega
  have ki : (BitVec.ofNat 32 k).toInt = k := by
    rw [BitVec.toInt_eq_toNat_of_lt (by simp only [BitVec.toNat_ofNat]; omega), BitVec.toNat_ofNat]
    omega
  have r : raised (BitVec.ofNat 32 k) = BitVec.ofNat 32 k := by
    have : (BitVec.ofNat 32 k).slt 0#32 = false := by
      rw [BitVec.slt, ki]
      simp
    unfold raised
    show Scalar.select (BitVec.ofBool ((BitVec.ofNat 32 k).slt 0#32)) _ _ = _
    rw [this]
    rfl
  have s : lowered (BitVec.ofNat 32 k) = if 100000 ≤ k then BitVec.ofNat 32 k - 100000#32 else BitVec.ofNat 32 k := by
    have : (100000#32 : Word).sle (BitVec.ofNat 32 k) = decide (100000 ≤ k) := by
      rw [BitVec.sle, ki]
      simp
    unfold lowered
    show Scalar.select (BitVec.ofBool ((100000#32 : Word).sle (BitVec.ofNat 32 k))) _ _ = _
    rw [this]
    by_cases g : 100000 ≤ k
    · rw [if_pos g, decide_eq_true g]
      rfl
    · rw [if_neg g, decide_eq_false g]
      rfl
  have u : w % 100000#32 = BitVec.ofNat 32 (k % 100000) := by
    have c : (100000#32 : Word).toNat = 100000 := by decide
    apply BitVec.eq_of_toNat_eq
    rw [BitVec.toNat_umod, c, km, BitVec.toNat_ofNat]
    exact (Nat.mod_eq_of_lt (lt_trans (Nat.mod_lt k (by decide)) (by decide))).symm
  rw [r, s, u]
  clear * - kl
  by_cases g : 100000 ≤ k
  · rw [if_pos g, BitVec.ofNat_sub_ofNat_of_le _ _ (by decide) g, Nat.mod_eq_sub_mod g, Nat.mod_eq_of_lt (by omega)]
  · rw [if_neg g, Nat.mod_eq_of_lt (by omega)]

end Cert.Block

end
-- ==== Proof.Cipher.lean ====
module

public import proofs.«01_k».proof.Proof.Block
public import proofs.«01_k».proof.Proof.Hash

@[expose] public section

set_option maxRecDepth 16384

noncomputable section

namespace Cert.Block

open Idealize.ShloMosaic Cert.Hash

/-! The kernel's hash is the cipher whose two words are crossed. -/

/-- The state as the kernel keeps it: the sum of the two words, and the second. -/
def half (p : Word × Word) : Word × Word := (p.1 + p.2, p.2)

/-- The kernel's turn of a word. -/
theorem turned_eq (k s : Nat) (hk : 0 < k) (hs : 0 < s) (h : k + s = 32) (x : Word) :
    turned (BitVec.ofNat 32 k) (BitVec.ofNat 32 s) x = turn k x := by
  have hk' : k % 2 ^ 32 = k := Nat.mod_eq_of_lt (by omega)
  have hs' : s % 2 ^ 32 = s := Nat.mod_eq_of_lt (by omega)
  have e : s = 32 - k := by omega
  simp only [turned, IntOp.ori, IntOp.shli, IntOp.shrui, BitVec.toNat_ofNat, hk', hs', turn, if_pos (show k < 32 by omega),
    if_pos (show s < 32 by omega), BitVec.shiftLeft_eq', BitVec.ushiftRight_eq']
  rw [e]

/-- One round. -/
theorem step_half (k s : Nat) (hk : 0 < k) (hs : 0 < s) (h : k + s = 32) (p : Word × Word) :
    step (BitVec.ofNat 32 k) (BitVec.ofNat 32 s) (half p) = half (stir k p) := by
  simp only [step, half, stir, turned_eq k s hk hs h, IntOp.addi, IntOp.xori]
  rw [BitVec.xor_comm (turn k p.2)]

/-- One round and the key words. -/
theorem keyed_half (k s : Nat) (hk : 0 < k) (hs : 0 < s) (h : k + s = 32) (a b : Word) (p : Word × Word) :
    keyed (BitVec.ofNat 32 k) (BitVec.ofNat 32 s) a b (half p) = half ((stir k p).1 + a, (stir k p).2 + b) := by
  simp only [keyed, half, stir, turned_eq k s hk hs h, IntOp.addi, IntOp.xori]
  rw [BitVec.xor_comm (turn k p.2)]

/-- The first round. -/
theorem opened_half (k x : Word) : opened k x = half (stir 13 (k, x)) := by
  simp only [opened, half, stir, turned_eq 13 19 (by decide) (by decide) rfl, IntOp.addi, IntOp.xori]
  rw [BitVec.add_comm x k]

/-- The last round and the two words crossed. -/
theorem closed_half (a b : Word) (p : Word × Word) :
    closed a b (half p) = ((stir 6 (stir 26 (stir 15 p))).1 + a) ^^^ ((stir 6 (stir 26 (stir 15 p))).2 + b) := by
  unfold closed
  rw [step_half 15 17 (by decide) (by decide) rfl, step_half 26 6 (by decide) (by decide) rfl]
  generalize stir 26 (stir 15 p) = q
  simp only [half, stir, turned_eq 6 26 (by decide) (by decide) rfl, IntOp.addi, IntOp.xori]
  rw [BitVec.xor_comm (turn 6 q.2)]

/-- The kernel's hash under the key `(k₀, k₁)`. -/
theorem hashed_eq (k₀ k₁ k₂ x : Word) (h : k₂ = third k₀ k₁) :
    hashed k₀ k₁ (k₂ + 1#32) k₂ (k₀ + 2#32) k₀ (k₁ + 3#32) k₁ (k₂ + 4#32) k₂ (k₀ + 5#32) x
      = (rounds k₀ k₁ (k₀, x)).1 ^^^ (rounds k₀ k₁ (k₀, x)).2 := by
  subst h
  unfold hashed toFive toEleven toSixteen
  simp only [opened_half, step_half 15 17 (by decide) (by decide) rfl, step_half 26 6 (by decide) (by decide) rfl,
    keyed_half 6 26 (by decide) (by decide) rfl, step_half 17 15 (by decide) (by decide) rfl,
    step_half 29 3 (by decide) (by decide) rfl, step_half 16 16 (by decide) (by decide) rfl,
    keyed_half 24 8 (by decide) (by decide) rfl, step_half 13 19 (by decide) (by decide) rfl, closed_half]
  rfl

/-- The hash under the mask's key is the mask's stream. -/
theorem maskHash_eq (n : Nat) : maskHash (BitVec.ofNat 32 n + 270669613#32) = word maskKey.1 maskKey.2 n := by
  refine (hashed_eq 1832780943#32 270669613#32 1724713080#32 _ (by decide)).trans ?_
  have e : ((1832780943#32 : Word), BitVec.ofNat 32 n + 270669613#32)
      = ((0 : Word) + maskKey.1, BitVec.ofNat 32 n + maskKey.2) := by
    rw [show (0 : Word) + maskKey.1 = 1832780943#32 by decide]
    rfl
  rw [e]
  rfl

/-- The hash under the replacement tokens' key is their stream. -/
theorem sampleHash_eq (n : Nat) : sampleHash (BitVec.ofNat 32 n + 1168365246#32) = word sampleKey.1 sampleKey.2 n := by
  refine (hashed_eq 2350016172#32 1168365246#32 3529550792#32 _ (by decide)).trans ?_
  have e : ((2350016172#32 : Word), BitVec.ofNat 32 n + 1168365246#32)
      = ((0 : Word) + sampleKey.1, BitVec.ofNat 32 n + sampleKey.2) := by
    rw [show (0 : Word) + sampleKey.1 = 2350016172#32 by decide]
    rfl
  rw [e]
  rfl

end Cert.Block

end
-- ==== Proof.Decision.lean ====
module

public import proofs.«01_k».proof.Proof.Hash
public import Idealize.ShloMosaic.PureOps.Ideal

@[expose] public section

set_option maxRecDepth 16384

noncomputable section

namespace Cert.Decision

open Cert.Hash

/-! The two comparisons of a position's Gumbel scores, over the reals: draws that lie apart are compared alike
    by the kernel, whose logits are rounded, and by the reference, whose draws are shifted by the smallest
    positive number. -/

/-- The exponential variable `-log (m / 2^23)` of a draw. -/
def wait (m : Nat) : ℝ := -Real.log ((m : ℝ) / 2 ^ 23)

/-- `wait` by logarithms. -/
theorem wait_eq (m : Nat) (h : 1 ≤ m) : wait m = 23 * Real.log 2 - Real.log m := by
  have hm : (m : ℝ) ≠ 0 := by positivity
  rw [wait, Real.log_div hm (by positivity), Real.log_pow]
  push_cast
  ring

/-- `log 2` is less than `16 / 23`. -/
theorem log_two_le : Real.log 2 ≤ 16 / 23 := by
  rw [Real.log_le_iff_le_exp (by norm_num)]
  refine le_trans ?_ (Real.sum_le_exp_of_nonneg (by norm_num) 8)
  norm_num [Finset.sum_range_succ, Nat.factorial]

/-- A draw's `wait` is at most 16. -/
theorem wait_le (m : Nat) (h : 1 ≤ m) : wait m ≤ 16 := by
  rw [wait_eq m h]
  have h1 : 0 ≤ Real.log m := Real.log_nonneg (by exact_mod_cast h)
  have := log_two_le
  linarith

/-- A draw's `wait` is positive. -/
theorem wait_pos (m : Nat) (h : 1 ≤ m) (h' : m < 2 ^ 23) : 0 < wait m := by
  rw [wait, neg_pos]
  refine Real.log_neg (by positivity) ?_
  rw [div_lt_one (by positivity)]
  exact_mod_cast h'

/-- The gap between draws that lie apart, in logarithms. -/
theorem gap_le : (6.9999e-6 : ℝ) ≤ Real.log 1000007 - Real.log 1000000 := by
  rw [← Real.log_div (by norm_num) (by norm_num)]
  refine le_trans ?_ (Real.one_sub_inv_le_log_of_pos (by norm_num))
  norm_num

/-- The logarithm of a comparison of products. -/
theorem log_products (a b k l : Nat) (p q c d e : Nat) (ha : 1 ≤ a) (hb : 1 ≤ b) (hc : 1 ≤ c) (hd : 1 ≤ d)
    (hk : k = a ^ p * 2 ^ e * c) (hl : l = b ^ q * d) :
    (k ≤ l → p * Real.log a + e * Real.log 2 + Real.log c ≤ q * Real.log b + Real.log d)
      ∧ (l ≤ k → q * Real.log b + Real.log d ≤ p * Real.log a + e * Real.log 2 + Real.log c) := by
  have ha' : (0 : ℝ) < a := by exact_mod_cast ha
  have hb' : (0 : ℝ) < b := by exact_mod_cast hb
  have hc' : (0 : ℝ) < c := by exact_mod_cast hc
  have hd' : (0 : ℝ) < d := by exact_mod_cast hd
  have ek : Real.log k = p * Real.log a + e * Real.log 2 + Real.log c := by
    rw [hk]
    push_cast
    rw [Real.log_mul (by positivity) (by positivity), Real.log_mul (by positivity) (by positivity), Real.log_pow, Real.log_pow]
  have el : Real.log l = q * Real.log b + Real.log d := by
    rw [hl]
    push_cast
    rw [Real.log_mul (by positivity) (by positivity), Real.log_pow]
  have hk0 : (0 : ℝ) < k := by
    rw [hk]
    push_cast
    positivity
  have hl0 : (0 : ℝ) < l := by
    rw [hl]
    push_cast
    positivity
  rw [← ek, ← el]
  exact ⟨fun h => Real.log_le_log hk0 (by exact_mod_cast h), fun h => Real.log_le_log hl0 (by exact_mod_cast h)⟩

/-- Draws that lie apart wait apart. -/
theorem waits_apart (m₀ m₁ : Nat) (h : Apart m₀ m₁) :
    7 * wait m₀ + 6.9999e-6 ≤ 3 * wait m₁ ∨ 3 * wait m₁ + 6.9999e-6 ≤ 7 * wait m₀ := by
  obtain ⟨h₀, h₁, h⟩ := h
  rw [wait_eq m₀ h₀, wait_eq m₁ h₁]
  have g := gap_le
  rcases h with h | h
  · have := (log_products m₁ m₀ _ _ 3 7 1000007 1000000 92 h₁ h₀ (by norm_num) (by norm_num) rfl rfl).1 h
    push_cast at this
    left
    linarith
  · have := (log_products m₁ m₀ _ _ 3 7 1000000 1000007 92 h₁ h₀ (by norm_num) (by norm_num) rfl rfl).2 h
    push_cast at this
    right
    linarith

/-- The kernel's logit of replacing a position. -/
def lowLogit : ℝ := -(10099656 / 2 ^ 23)

/-- The kernel's logit of keeping a position. -/
def highLogit : ℝ := -(11968025 / 2 ^ 25)

/-- The ratio of the kernel's odds is within `1e-7` of `7 / 3`. -/
theorem odds_near :
    (7 / 3 - 1e-7 : ℝ) ≤ Real.exp (highLogit - lowLogit) ∧ Real.exp (highLogit - lowLogit) ≤ 7 / 3 + 1e-7 := by
  have e : highLogit - lowLogit = 28430599 / 2 ^ 25 := by
    norm_num [highLogit, lowLogit]
  rw [e]
  constructor
  · refine le_trans ?_ (Real.sum_le_exp_of_nonneg (by norm_num) 12)
    norm_num [Finset.sum_range_succ, Nat.factorial]
  · refine le_trans (Real.exp_bound' (by norm_num) (by norm_num) (n := 12) (by norm_num)) ?_
    norm_num [Finset.sum_range_succ, Nat.factorial]

/-- Two Gumbel scores compare as their waits do, scaled by the ratio of the odds. -/
theorem scores_compare (a₀ a₁ l₀ l₁ : ℝ) (h₀ : 0 < a₀) (h₁ : 0 < a₁) :
    -Real.log a₁ + l₁ ≤ -Real.log a₀ + l₀ ↔ a₀ * Real.exp (l₁ - l₀) ≤ a₁ := by
  rw [← Real.log_le_log_iff (by positivity) h₁, Real.log_mul h₀.ne' (Real.exp_pos _).ne', Real.log_exp]
  constructor <;> intro h <;> linarith

/-- The kernel's comparison replaces a position exactly when the second draw waits longer, at odds 7 to 3. -/
theorem kernel_decides (m₀ m₁ : Nat) (h : Apart m₀ m₁) (l₀ : m₀ < 2 ^ 23) (l₁ : m₁ < 2 ^ 23) :
    -Real.log (wait m₁) + highLogit ≤ -Real.log (wait m₀) + lowLogit ↔ 7 * wait m₀ ≤ 3 * wait m₁ := by
  have p₀ := wait_pos m₀ h.1 l₀
  have p₁ := wait_pos m₁ h.2.1 l₁
  have u₀ := wait_le m₀ h.1
  rw [scores_compare _ _ _ _ p₀ p₁]
  have lo := mul_le_mul_of_nonneg_left odds_near.1 p₀.le
  have hi := mul_le_mul_of_nonneg_left odds_near.2 p₀.le
  rcases waits_apart m₀ m₁ h with g | g
  · exact ⟨fun _ => by linarith, fun _ => by linarith⟩
  · exact ⟨fun _ => by linarith, fun _ => by linarith⟩

/-- The reference's draw: moved up by the smallest positive normal number. -/
def moved (m : Nat) : ℝ := (m : ℝ) / 2 ^ 23 * (1 - 1 / 2 ^ 126) + 1 / 2 ^ 126

/-- The moved draw lies between 0 and 1. -/
theorem moved_range (m : Nat) (h : 1 ≤ m) (h' : m < 2 ^ 23) :
    (1 / 2 ^ 126 : ℝ) ≤ moved m ∧ moved m < 1 := by
  have a : (1 : ℝ) ≤ m := by exact_mod_cast h
  have b : (m : ℝ) + 1 ≤ 2 ^ 23 := by exact_mod_cast h'
  rw [moved]
  constructor
  · have : (0 : ℝ) ≤ (m : ℝ) / 2 ^ 23 * (1 - 1 / 2 ^ 126) := mul_nonneg (by positivity) (by norm_num)
    linarith
  · have : (m : ℝ) / 2 ^ 23 < 1 := by
      rw [div_lt_one (by positivity)]
      linarith
    have t : (0 : ℝ) < 1 - 1 / 2 ^ 126 := by norm_num
    nlinarith

/-- The moved draw waits as long as the draw itself, within `1e-30`. -/
theorem moved_wait (m : Nat) (h : 1 ≤ m) (h' : m < 2 ^ 23) :
    -Real.log (moved m) ≤ wait m ∧ wait m ≤ -Real.log (moved m) + 1e-30 ∧ 0 < -Real.log (moved m) := by
  have a : (1 : ℝ) ≤ m := by exact_mod_cast h
  have b : (m : ℝ) + 1 ≤ 2 ^ 23 := by exact_mod_cast h'
  have r := moved_range m h h'
  have fpos : (0 : ℝ) < (m : ℝ) / 2 ^ 23 := by positivity
  have flt : (m : ℝ) / 2 ^ 23 < 1 := by
    rw [div_lt_one (by positivity)]
    linarith
  have mpos : 0 < moved m := lt_of_lt_of_le (by norm_num) r.1
  have le : (m : ℝ) / 2 ^ 23 ≤ moved m := by
    have t : (0 : ℝ) < 1 / 2 ^ 126 := by norm_num
    rw [moved]
    nlinarith
  have fge : (1 / 2 ^ 23 : ℝ) ≤ (m : ℝ) / 2 ^ 23 := by
    gcongr
  refine ⟨?_, ?_, ?_⟩
  · rw [wait]
    exact neg_le_neg (Real.log_le_log fpos le)
  · have q : Real.log (moved m / ((m : ℝ) / 2 ^ 23)) ≤ moved m / ((m : ℝ) / 2 ^ 23) - 1 :=
      Real.log_le_sub_one_of_pos (by positivity)
    rw [Real.log_div mpos.ne' fpos.ne'] at q
    have k : moved m / ((m : ℝ) / 2 ^ 23) ≤ 1 + 1e-30 := by
      rw [div_le_iff₀ fpos, moved]
      have : (1e-30 : ℝ) * (1 / 2 ^ 23) ≤ 1e-30 * ((m : ℝ) / 2 ^ 23) := mul_le_mul_of_nonneg_left fge (by norm_num)
      have e : (1 / 2 ^ 126 : ℝ) ≤ 1e-30 * (1 / 2 ^ 23) := by norm_num
      have z : (0 : ℝ) ≤ (m : ℝ) / 2 ^ 23 * (1 / 2 ^ 126) := by positivity
      linarith
    rw [wait]
    linarith
  · exact neg_pos.mpr (Real.log_neg mpos r.2)

/-- The reference's comparison replaces a position exactly when the second draw waits longer, at odds 7 to 3. -/
theorem reference_decides (m₀ m₁ : Nat) (h : Apart m₀ m₁) (l₀ : m₀ < 2 ^ 23) (l₁ : m₁ < 2 ^ 23) :
    -Real.log (-Real.log (moved m₁)) + Real.log (11744051 / 2 ^ 24)
        ≤ -Real.log (-Real.log (moved m₀)) + Real.log (5033165 / 2 ^ 24) ↔ 7 * wait m₀ ≤ 3 * wait m₁ := by
  obtain ⟨a₀, b₀, p₀⟩ := moved_wait m₀ h.1 l₀
  obtain ⟨a₁, b₁, p₁⟩ := moved_wait m₁ h.2.1 l₁
  have u₀ := wait_le m₀ h.1
  rw [scores_compare _ _ _ _ p₀ p₁, ← Real.log_div (by norm_num) (by norm_num), Real.exp_log (by norm_num)]
  rcases waits_apart m₀ m₁ h with g | g
  · exact ⟨fun _ => by linarith, fun _ => by linarith⟩
  · exact ⟨fun _ => by linarith, fun _ => by linarith⟩

end Cert.Decision

end
-- ==== Proof.Line.lean ====
module

public import Idealize.ShloMosaic.Lib.StableHlo.RunHlo

@[expose] public section

noncomputable section

namespace Cert.Line

open Idealize.ShloMosaic Idealize.ShloMosaic.StableHlo Idealize.SL.Sem

/-! A straight line of host operations in which every value is written once, before it is read: after the line has run,
every value is what its operation computes from the values it reads. -/

variable {nD : Nat} {τ : Topo} {sig : RefSig} {Val : EltTy → Type} {Λ : Labels}

/-- One host operation, the buffer it writes and the buffers it reads. -/
structure Step (τ : Topo) (sig : RefSig) (Val : EltTy → Type) where
  op : HloOp τ sig Val
  dst : Ref sig .tc
  srcs : List (Ref sig .tc)
  writes_eq : op.writes = {Proc.devRef .tc dst}
  bufs_sub : op.bufs ⊆ tcRefs τ sig
  fresh_eq : op.fresh = ∅
  reads : ∀ F G : Valuation τ sig Val, (∀ s ∈ srcs, F (Proc.devRef .tc s) = G (Proc.devRef .tc s)) →
    op.result F (Proc.devRef .tc dst) = op.result G (Proc.devRef .tc dst)

/-- The buffer is in device memory and outlives every region. -/
abbrev Live (τ : Topo) (y : Ref sig .tc) : Prop := y.space ≠ .host ∧ (Proc.devRef (τ := τ) .tc y).isScoped = false

section Builders

variable {x y a b c e : Ref sig .tc}

/-- A constant. -/
def Step.nullary (y : Ref sig .tc) (v : y.ty.Contents Val)
    (hy : Live τ y) : Step τ sig Val where
  op := StableHlo.nullary y v hy
  dst := y
  srcs := []
  writes_eq := rfl
  bufs_sub := by simp
  fresh_eq := rfl
  reads F G _ := by rw [nullary_result, nullary_result]

/-- An operation of one operand. -/
def Step.unary (x y : Ref sig .tc) (f : x.ty.Contents Val → y.ty.Contents Val)
    (hx : Live τ x) (hy : Live τ y) : Step τ sig Val where
  op := StableHlo.unary x y f hx hy
  dst := y
  srcs := [x]
  writes_eq := rfl
  bufs_sub := by simp
  fresh_eq := rfl
  reads F G h := by rw [unary_result, unary_result, h x (by simp)]

/-- An operation of two operands. -/
def Step.binary (a b y : Ref sig .tc) (f : a.ty.Contents Val → b.ty.Contents Val → y.ty.Contents Val)
    (ha : Live τ a) (hb : Live τ b) (hy : Live τ y) :
    Step τ sig Val where
  op := StableHlo.binary a b y f ha hb hy
  dst := y
  srcs := [a, b]
  writes_eq := rfl
  bufs_sub := by simp
  fresh_eq := rfl
  reads F G h := by rw [binary_result, binary_result, h a (by simp), h b (by simp)]

/-- An operation of three operands. -/
def Step.ternary (c a b y : Ref sig .tc)
    (f : c.ty.Contents Val → a.ty.Contents Val → b.ty.Contents Val → y.ty.Contents Val)
    (hc : Live τ c) (ha : Live τ a) (hb : Live τ b) (hy : Live τ y) :
    Step τ sig Val where
  op := StableHlo.ternary c a b y f hc ha hb hy
  dst := y
  srcs := [c, a, b]
  writes_eq := rfl
  bufs_sub := by simp
  fresh_eq := rfl
  reads F G h := by rw [ternary_result, ternary_result, h c (by simp), h a (by simp), h b (by simp)]

/-- One result of an operation of four operands. -/
def Step.quaternary (a b c e y : Ref sig .tc)
    (f : a.ty.Contents Val → b.ty.Contents Val → c.ty.Contents Val → e.ty.Contents Val → y.ty.Contents Val)
    (ha : Live τ a) (hb : Live τ b) (hc : Live τ c) (he : Live τ e) (hy : Live τ y) :
    Step τ sig Val where
  op := StableHlo.quaternary a b c e y f ha hb hc he hy
  dst := y
  srcs := [a, b, c, e]
  writes_eq := rfl
  bufs_sub := by simp
  fresh_eq := rfl
  reads F G h := by
    rw [quaternary_result, quaternary_result, h a (by simp), h b (by simp), h c (by simp), h e (by simp)]

/-- A reshape. -/
def Step.reshape (x y : Ref sig .tc) (he : x.ty.elt = y.ty.elt) (hn : x.ty.shape.ShapeCasts y.ty.shape)
    (hx : Live τ x) (hy : Live τ y) :
    Step τ sig Val where
  op := StableHlo.reshape x y he hn hx hy
  dst := y
  srcs := [x]
  writes_eq := rfl
  bufs_sub := by simp
  fresh_eq := rfl
  reads F G h := by rw [reshape_result, reshape_result, h x (by simp)]

end Builders

/-! The same at the values a function names. -/

section Named

variable {Tx Ta Tb Tc Te Ty : BufTy}

/-- A constant. -/
def nullary (y : TRef sig Ty) (v : Ty.Contents Val) : Step τ sig Val := Step.nullary y.ref (y.toBuf v) y.dev

/-- An operation of one operand. -/
def unary (x : TRef sig Tx) (y : TRef sig Ty) (f : Tx.Contents Val → Ty.Contents Val) : Step τ sig Val :=
  Step.unary x.ref y.ref (fun u => y.toBuf (f (x.ofBuf u))) x.dev y.dev

/-- An operation of two operands. -/
def binary (a : TRef sig Ta) (b : TRef sig Tb) (y : TRef sig Ty)
    (f : Ta.Contents Val → Tb.Contents Val → Ty.Contents Val) : Step τ sig Val :=
  Step.binary a.ref b.ref y.ref (fun u v => y.toBuf (f (a.ofBuf u) (b.ofBuf v))) a.dev b.dev y.dev

/-- An operation of three operands. -/
def ternary (c : TRef sig Tc) (a : TRef sig Ta) (b : TRef sig Tb) (y : TRef sig Ty)
    (f : Tc.Contents Val → Ta.Contents Val → Tb.Contents Val → Ty.Contents Val) : Step τ sig Val :=
  Step.ternary c.ref a.ref b.ref y.ref (fun w u v => y.toBuf (f (c.ofBuf w) (a.ofBuf u) (b.ofBuf v)))
    c.dev a.dev b.dev y.dev

/-- One result of an operation of four operands. -/
def quaternary (a : TRef sig Ta) (b : TRef sig Tb) (c : TRef sig Tc) (e : TRef sig Te) (y : TRef sig Ty)
    (f : Ta.Contents Val → Tb.Contents Val → Tc.Contents Val → Te.Contents Val → Ty.Contents Val) : Step τ sig Val :=
  Step.quaternary a.ref b.ref c.ref e.ref y.ref
    (fun t u v w => y.toBuf (f (a.ofBuf t) (b.ofBuf u) (c.ofBuf v) (e.ofBuf w))) a.dev b.dev c.dev e.dev y.dev

/-- A reshape. -/
def reshape (x : TRef sig Tx) (y : TRef sig Ty) (he : Tx.elt = Ty.elt) (hn : Tx.shape.ShapeCasts Ty.shape) :
    Step τ sig Val :=
  Step.reshape x.ref y.ref (((congrArg BufTy.elt x.ty_eq).trans he).trans (congrArg BufTy.elt y.ty_eq).symm)
    (congrArg BufTy.shape x.ty_eq ▸ congrArg BufTy.shape y.ty_eq ▸ hn) x.dev y.dev

end Named

/-- The program `p` is the line of the steps `l`. -/
def Reads (p : Prog (TpuEff nD τ sig Val Λ .tc) PUnit) (l : List (Step τ sig Val)) : Prop := p = seq (l.map Step.op)

section Read

variable {k p : Prog (TpuEff nD τ sig Val Λ .tc) PUnit} {l l' : List (Step τ sig Val)} {Tx Ta Tb Tc Te Ty : BufTy}

theorem Reads.nil : Reads (pure ⟨⟩ : Prog (TpuEff nD τ sig Val Λ .tc) PUnit) ([] : List (Step τ sig Val)) := rfl

theorem Reads.cons (o : Step τ sig Val) (h : Reads k l) :
    Reads ((hlo rfl o.op fun _ => .ret (⟨⟩ : PUnit)) >>= fun _ => k) (o :: l) := by
  unfold Reads at h ⊢; rw [h]; rfl

theorem Reads.last (o : Step τ sig Val) :
    Reads (Λ := Λ) (nD := nD) (hlo rfl o.op fun _ => .ret (⟨⟩ : PUnit)) [o] := by
  have h : (hlo rfl o.op fun _ => .ret (⟨⟩ : PUnit) : Prog (TpuEff nD τ sig Val Λ .tc) PUnit)
      = (hlo rfl o.op fun _ => .ret (⟨⟩ : PUnit)) >>= fun _ => pure ⟨⟩ := (bind_pure _).symm
  unfold Reads; rw [h]; rfl

theorem Reads.nullary {y : TRef sig Ty} {v : Ty.Contents Val} (h : Reads k l) :
    Reads ((hlo rfl (TRef.nullary y v) fun _ => .ret (⟨⟩ : PUnit)) >>= fun _ => k) (Line.nullary y v :: l) := Reads.cons (Line.nullary y v) h

theorem Reads.nullary_last {y : TRef sig Ty} {v : Ty.Contents Val} :
    Reads (nD := nD) (τ := τ) (Val := Val) (Λ := Λ) (hlo rfl (TRef.nullary y v) fun _ => .ret (⟨⟩ : PUnit)) [Line.nullary y v] := Reads.last (Line.nullary y v)

theorem Reads.unary {x : TRef sig Tx} {y : TRef sig Ty} {f : Tx.Contents Val → Ty.Contents Val} (h : Reads k l) :
    Reads ((hlo rfl (TRef.unary x y f) fun _ => .ret (⟨⟩ : PUnit)) >>= fun _ => k) (Line.unary x y f :: l) := Reads.cons (Line.unary x y f) h

theorem Reads.unary_last {x : TRef sig Tx} {y : TRef sig Ty} {f : Tx.Contents Val → Ty.Contents Val} :
    Reads (nD := nD) (τ := τ) (Val := Val) (Λ := Λ) (hlo rfl (TRef.unary x y f) fun _ => .ret (⟨⟩ : PUnit)) [Line.unary x y f] := Reads.last (Line.unary x y f)

theorem Reads.binary {a : TRef sig Ta} {b : TRef sig Tb} {y : TRef sig Ty} {f : Ta.Contents Val → Tb.Contents Val → Ty.Contents Val}
    (h : Reads k l) :
    Reads ((hlo rfl (TRef.binary a b y f) fun _ => .ret (⟨⟩ : PUnit)) >>= fun _ => k) (Line.binary a b y f :: l) := Reads.cons (Line.binary a b y f) h

theorem Reads.binary_last {a : TRef sig Ta} {b : TRef sig Tb} {y : TRef sig Ty} {f : Ta.Contents Val → Tb.Contents Val → Ty.Contents Val}
    :
    Reads (nD := nD) (τ := τ) (Val := Val) (Λ := Λ) (hlo rfl (TRef.binary a b y f) fun _ => .ret (⟨⟩ : PUnit)) [Line.binary a b y f] := Reads.last (Line.binary a b y f)

theorem Reads.ternary {c : TRef sig Tc} {a : TRef sig Ta} {b : TRef sig Tb} {y : TRef sig Ty}
    {f : Tc.Contents Val → Ta.Contents Val → Tb.Contents Val → Ty.Contents Val} (h : Reads k l) :
    Reads ((hlo rfl (TRef.ternary c a b y f) fun _ => .ret (⟨⟩ : PUnit)) >>= fun _ => k) (Line.ternary c a b y f :: l) := Reads.cons (Line.ternary c a b y f) h

theorem Reads.ternary_last {c : TRef sig Tc} {a : TRef sig Ta} {b : TRef sig Tb} {y : TRef sig Ty}
    {f : Tc.Contents Val → Ta.Contents Val → Tb.Contents Val → Ty.Contents Val} :
    Reads (nD := nD) (τ := τ) (Val := Val) (Λ := Λ) (hlo rfl (TRef.ternary c a b y f) fun _ => .ret (⟨⟩ : PUnit)) [Line.ternary c a b y f] := Reads.last (Line.ternary c a b y f)

theorem Reads.quaternary {a : TRef sig Ta} {b : TRef sig Tb} {c : TRef sig Tc} {e : TRef sig Te} {y : TRef sig Ty}
    {f : Ta.Contents Val → Tb.Contents Val → Tc.Contents Val → Te.Contents Val → Ty.Contents Val} (h : Reads k l) :
    Reads ((hlo rfl (TRef.quaternary a b c e y f) fun _ => .ret (⟨⟩ : PUnit)) >>= fun _ => k) (Line.quaternary a b c e y f :: l) := Reads.cons (Line.quaternary a b c e y f) h

theorem Reads.quaternary_last {a : TRef sig Ta} {b : TRef sig Tb} {c : TRef sig Tc} {e : TRef sig Te} {y : TRef sig Ty}
    {f : Ta.Contents Val → Tb.Contents Val → Tc.Contents Val → Te.Contents Val → Ty.Contents Val} :
    Reads (nD := nD) (τ := τ) (Val := Val) (Λ := Λ) (hlo rfl (TRef.quaternary a b c e y f) fun _ => .ret (⟨⟩ : PUnit)) [Line.quaternary a b c e y f] := Reads.last (Line.quaternary a b c e y f)

theorem Reads.reshape {x : TRef sig Tx} {y : TRef sig Ty} {he : Tx.elt = Ty.elt} {hn : Tx.shape.ShapeCasts Ty.shape} (h : Reads k l) :
    Reads ((hlo rfl (TRef.reshape x y he hn) fun _ => .ret (⟨⟩ : PUnit)) >>= fun _ => k) (Line.reshape x y he hn :: l) := Reads.cons (Line.reshape x y he hn) h

theorem Reads.reshape_last {x : TRef sig Tx} {y : TRef sig Ty} {he : Tx.elt = Ty.elt} {hn : Tx.shape.ShapeCasts Ty.shape} :
    Reads (nD := nD) (τ := τ) (Val := Val) (Λ := Λ) (hlo rfl (TRef.reshape x y he hn) fun _ => .ret (⟨⟩ : PUnit)) [Line.reshape x y he hn] := Reads.last (Line.reshape x y he hn)

theorem Reads.host_nullary {y : Ref sig .tc} {v : y.ty.Contents Val} {hy : Live τ y} (h : Reads k l) :
    Reads ((hlo rfl (StableHlo.nullary y v hy) fun _ => .ret (⟨⟩ : PUnit)) >>= fun _ => k) (Step.nullary y v hy :: l) := Reads.cons (Step.nullary y v hy) h

theorem Reads.host_unary {x y : Ref sig .tc} {f : x.ty.Contents Val → y.ty.Contents Val} {hx : Live τ x} {hy : Live τ y}
    (h : Reads k l) :
    Reads ((hlo rfl (StableHlo.unary x y f hx hy) fun _ => .ret (⟨⟩ : PUnit)) >>= fun _ => k) (Step.unary x y f hx hy :: l) := Reads.cons (Step.unary x y f hx hy) h

theorem Reads.host_binary {a b y : Ref sig .tc} {f : a.ty.Contents Val → b.ty.Contents Val → y.ty.Contents Val}
    {ha : Live τ a} {hb : Live τ b} {hy : Live τ y} (h : Reads k l) :
    Reads ((hlo rfl (StableHlo.binary a b y f ha hb hy) fun _ => .ret (⟨⟩ : PUnit)) >>= fun _ => k) (Step.binary a b y f ha hb hy :: l) := Reads.cons (Step.binary a b y f ha hb hy) h

theorem Reads.host_reshape {x y : Ref sig .tc} {he : x.ty.elt = y.ty.elt} {hn : x.ty.shape.ShapeCasts y.ty.shape}
    {hx : Live τ x} {hy : Live τ y} (h : Reads k l) :
    Reads ((hlo rfl (StableHlo.reshape x y he hn hx hy) fun _ => .ret (⟨⟩ : PUnit)) >>= fun _ => k) (Step.reshape x y he hn hx hy :: l) := Reads.cons (Step.reshape x y he hn hx hy) h

theorem Reads.call (h : Reads p l) (h' : Reads k l') : Reads (p >>= fun _ => k) (l ++ l') := by
  unfold Reads at h h' ⊢; rw [h, h', List.map_append, seq_append]

end Read

/-- Every step of the line finds its result in `W`. -/
def Holds (W : Valuation τ sig Val) : List (Step τ sig Val) → Prop
  | [] => True
  | o :: l => W (Proc.devRef .tc o.dst) = o.op.result W (Proc.devRef .tc o.dst) ∧ Holds W l

theorem Holds.append (W : Valuation τ sig Val) : ∀ {l l' : List (Step τ sig Val)},
    Holds W (l ++ l') ↔ Holds W l ∧ Holds W l'
  | [], _ => (true_and _).symm ▸ Iff.rfl
  | o :: l, l' => (and_congr_right fun _ => Holds.append W).trans and_assoc.symm

/-- Every step writes a buffer of an index at least `n`, above those written before it and those it reads. -/
def ordered : Nat → List (Step τ sig Val) → Bool
  | _, [] => true
  | n, o :: l => and (Nat.ble n o.dst.idx.val)
      (and (o.srcs.all fun s => Nat.blt s.idx.val o.dst.idx.val) (ordered (o.dst.idx.val + 1) l))

theorem result_of_ne (o : Step τ sig Val) (V : Valuation τ sig Val) {r : Ref sig .tc} (h : r.idx.val ≠ o.dst.idx.val) :
    o.op.result V (Proc.devRef .tc r) = V (Proc.devRef .tc r) :=
  o.op.result_of_not_mem V (by
    rw [o.writes_eq, Finset.mem_singleton]
    exact devRef_ne_of_ne fun e => h (by rw [e]))

theorem after_below : ∀ (l : List (Step τ sig Val)) (n : Nat) (V : Valuation τ sig Val), ordered n l = true →
    ∀ r : Ref sig .tc, r.idx.val < n → after (l.map Step.op) V (Proc.devRef .tc r) = V (Proc.devRef .tc r)
  | [], _, _, _, _, _ => rfl
  | o :: l, n, V, h, r, hr => by
    simp only [ordered, Bool.and_eq_true, Nat.ble_eq] at h
    rw [List.map_cons, after_cons, after_below l _ _ h.2.2 r (by omega), result_of_ne o V (by omega)]

/-- After a line whose steps are so ordered, every step finds its result. -/
theorem after_holds : ∀ (l : List (Step τ sig Val)) (n : Nat) (V : Valuation τ sig Val), ordered n l = true →
    Holds (after (l.map Step.op) V) l
  | [], _, _, _ => trivial
  | o :: l, n, V, h => by
    simp only [ordered, Bool.and_eq_true, Nat.ble_eq, List.all_eq_true, Nat.blt_eq] at h
    refine ⟨?_, after_holds l _ _ h.2.2⟩
    rw [List.map_cons, after_cons, after_below l _ _ h.2.2 o.dst (by omega)]
    refine o.reads _ _ fun s hs => ?_
    have hlt := h.2.1 s hs
    rw [after_below l _ _ h.2.2 s (by omega), result_of_ne o V (by omega)]

/-- The run of a program that is such a line: it ends in a memory in which every step finds its result and the buffers
    below the first written one are unchanged. -/
theorem run (defs : Defs nD τ sig Val Λ) (main : Dev nD → Prog (TpuEff nD τ sig Val Λ .tc) PUnit)
    (l : List (Step τ sig Val)) (n : Nat) (hmain : ∀ d, Reads (main d) l) (hl : ordered n l = true)
    (hR : (Finset.univ.filter fun b : Ref sig .tc => b.isScoped) = ∅)
    (hC : (Finset.univ.filter fun sm : SemLoc sig => sm.isScoped .tc) = ∅)
    (m : (ℓ : Loc nD τ sig) → Buf Val ℓ) (ρ : Dev nD → PrngReg) :
    θ_run defs (onTc (τ := τ) main) ⟨m, fun _ => 0, ρ⟩ fun r => ∀ d : Dev nD, ∃ W : Valuation τ sig Val,
      Holds W l ∧ (∀ b : Ref sig .tc, r.2.mem ((d.tc : Thread nD τ).loc b) = W (Proc.devRef .tc b))
        ∧ ∀ b : Ref sig .tc, b.idx.val < n → W (Proc.devRef .tc b) = m ((d.tc : Thread nD τ).loc b) := by
  refine θ_run_mono (run_hlo defs main hmain hR hC ?_ ?_ m ρ) fun r hr d => ?_
  · rw [List.forall_iff_forall_mem]
    intro op hop
    obtain ⟨o, _, rfl⟩ := List.mem_map.mp hop
    exact o.bufs_sub
  · intro op hop
    obtain ⟨o, _, rfl⟩ := List.mem_map.mp hop
    exact o.fresh_eq
  · exact ⟨_, after_holds l n _ hl, hr d, fun b hb => after_below l n _ hl b hb⟩

/-! What a value holds. -/

/-- What `W` holds of the typed value `x`. -/
abbrev val {T : BufTy} (W : Valuation τ sig Val) (x : TRef sig T) : T.Contents Val := x.ofBuf (W (Proc.devRef .tc x.ref))

section Values

variable {W : Valuation τ sig Val} {l : List (Step τ sig Val)} {T Tx Ta Tb Tc Te Ty : BufTy}

theorem ofBuf_toBuf (x : TRef sig T) (v : T.Contents Val) : x.ofBuf (x.toBuf v) = v := by
  simp only [TRef.ofBuf, TRef.toBuf, cast_cast, cast_eq]

theorem val_eq_iff (y : TRef sig Ty) (v : Ty.Contents Val) : W (Proc.devRef .tc y.ref) = y.toBuf v ↔ val W y = v :=
  ⟨fun h => by rw [val, h, ofBuf_toBuf], fun h => by rw [← h]; simp [val]⟩

theorem holds_nullary {y : TRef sig Ty} {v : Ty.Contents Val} :
    Holds W (nullary y v :: l) ↔ val W y = v ∧ Holds W l := by
  refine and_congr_left fun _ => ?_
  simp only [nullary, Step.nullary]
  rw [nullary_result, val_eq_iff]

theorem holds_unary {x : TRef sig Tx} {y : TRef sig Ty} {f : Tx.Contents Val → Ty.Contents Val} :
    Holds W (unary x y f :: l) ↔ val W y = f (val W x) ∧ Holds W l := by
  refine and_congr_left fun _ => ?_
  simp only [unary, Step.unary]
  rw [unary_result, val_eq_iff]

theorem holds_binary {a : TRef sig Ta} {b : TRef sig Tb} {y : TRef sig Ty}
    {f : Ta.Contents Val → Tb.Contents Val → Ty.Contents Val} :
    Holds W (binary a b y f :: l)
      ↔ val W y = f (val W a) (val W b) ∧ Holds W l := by
  refine and_congr_left fun _ => ?_
  simp only [binary, Step.binary]
  rw [binary_result, val_eq_iff]

theorem holds_ternary {c : TRef sig Tc} {a : TRef sig Ta} {b : TRef sig Tb} {y : TRef sig Ty}
    {f : Tc.Contents Val → Ta.Contents Val → Tb.Contents Val → Ty.Contents Val} :
    Holds W (ternary c a b y f :: l)
      ↔ val W y = f (val W c) (val W a) (val W b) ∧ Holds W l := by
  refine and_congr_left fun _ => ?_
  simp only [ternary, Step.ternary]
  rw [ternary_result, val_eq_iff]

theorem holds_quaternary {a : TRef sig Ta} {b : TRef sig Tb} {c : TRef sig Tc} {e : TRef sig Te} {y : TRef sig Ty}
    {f : Ta.Contents Val → Tb.Contents Val → Tc.Contents Val → Te.Contents Val → Ty.Contents Val} :
    Holds W (quaternary a b c e y f :: l)
      ↔ val W y = f (val W a) (val W b) (val W c) (val W e) ∧ Holds W l := by
  refine and_congr_left fun _ => ?_
  simp only [quaternary, Step.quaternary]
  rw [quaternary_result, val_eq_iff]

theorem cast_reshape {e : EltTy} {s t : Shape} (hn : s.ShapeCasts t) {A B : BufTy} (hA : A = ⟨s, e⟩) (hB : B = ⟨t, e⟩)
    (he : A.elt = B.elt) (hn' : A.shape.ShapeCasts B.shape) (w : A.Contents Val) (u : B.Contents Val) :
    (u = fun i => he ▸ shapeCast B.shape w hn' i)
      ↔ cast (congrArg (fun U : BufTy => U.Contents Val) hB) u
        = shapeCast t (cast (congrArg (fun U : BufTy => U.Contents Val) hA) w) hn := by
  subst hA hB
  exact Iff.rfl

theorem holds_reshape {e : EltTy} {s t : Shape} {x : TRef sig ⟨s, e⟩} {y : TRef sig ⟨t, e⟩} {he : e = e} {hn : s.ShapeCasts t} :
    Holds W (reshape x y he hn :: l) ↔ val W y = shapeCast t (val W x) hn ∧ Holds W l := by
  refine and_congr_left fun _ => ?_
  simp only [reshape, Step.reshape]
  rw [reshape_result]
  exact cast_reshape hn x.ty_eq y.ty_eq _ _ _ _

/-! The same at the program's own buffers. -/

theorem holds_host_nullary {y : Ref sig .tc} {v : y.ty.Contents Val} {hy : Live τ y} :
    Holds W (Step.nullary y v hy :: l) ↔ W (Proc.devRef .tc y) = v ∧ Holds W l := by
  refine and_congr_left fun _ => ?_
  simp only [Step.nullary]
  rw [nullary_result]

theorem holds_host_unary {x y : Ref sig .tc} {f : x.ty.Contents Val → y.ty.Contents Val} {hx : Live τ x} {hy : Live τ y} :
    Holds W (Step.unary x y f hx hy :: l) ↔ W (Proc.devRef .tc y) = f (W (Proc.devRef .tc x)) ∧ Holds W l := by
  refine and_congr_left fun _ => ?_
  simp only [Step.unary]
  rw [unary_result]

theorem holds_host_binary {a b y : Ref sig .tc} {f : a.ty.Contents Val → b.ty.Contents Val → y.ty.Contents Val}
    {ha : Live τ a} {hb : Live τ b} {hy : Live τ y} :
    Holds W (Step.binary a b y f ha hb hy :: l)
      ↔ W (Proc.devRef .tc y) = f (W (Proc.devRef .tc a)) (W (Proc.devRef .tc b)) ∧ Holds W l := by
  refine and_congr_left fun _ => ?_
  simp only [Step.binary]
  rw [binary_result]

theorem holds_host_reshape {x y : Ref sig .tc} {he : x.ty.elt = y.ty.elt} {hn : x.ty.shape.ShapeCasts y.ty.shape}
    {hx : Live τ x} {hy : Live τ y} :
    Holds W (Step.reshape x y he hn hx hy :: l)
      ↔ (W (Proc.devRef .tc y) = fun i => he ▸ shapeCast y.ty.shape (W (Proc.devRef .tc x)) hn i) ∧ Holds W l := by
  refine and_congr_left fun _ => ?_
  simp only [Step.reshape]
  rw [reshape_result]

end Values

end Cert.Line

end
-- ==== Proof.Lines.lean ====
module

public import proofs.«01_k».proof.Proof.Line
public import proofs.«01_k».proof.Proof.Gen.ReferenceIdeal
public import Idealize.ShloMosaic.PureOps.Ideal

@[expose] public section

set_option maxRecDepth 16384

noncomputable section

namespace Cert.Lines

open Idealize.ShloMosaic Idealize.ShloMosaic.StableHlo Idealize.SL.Sem Cert.Line Cert.ReferenceIdeal

/-! The reference's functions as lines of steps. -/

/-- The line a program is. -/
abbrev LineOf (p : Prog (TpuEff nD τ sig (Elt Ideal) (Pipeline.Sig Λ₀ (Fin 0) fun p => (pcfgs (F := Ideal) p).Adm) .tc) PUnit) :
    Type := {l : List (Step τ sig (Elt Ideal)) // Reads p l}

/-- Part 1 of the cipher of an array of shape S2. -/
def cipherOf2_0 (k₀ k₁ : TRef sig ⟨S_, .i32⟩) (c₀ c₁ : TRef sig ⟨S2, .i32⟩) (φ : fn_threefry2x32.Bufs) :
    LineOf (fn_threefry2x32.body_part0 (F := Ideal) k₀ k₁ c₀ c₁ φ) := by
  apply Subtype.mk
  unfold fn_threefry2x32.body_part0
  repeat first
    | with_reducible exact Reads.nil
    | with_reducible exact Reads.nullary_last
    | with_reducible exact Reads.unary_last
    | with_reducible exact Reads.binary_last
    | with_reducible apply Reads.nullary
    | with_reducible apply Reads.unary
    | with_reducible apply Reads.binary
    | with_reducible apply Reads.ternary
    | with_reducible apply Reads.quaternary
    | with_reducible apply Reads.reshape

/-- Part 2 of the cipher of an array of shape S2. -/
def cipherOf2_1 (k₀ k₁ : TRef sig ⟨S_, .i32⟩) (c₀ c₁ : TRef sig ⟨S2, .i32⟩) (φ : fn_threefry2x32.Bufs) :
    LineOf (fn_threefry2x32.body_part1 (F := Ideal) k₀ k₁ c₀ c₁ φ) := by
  apply Subtype.mk
  unfold fn_threefry2x32.body_part1
  repeat first
    | with_reducible exact Reads.nil
    | with_reducible exact Reads.nullary_last
    | with_reducible exact Reads.unary_last
    | with_reducible exact Reads.binary_last
    | with_reducible apply Reads.nullary
    | with_reducible apply Reads.unary
    | with_reducible apply Reads.binary
    | with_reducible apply Reads.ternary
    | with_reducible apply Reads.quaternary
    | with_reducible apply Reads.reshape

/-- Part 3 of the cipher of an array of shape S2. -/
def cipherOf2_2 (k₀ k₁ : TRef sig ⟨S_, .i32⟩) (c₀ c₁ : TRef sig ⟨S2, .i32⟩) (φ : fn_threefry2x32.Bufs) :
    LineOf (fn_threefry2x32.body_part2 (F := Ideal) k₀ k₁ c₀ c₁ φ) := by
  apply Subtype.mk
  unfold fn_threefry2x32.body_part2
  repeat first
    | with_reducible exact Reads.nil
    | with_reducible exact Reads.nullary_last
    | with_reducible exact Reads.unary_last
    | with_reducible exact Reads.binary_last
    | with_reducible apply Reads.nullary
    | with_reducible apply Reads.unary
    | with_reducible apply Reads.binary
    | with_reducible apply Reads.ternary
    | with_reducible apply Reads.quaternary
    | with_reducible apply Reads.reshape

/-- Part 4 of the cipher of an array of shape S2. -/
def cipherOf2_3 (k₀ k₁ : TRef sig ⟨S_, .i32⟩) (c₀ c₁ : TRef sig ⟨S2, .i32⟩) (φ : fn_threefry2x32.Bufs) :
    LineOf (fn_threefry2x32.body_part3 (F := Ideal) k₀ k₁ c₀ c₁ φ) := by
  apply Subtype.mk
  unfold fn_threefry2x32.body_part3
  repeat first
    | with_reducible exact Reads.nil
    | with_reducible exact Reads.nullary_last
    | with_reducible exact Reads.unary_last
    | with_reducible exact Reads.binary_last
    | with_reducible apply Reads.nullary
    | with_reducible apply Reads.unary
    | with_reducible apply Reads.binary
    | with_reducible apply Reads.ternary
    | with_reducible apply Reads.quaternary
    | with_reducible apply Reads.reshape

/-- The cipher of an array of shape S2. -/
def cipherOf2 (k₀ k₁ : TRef sig ⟨S_, .i32⟩) (c₀ c₁ : TRef sig ⟨S2, .i32⟩) (φ : fn_threefry2x32.Bufs) : LineOf (fn_threefry2x32.body (F := Ideal) k₀ k₁ c₀ c₁ φ) :=
  ⟨_, Reads.call (cipherOf2_0 k₀ k₁ c₀ c₁ φ).2 (Reads.call (cipherOf2_1 k₀ k₁ c₀ c₁ φ).2
    (Reads.call (cipherOf2_2 k₀ k₁ c₀ c₁ φ).2 (cipherOf2_3 k₀ k₁ c₀ c₁ φ).2))⟩

/-- Part 1 of the cipher of an array of shape S128x8192x2. -/
def cipherOfPairs_0 (k₀ k₁ : TRef sig ⟨S_, .i32⟩) (c₀ c₁ : TRef sig ⟨S128x8192x2, .i32⟩) (φ : fn_threefry2x32_0.Bufs) :
    LineOf (fn_threefry2x32_0.body_part0 (F := Ideal) k₀ k₁ c₀ c₁ φ) := by
  apply Subtype.mk
  unfold fn_threefry2x32_0.body_part0
  repeat first
    | with_reducible exact Reads.nil
    | with_reducible exact Reads.nullary_last
    | with_reducible exact Reads.unary_last
    | with_reducible exact Reads.binary_last
    | with_reducible apply Reads.nullary
    | with_reducible apply Reads.unary
    | with_reducible apply Reads.binary
    | with_reducible apply Reads.ternary
    | with_reducible apply Reads.quaternary
    | with_reducible apply Reads.reshape

/-- Part 2 of the cipher of an array of shape S128x8192x2. -/
def cipherOfPairs_1 (k₀ k₁ : TRef sig ⟨S_, .i32⟩) (c₀ c₁ : TRef sig ⟨S128x8192x2, .i32⟩) (φ : fn_threefry2x32_0.Bufs) :
    LineOf (fn_threefry2x32_0.body_part1 (F := Ideal) k₀ k₁ c₀ c₁ φ) := by
  apply Subtype.mk
  unfold fn_threefry2x32_0.body_part1
  repeat first
    | with_reducible exact Reads.nil
    | with_reducible exact Reads.nullary_last
    | with_reducible exact Reads.unary_last
    | with_reducible exact Reads.binary_last
    | with_reducible apply Reads.nullary
    | with_reducible apply Reads.unary
    | with_reducible apply Reads.binary
    | with_reducible apply Reads.ternary
    | with_reducible apply Reads.quaternary
    | with_reducible apply Reads.reshape

/-- Part 3 of the cipher of an array of shape S128x8192x2. -/
def cipherOfPairs_2 (k₀ k₁ : TRef sig ⟨S_, .i32⟩) (c₀ c₁ : TRef sig ⟨S128x8192x2, .i32⟩) (φ : fn_threefry2x32_0.Bufs) :
    LineOf (fn_threefry2x32_0.body_part2 (F := Ideal) k₀ k₁ c₀ c₁ φ) := by
  apply Subtype.mk
  unfold fn_threefry2x32_0.body_part2
  repeat first
    | with_reducible exact Reads.nil
    | with_reducible exact Reads.nullary_last
    | with_reducible exact Reads.unary_last
    | with_reducible exact Reads.binary_last
    | with_reducible apply Reads.nullary
    | with_reducible apply Reads.unary
    | with_reducible apply Reads.binary
    | with_reducible apply Reads.ternary
    | with_reducible apply Reads.quaternary
    | with_reducible apply Reads.reshape

/-- Part 4 of the cipher of an array of shape S128x8192x2. -/
def cipherOfPairs_3 (k₀ k₁ : TRef sig ⟨S_, .i32⟩) (c₀ c₁ : TRef sig ⟨S128x8192x2, .i32⟩) (φ : fn_threefry2x32_0.Bufs) :
    LineOf (fn_threefry2x32_0.body_part3 (F := Ideal) k₀ k₁ c₀ c₁ φ) := by
  apply Subtype.mk
  unfold fn_threefry2x32_0.body_part3
  repeat first
    | with_reducible exact Reads.nil
    | with_reducible exact Reads.nullary_last
    | with_reducible exact Reads.unary_last
    | with_reducible exact Reads.binary_last
    | with_reducible apply Reads.nullary
    | with_reducible apply Reads.unary
    | with_reducible apply Reads.binary
    | with_reducible apply Reads.ternary
    | with_reducible apply Reads.quaternary
    | with_reducible apply Reads.reshape

/-- The cipher of an array of shape S128x8192x2. -/
def cipherOfPairs (k₀ k₁ : TRef sig ⟨S_, .i32⟩) (c₀ c₁ : TRef sig ⟨S128x8192x2, .i32⟩) (φ : fn_threefry2x32_0.Bufs) : LineOf (fn_threefry2x32_0.body (F := Ideal) k₀ k₁ c₀ c₁ φ) :=
  ⟨_, Reads.call (cipherOfPairs_0 k₀ k₁ c₀ c₁ φ).2 (Reads.call (cipherOfPairs_1 k₀ k₁ c₀ c₁ φ).2
    (Reads.call (cipherOfPairs_2 k₀ k₁ c₀ c₁ φ).2 (cipherOfPairs_3 k₀ k₁ c₀ c₁ φ).2))⟩

/-- Part 1 of the cipher of an array of shape S128x8192. -/
def cipherOfAll_0 (k₀ k₁ : TRef sig ⟨S_, .i32⟩) (c₀ c₁ : TRef sig ⟨S128x8192, .i32⟩) (φ : fn_threefry2x32_3.Bufs) :
    LineOf (fn_threefry2x32_3.body_part0 (F := Ideal) k₀ k₁ c₀ c₁ φ) := by
  apply Subtype.mk
  unfold fn_threefry2x32_3.body_part0
  repeat first
    | with_reducible exact Reads.nil
    | with_reducible exact Reads.nullary_last
    | with_reducible exact Reads.unary_last
    | with_reducible exact Reads.binary_last
    | with_reducible apply Reads.nullary
    | with_reducible apply Reads.unary
    | with_reducible apply Reads.binary
    | with_reducible apply Reads.ternary
    | with_reducible apply Reads.quaternary
    | with_reducible apply Reads.reshape

/-- Part 2 of the cipher of an array of shape S128x8192. -/
def cipherOfAll_1 (k₀ k₁ : TRef sig ⟨S_, .i32⟩) (c₀ c₁ : TRef sig ⟨S128x8192, .i32⟩) (φ : fn_threefry2x32_3.Bufs) :
    LineOf (fn_threefry2x32_3.body_part1 (F := Ideal) k₀ k₁ c₀ c₁ φ) := by
  apply Subtype.mk
  unfold fn_threefry2x32_3.body_part1
  repeat first
    | with_reducible exact Reads.nil
    | with_reducible exact Reads.nullary_last
    | with_reducible exact Reads.unary_last
    | with_reducible exact Reads.binary_last
    | with_reducible apply Reads.nullary
    | with_reducible apply Reads.unary
    | with_reducible apply Reads.binary
    | with_reducible apply Reads.ternary
    | with_reducible apply Reads.quaternary
    | with_reducible apply Reads.reshape

/-- Part 3 of the cipher of an array of shape S128x8192. -/
def cipherOfAll_2 (k₀ k₁ : TRef sig ⟨S_, .i32⟩) (c₀ c₁ : TRef sig ⟨S128x8192, .i32⟩) (φ : fn_threefry2x32_3.Bufs) :
    LineOf (fn_threefry2x32_3.body_part2 (F := Ideal) k₀ k₁ c₀ c₁ φ) := by
  apply Subtype.mk
  unfold fn_threefry2x32_3.body_part2
  repeat first
    | with_reducible exact Reads.nil
    | with_reducible exact Reads.nullary_last
    | with_reducible exact Reads.unary_last
    | with_reducible exact Reads.binary_last
    | with_reducible apply Reads.nullary
    | with_reducible apply Reads.unary
    | with_reducible apply Reads.binary
    | with_reducible apply Reads.ternary
    | with_reducible apply Reads.quaternary
    | with_reducible apply Reads.reshape

/-- Part 4 of the cipher of an array of shape S128x8192. -/
def cipherOfAll_3 (k₀ k₁ : TRef sig ⟨S_, .i32⟩) (c₀ c₁ : TRef sig ⟨S128x8192, .i32⟩) (φ : fn_threefry2x32_3.Bufs) :
    LineOf (fn_threefry2x32_3.body_part3 (F := Ideal) k₀ k₁ c₀ c₁ φ) := by
  apply Subtype.mk
  unfold fn_threefry2x32_3.body_part3
  repeat first
    | with_reducible exact Reads.nil
    | with_reducible exact Reads.nullary_last
    | with_reducible exact Reads.unary_last
    | with_reducible exact Reads.binary_last
    | with_reducible apply Reads.nullary
    | with_reducible apply Reads.unary
    | with_reducible apply Reads.binary
    | with_reducible apply Reads.ternary
    | with_reducible apply Reads.quaternary
    | with_reducible apply Reads.reshape

/-- The cipher of an array of shape S128x8192. -/
def cipherOfAll (k₀ k₁ : TRef sig ⟨S_, .i32⟩) (c₀ c₁ : TRef sig ⟨S128x8192, .i32⟩) (φ : fn_threefry2x32_3.Bufs) : LineOf (fn_threefry2x32_3.body (F := Ideal) k₀ k₁ c₀ c₁ φ) :=
  ⟨_, Reads.call (cipherOfAll_0 k₀ k₁ c₀ c₁ φ).2 (Reads.call (cipherOfAll_1 k₀ k₁ c₀ c₁ φ).2
    (Reads.call (cipherOfAll_2 k₀ k₁ c₀ c₁ φ).2 (cipherOfAll_3 k₀ k₁ c₀ c₁ φ).2))⟩

/-- A key split in two, for the two draws of the program. -/
def split (k : TRef sig ⟨S2, .i32⟩) (φ : fn_threefry_split.Bufs) :
    LineOf (fn_threefry_split.body (F := Ideal) k φ) := by
  apply Subtype.mk
  unfold fn_threefry_split.body
  repeat first
    | with_reducible exact Reads.nil
    | with_reducible exact Reads.nullary_last
    | with_reducible exact Reads.unary_last
    | with_reducible exact Reads.binary_last
    | with_reducible apply Reads.nullary
    | with_reducible apply Reads.unary
    | with_reducible apply Reads.binary
    | with_reducible apply Reads.ternary
    | with_reducible apply Reads.quaternary
    | with_reducible apply Reads.reshape
    | with_reducible apply Reads.call (cipherOf2 _ _ _ _ _).2

/-- A key split in two, within the draw of an integer. -/
def splitAgain (k : TRef sig ⟨S2, .i32⟩) (φ : fn_threefry_split_2.Bufs) :
    LineOf (fn_threefry_split_2.body (F := Ideal) k φ) := by
  apply Subtype.mk
  unfold fn_threefry_split_2.body
  repeat first
    | with_reducible exact Reads.nil
    | with_reducible exact Reads.nullary_last
    | with_reducible exact Reads.unary_last
    | with_reducible exact Reads.binary_last
    | with_reducible apply Reads.nullary
    | with_reducible apply Reads.unary
    | with_reducible apply Reads.binary
    | with_reducible apply Reads.ternary
    | with_reducible apply Reads.quaternary
    | with_reducible apply Reads.reshape
    | with_reducible apply Reads.call (cipherOf2 _ _ _ _ _).2

/-- Uniform draws. -/
def uniform (k : TRef sig ⟨S2, .i32⟩) (lo hi : TRef sig ⟨S_, .f32⟩) (φ : fn_uniform.Bufs) :
    LineOf (fn_uniform.body (F := Ideal) k lo hi φ) := by
  apply Subtype.mk
  unfold fn_uniform.body
  repeat first
    | with_reducible exact Reads.nil
    | with_reducible exact Reads.nullary_last
    | with_reducible exact Reads.unary_last
    | with_reducible exact Reads.binary_last
    | with_reducible apply Reads.nullary
    | with_reducible apply Reads.unary
    | with_reducible apply Reads.binary
    | with_reducible apply Reads.ternary
    | with_reducible apply Reads.quaternary
    | with_reducible apply Reads.reshape
    | with_reducible apply Reads.call (cipherOfPairs _ _ _ _ _).2

/-- Gumbel draws. -/
def gumbel (k : TRef sig ⟨S2, .i32⟩) (φ : fn_gumbel.Bufs) :
    LineOf (fn_gumbel.body (F := Ideal) k φ) := by
  apply Subtype.mk
  unfold fn_gumbel.body
  repeat first
    | with_reducible exact Reads.nil
    | with_reducible exact Reads.nullary_last
    | with_reducible exact Reads.unary_last
    | with_reducible exact Reads.binary_last
    | with_reducible apply Reads.nullary
    | with_reducible apply Reads.unary
    | with_reducible apply Reads.binary
    | with_reducible apply Reads.ternary
    | with_reducible apply Reads.quaternary
    | with_reducible apply Reads.reshape
    | with_reducible apply Reads.call (uniform _ _ _ _).2

/-- The greatest of two. -/
def argmax (x : TRef sig ⟨S128x8192x2, .f32⟩) (φ : fn_argmax.Bufs) :
    LineOf (fn_argmax.body (F := Ideal) x φ) := by
  apply Subtype.mk
  unfold fn_argmax.body
  repeat first
    | with_reducible exact Reads.nil
    | with_reducible exact Reads.nullary_last
    | with_reducible exact Reads.unary_last
    | with_reducible exact Reads.binary_last
    | with_reducible apply Reads.nullary
    | with_reducible apply Reads.unary
    | with_reducible apply Reads.binary
    | with_reducible apply Reads.ternary
    | with_reducible apply Reads.quaternary
    | with_reducible apply Reads.reshape

/-- A bound clipped. -/
def clip (x lo hi : TRef sig ⟨S_, .i32⟩) (φ : fn_clip.Bufs) :
    LineOf (fn_clip.body (F := Ideal) x lo hi φ) := by
  apply Subtype.mk
  unfold fn_clip.body
  repeat first
    | with_reducible exact Reads.nil
    | with_reducible exact Reads.nullary_last
    | with_reducible exact Reads.unary_last
    | with_reducible exact Reads.binary_last
    | with_reducible apply Reads.nullary
    | with_reducible apply Reads.unary
    | with_reducible apply Reads.binary
    | with_reducible apply Reads.ternary
    | with_reducible apply Reads.quaternary
    | with_reducible apply Reads.reshape

/-- A bound clipped. -/
def clipAgain (x lo hi : TRef sig ⟨S_, .i32⟩) (φ : fn_clip_1.Bufs) :
    LineOf (fn_clip_1.body (F := Ideal) x lo hi φ) := by
  apply Subtype.mk
  unfold fn_clip_1.body
  repeat first
    | with_reducible exact Reads.nil
    | with_reducible exact Reads.nullary_last
    | with_reducible exact Reads.unary_last
    | with_reducible exact Reads.binary_last
    | with_reducible apply Reads.nullary
    | with_reducible apply Reads.unary
    | with_reducible apply Reads.binary
    | with_reducible apply Reads.ternary
    | with_reducible apply Reads.quaternary
    | with_reducible apply Reads.reshape

/-- The first part of the draw of integers. -/
def randint_0 (k : TRef sig ⟨S2, .i32⟩) (lo hi : TRef sig ⟨S_, .i32⟩) (φ : fn_randint.Bufs) :
    LineOf (fn_randint.body_part0 (F := Ideal) k lo hi φ) := by
  apply Subtype.mk
  unfold fn_randint.body_part0
  repeat first
    | with_reducible exact Reads.nil
    | with_reducible exact Reads.nullary_last
    | with_reducible exact Reads.unary_last
    | with_reducible exact Reads.binary_last
    | with_reducible apply Reads.nullary
    | with_reducible apply Reads.unary
    | with_reducible apply Reads.binary
    | with_reducible apply Reads.ternary
    | with_reducible apply Reads.quaternary
    | with_reducible apply Reads.reshape
    | with_reducible apply Reads.call (clip _ _ _ _).2
    | with_reducible apply Reads.call (clipAgain _ _ _ _).2
    | with_reducible apply Reads.call (splitAgain _ _).2
    | with_reducible apply Reads.call (cipherOfAll _ _ _ _ _).2

/-- The second part of the draw of integers. -/
def randint_1 (k : TRef sig ⟨S2, .i32⟩) (lo hi : TRef sig ⟨S_, .i32⟩) (φ : fn_randint.Bufs) :
    LineOf (fn_randint.body_part1 (F := Ideal) k lo hi φ) := by
  apply Subtype.mk
  unfold fn_randint.body_part1
  repeat first
    | with_reducible exact Reads.nil
    | with_reducible exact Reads.nullary_last
    | with_reducible exact Reads.unary_last
    | with_reducible exact Reads.binary_last
    | with_reducible apply Reads.nullary
    | with_reducible apply Reads.unary
    | with_reducible apply Reads.binary
    | with_reducible apply Reads.ternary
    | with_reducible apply Reads.quaternary
    | with_reducible apply Reads.reshape

/-- Integer draws. -/
def randint (k : TRef sig ⟨S2, .i32⟩) (lo hi : TRef sig ⟨S_, .i32⟩) (φ : fn_randint.Bufs) : LineOf (fn_randint.body (F := Ideal) k lo hi φ) :=
  ⟨_, Reads.call (randint_0 k lo hi φ).2 (randint_1 k lo hi φ).2⟩

/-- The whole reference. -/
def whole (d : Dev nD) : LineOf (ReferenceIdeal.main (F := Ideal) d) := by
  apply Subtype.mk
  unfold ReferenceIdeal.main
  repeat first
    | with_reducible exact Reads.nil
    | with_reducible apply Reads.host_nullary
    | with_reducible apply Reads.host_unary
    | with_reducible apply Reads.host_binary
    | with_reducible apply Reads.host_reshape
    | with_reducible apply Reads.call (split _ _).2
    | with_reducible apply Reads.call (gumbel _ _).2
    | with_reducible apply Reads.call (argmax _ _).2
    | with_reducible apply Reads.call (randint _ _ _ _).2

/-- Its values are written in the order of their buffers. -/
theorem whole_ordered : ordered 1 (whole 0).1 = true := by decide +kernel

end Cert.Lines

end
-- ==== Proof.Threefry.lean ====
module

public import proofs.«01_k».proof.Proof.Hash
public import proofs.«01_k».proof.Proof.Lines
public import Idealize.ShloMosaic.Lib.StableHlo.ReadAt

@[expose] public section

set_option maxRecDepth 16384

noncomputable section

namespace Cert.Lines

open Idealize.ShloMosaic Idealize.ShloMosaic.StableHlo Cert.Line Cert.ReferenceIdeal Cert.Hash

/-! What the reference's cipher functions compute. -/

variable {W : Valuation τ sig (Elt Ideal)} {l : List (Step τ sig (Elt Ideal))} {s : Shape}

/-- The pair of words two arrays hold at an index. -/
def pair (W : Valuation τ sig (Elt Ideal)) (x y : TRef sig ⟨s, .i32⟩) (i : s.Idx) : Word × Word := (val W x i, val W y i)

/-- A word shifted left by an amount below its width, as the host computes it. -/
theorem host_shl {r : Nat} (hr : r < 32) (x : Word) : IntOp.shli .host x (BitVec.ofNat 32 r) = x <<< r := by
  have e : (BitVec.ofNat 32 r).toNat = r := by simp; omega
  simp [IntOp.shli, e, hr]

/-- A word shifted right by an amount below its width, as the host computes it. -/
theorem host_shr {r : Nat} (hr : r < 32) (x : Word) : IntOp.shrui .host x (BitVec.ofNat 32 r) = x >>> r := by
  have e : (BitVec.ofNat 32 r).toNat = r := by simp; omega
  simp [IntOp.shrui, e, hr]

/-- The nine steps of a round compute a round. -/
theorem holds_stir {x₀ x₁ y₀ y₁ u v o p q : TRef sig ⟨s, .i32⟩} {a b : TRef sig ⟨S_, .i32⟩}
    {hb : S_.BroadcastsInDim s ![]} (r : Nat) (h₀ : 0 < r) (h₁ : r < 32)
    (h : Holds W (binary x₀ x₁ y₀ addi :: nullary a (constantI S_ 32 (BitVec.ofNat 32 r)) :: unary a p (broadcastInDim s ![] hb)
      :: binary x₁ p u Host.shli :: nullary b (constantI S_ 32 (BitVec.ofNat 32 (32 - r))) :: unary b q (broadcastInDim s ![] hb)
      :: binary x₁ q v Host.shrui :: binary u v o ori :: binary y₀ o y₁ xori :: l)) :
    Holds W l ∧ ∀ i, pair W y₀ y₁ i = stir r (pair W x₀ x₁ i) := by
  simp only [holds_binary, holds_unary, holds_nullary] at h
  obtain ⟨e₁, e₂, e₃, e₄, e₅, e₆, e₇, e₈, e₉, h⟩ := h
  refine ⟨h, fun i => ?_⟩
  have hu : val W u i = val W x₁ i <<< r := by
    rw [e₄, e₃, e₂]; exact host_shl h₁ _
  have hv : val W v i = val W x₁ i >>> (32 - r) := by
    rw [e₇, e₆, e₅]; exact host_shr (by omega) _
  have hy : val W y₀ i = val W x₀ i + val W x₁ i := by rw [e₁]; rfl
  have ho : val W o i = turn r (val W x₁ i) := by
    rw [e₈]; show val W u i ||| val W v i = _; rw [hu, hv]; rfl
  have hz : val W y₁ i = turn r (val W x₁ i) ^^^ (val W x₀ i + val W x₁ i) := by
    rw [e₉]; show val W y₀ i ^^^ val W o i = _; rw [hy, ho, BitVec.xor_comm]
  exact Prod.ext hy hz

/-- The seven steps that add the key words. -/
theorem holds_key {x₀ x₁ y₀ y₁ t p q c : TRef sig ⟨s, .i32⟩} {a b n : TRef sig ⟨S_, .i32⟩}
    {hb : S_.BroadcastsInDim s ![]} {A B N : Word} (hA : ∀ j, val W a j = A) (hB : ∀ j, val W b j = B)
    (h : Holds W (unary a p (broadcastInDim s ![] hb) :: binary x₀ p y₀ addi :: unary b q (broadcastInDim s ![] hb)
      :: binary x₁ q t addi :: nullary n (constantI S_ 32 N) :: unary n c (broadcastInDim s ![] hb)
      :: binary t c y₁ addi :: l)) :
    Holds W l ∧ ∀ i, pair W y₀ y₁ i = ((pair W x₀ x₁ i).1 + A, (pair W x₀ x₁ i).2 + (B + N)) := by
  simp only [holds_binary, holds_unary, holds_nullary] at h
  obtain ⟨e₁, e₂, e₃, e₄, e₅, e₆, e₇, h⟩ := h
  refine ⟨h, fun i => Prod.ext ?_ ?_⟩
  · show val W y₀ i = val W x₀ i + A
    rw [e₂, e₁, ← hA]; rfl
  · show val W y₁ i = val W x₁ i + (B + N)
    rw [e₇, e₄, e₃, e₆, e₅, ← BitVec.add_assoc, ← hB]; rfl

/-- The cipher of an array of shape S2 enciphers every pair of counters. -/
theorem cipherOf2_holds {k₀ k₁ : TRef sig ⟨S_, .i32⟩} {c₀ c₁ : TRef sig ⟨S2, .i32⟩} {φ : fn_threefry2x32.Bufs}
    {K₀ K₁ : Word} (hk₀ : ∀ j, val W k₀ j = K₀) (hk₁ : ∀ j, val W k₁ j = K₁)
    (h : Holds W (cipherOf2 k₀ k₁ c₀ c₁ φ).1) (i : S2.Idx) :
    pair W φ.v171 φ.v175 i = cipher K₀ K₁ (val W c₀ i) (val W c₁ i) := by
  simp only [cipherOf2, cipherOf2_0, cipherOf2_1, cipherOf2_2, cipherOf2_3, List.cons_append, List.nil_append] at h
  rw [holds_binary, holds_nullary, holds_binary, holds_unary, holds_binary, holds_unary, holds_binary] at h
  obtain ⟨e₁, e₂, e₃, e₄, e₅, e₆, e₇, h⟩ := h
  have hk₂ : ∀ j, val W φ.v1 j = third K₀ K₁ := fun j => by
    rw [e₃, e₁, e₂, ← hk₀ j, ← hk₁ j]; rfl
  have hs : pair W φ.v3 φ.v5 i = (val W c₀ i + K₀, val W c₁ i + K₁) := by
    refine Prod.ext ?_ ?_
    · show val W φ.v3 i = _
      rw [e₅, e₄, ← hk₀]; rfl
    · show val W φ.v5 i = _
      rw [e₇, e₆, ← hk₁]; rfl
  obtain ⟨h, s0⟩ := holds_stir 13 (by decide) (by decide) h
  obtain ⟨h, s1⟩ := holds_stir 15 (by decide) (by decide) h
  obtain ⟨h, s2⟩ := holds_stir 26 (by decide) (by decide) h
  obtain ⟨h, s3⟩ := holds_stir 6 (by decide) (by decide) h
  obtain ⟨h, t0⟩ := holds_key hk₁ hk₂ h
  obtain ⟨h, s4⟩ := holds_stir 17 (by decide) (by decide) h
  obtain ⟨h, s5⟩ := holds_stir 29 (by decide) (by decide) h
  obtain ⟨h, s6⟩ := holds_stir 16 (by decide) (by decide) h
  obtain ⟨h, s7⟩ := holds_stir 24 (by decide) (by decide) h
  obtain ⟨h, t1⟩ := holds_key hk₂ hk₀ h
  obtain ⟨h, s8⟩ := holds_stir 13 (by decide) (by decide) h
  obtain ⟨h, s9⟩ := holds_stir 15 (by decide) (by decide) h
  obtain ⟨h, s10⟩ := holds_stir 26 (by decide) (by decide) h
  obtain ⟨h, s11⟩ := holds_stir 6 (by decide) (by decide) h
  obtain ⟨h, t2⟩ := holds_key hk₀ hk₁ h
  obtain ⟨h, s12⟩ := holds_stir 17 (by decide) (by decide) h
  obtain ⟨h, s13⟩ := holds_stir 29 (by decide) (by decide) h
  obtain ⟨h, s14⟩ := holds_stir 16 (by decide) (by decide) h
  obtain ⟨h, s15⟩ := holds_stir 24 (by decide) (by decide) h
  obtain ⟨h, t3⟩ := holds_key hk₁ hk₂ h
  obtain ⟨h, s16⟩ := holds_stir 13 (by decide) (by decide) h
  obtain ⟨h, s17⟩ := holds_stir 15 (by decide) (by decide) h
  obtain ⟨h, s18⟩ := holds_stir 26 (by decide) (by decide) h
  obtain ⟨h, s19⟩ := holds_stir 6 (by decide) (by decide) h
  obtain ⟨h, t4⟩ := holds_key hk₂ hk₀ h
  rw [t4, s19, s18, s17, s16, t3, s15, s14, s13, s12, t2, s11, s10, s9, s8, t1, s7, s6, s5, s4, t0, s3, s2, s1, s0, hs]
  rfl

/-- The cipher of an array of shape S128x8192x2 enciphers every pair of counters. -/
theorem cipherOfPairs_holds {k₀ k₁ : TRef sig ⟨S_, .i32⟩} {c₀ c₁ : TRef sig ⟨S128x8192x2, .i32⟩} {φ : fn_threefry2x32_0.Bufs}
    {K₀ K₁ : Word} (hk₀ : ∀ j, val W k₀ j = K₀) (hk₁ : ∀ j, val W k₁ j = K₁)
    (h : Holds W (cipherOfPairs k₀ k₁ c₀ c₁ φ).1) (i : S128x8192x2.Idx) :
    pair W φ.v171 φ.v175 i = cipher K₀ K₁ (val W c₀ i) (val W c₁ i) := by
  simp only [cipherOfPairs, cipherOfPairs_0, cipherOfPairs_1, cipherOfPairs_2, cipherOfPairs_3, List.cons_append, List.nil_append] at h
  rw [holds_binary, holds_nullary, holds_binary, holds_unary, holds_binary, holds_unary, holds_binary] at h
  obtain ⟨e₁, e₂, e₃, e₄, e₅, e₆, e₇, h⟩ := h
  have hk₂ : ∀ j, val W φ.v1 j = third K₀ K₁ := fun j => by
    rw [e₃, e₁, e₂, ← hk₀ j, ← hk₁ j]; rfl
  have hs : pair W φ.v3 φ.v5 i = (val W c₀ i + K₀, val W c₁ i + K₁) := by
    refine Prod.ext ?_ ?_
    · show val W φ.v3 i = _
      rw [e₅, e₄, ← hk₀]; rfl
    · show val W φ.v5 i = _
      rw [e₇, e₆, ← hk₁]; rfl
  obtain ⟨h, s0⟩ := holds_stir 13 (by decide) (by decide) h
  obtain ⟨h, s1⟩ := holds_stir 15 (by decide) (by decide) h
  obtain ⟨h, s2⟩ := holds_stir 26 (by decide) (by decide) h
  obtain ⟨h, s3⟩ := holds_stir 6 (by decide) (by decide) h
  obtain ⟨h, t0⟩ := holds_key hk₁ hk₂ h
  obtain ⟨h, s4⟩ := holds_stir 17 (by decide) (by decide) h
  obtain ⟨h, s5⟩ := holds_stir 29 (by decide) (by decide) h
  obtain ⟨h, s6⟩ := holds_stir 16 (by decide) (by decide) h
  obtain ⟨h, s7⟩ := holds_stir 24 (by decide) (by decide) h
  obtain ⟨h, t1⟩ := holds_key hk₂ hk₀ h
  obtain ⟨h, s8⟩ := holds_stir 13 (by decide) (by decide) h
  obtain ⟨h, s9⟩ := holds_stir 15 (by decide) (by decide) h
  obtain ⟨h, s10⟩ := holds_stir 26 (by decide) (by decide) h
  obtain ⟨h, s11⟩ := holds_stir 6 (by decide) (by decide) h
  obtain ⟨h, t2⟩ := holds_key hk₀ hk₁ h
  obtain ⟨h, s12⟩ := holds_stir 17 (by decide) (by decide) h
  obtain ⟨h, s13⟩ := holds_stir 29 (by decide) (by decide) h
  obtain ⟨h, s14⟩ := holds_stir 16 (by decide) (by decide) h
  obtain ⟨h, s15⟩ := holds_stir 24 (by decide) (by decide) h
  obtain ⟨h, t3⟩ := holds_key hk₁ hk₂ h
  obtain ⟨h, s16⟩ := holds_stir 13 (by decide) (by decide) h
  obtain ⟨h, s17⟩ := holds_stir 15 (by decide) (by decide) h
  obtain ⟨h, s18⟩ := holds_stir 26 (by decide) (by decide) h
  obtain ⟨h, s19⟩ := holds_stir 6 (by decide) (by decide) h
  obtain ⟨h, t4⟩ := holds_key hk₂ hk₀ h
  rw [t4, s19, s18, s17, s16, t3, s15, s14, s13, s12, t2, s11, s10, s9, s8, t1, s7, s6, s5, s4, t0, s3, s2, s1, s0, hs]
  rfl

/-- The cipher of an array of shape S128x8192 enciphers every pair of counters. -/
theorem cipherOfAll_holds {k₀ k₁ : TRef sig ⟨S_, .i32⟩} {c₀ c₁ : TRef sig ⟨S128x8192, .i32⟩} {φ : fn_threefry2x32_3.Bufs}
    {K₀ K₁ : Word} (hk₀ : ∀ j, val W k₀ j = K₀) (hk₁ : ∀ j, val W k₁ j = K₁)
    (h : Holds W (cipherOfAll k₀ k₁ c₀ c₁ φ).1) (i : S128x8192.Idx) :
    pair W φ.v171 φ.v175 i = cipher K₀ K₁ (val W c₀ i) (val W c₁ i) := by
  simp only [cipherOfAll, cipherOfAll_0, cipherOfAll_1, cipherOfAll_2, cipherOfAll_3, List.cons_append, List.nil_append] at h
  rw [holds_binary, holds_nullary, holds_binary, holds_unary, holds_binary, holds_unary, holds_binary] at h
  obtain ⟨e₁, e₂, e₃, e₄, e₅, e₆, e₇, h⟩ := h
  have hk₂ : ∀ j, val W φ.v1 j = third K₀ K₁ := fun j => by
    rw [e₃, e₁, e₂, ← hk₀ j, ← hk₁ j]; rfl
  have hs : pair W φ.v3 φ.v5 i = (val W c₀ i + K₀, val W c₁ i + K₁) := by
    refine Prod.ext ?_ ?_
    · show val W φ.v3 i = _
      rw [e₅, e₄, ← hk₀]; rfl
    · show val W φ.v5 i = _
      rw [e₇, e₆, ← hk₁]; rfl
  obtain ⟨h, s0⟩ := holds_stir 13 (by decide) (by decide) h
  obtain ⟨h, s1⟩ := holds_stir 15 (by decide) (by decide) h
  obtain ⟨h, s2⟩ := holds_stir 26 (by decide) (by decide) h
  obtain ⟨h, s3⟩ := holds_stir 6 (by decide) (by decide) h
  obtain ⟨h, t0⟩ := holds_key hk₁ hk₂ h
  obtain ⟨h, s4⟩ := holds_stir 17 (by decide) (by decide) h
  obtain ⟨h, s5⟩ := holds_stir 29 (by decide) (by decide) h
  obtain ⟨h, s6⟩ := holds_stir 16 (by decide) (by decide) h
  obtain ⟨h, s7⟩ := holds_stir 24 (by decide) (by decide) h
  obtain ⟨h, t1⟩ := holds_key hk₂ hk₀ h
  obtain ⟨h, s8⟩ := holds_stir 13 (by decide) (by decide) h
  obtain ⟨h, s9⟩ := holds_stir 15 (by decide) (by decide) h
  obtain ⟨h, s10⟩ := holds_stir 26 (by decide) (by decide) h
  obtain ⟨h, s11⟩ := holds_stir 6 (by decide) (by decide) h
  obtain ⟨h, t2⟩ := holds_key hk₀ hk₁ h
  obtain ⟨h, s12⟩ := holds_stir 17 (by decide) (by decide) h
  obtain ⟨h, s13⟩ := holds_stir 29 (by decide) (by decide) h
  obtain ⟨h, s14⟩ := holds_stir 16 (by decide) (by decide) h
  obtain ⟨h, s15⟩ := holds_stir 24 (by decide) (by decide) h
  obtain ⟨h, t3⟩ := holds_key hk₁ hk₂ h
  obtain ⟨h, s16⟩ := holds_stir 13 (by decide) (by decide) h
  obtain ⟨h, s17⟩ := holds_stir 15 (by decide) (by decide) h
  obtain ⟨h, s18⟩ := holds_stir 26 (by decide) (by decide) h
  obtain ⟨h, s19⟩ := holds_stir 6 (by decide) (by decide) h
  obtain ⟨h, t4⟩ := holds_key hk₂ hk₀ h
  rw [t4, s19, s18, s17, s16, t3, s15, s14, s13, s12, t2, s11, s10, s9, s8, t1, s7, s6, s5, s4, t0, s3, s2, s1, s0, hs]
  rfl

end Cert.Lines

end
-- ==== Proof.Keys.lean ====
module

public import proofs.«01_k».proof.Proof.Threefry

@[expose] public section

set_option maxRecDepth 16384

noncomputable section

namespace Cert.Lines

open Idealize.ShloMosaic Idealize.ShloMosaic.StableHlo Cert.Line Cert.ReferenceIdeal Cert.Hash

/-! The keys of the reference: the words of a key, a key split in two, and the keys the program draws with. -/

variable {W : Valuation τ sig (Elt Ideal)} {l : List (Step τ sig (Elt Ideal))}

/-- A slice of one word, reshaped to a scalar, is that word of the key. -/
theorem pick (a : Fin 2) {k : TRef sig ⟨S2, .i32⟩} {u : TRef sig ⟨S1, .i32⟩} {v : TRef sig ⟨S_, .i32⟩}
    {hs : S2.Slices ![a.val] S1} {he : (EltTy.i32) = .i32} {hn : S1.ShapeCasts S_}
    (h : Holds W (unary k u (extractStridedSlice S1 ![a.val] · hs) :: reshape u v he hn :: l)) :
    Holds W l ∧ ∀ j, val W v j = val W k (ix1 a) := by
  simp only [holds_unary, holds_reshape] at h
  obtain ⟨e₁, e₂, h⟩ := h
  refine ⟨h, fun j => ?_⟩
  rw [e₂, e₁]
  show val W k _ = _
  congr 1
  funext b
  have hb : b = 0 := Subsingleton.elim _ _
  subst hb
  apply Fin.ext
  show a.val + ((Shape.reshapeEquiv hn j) 0).val = a.val
  have := ((Shape.reshapeEquiv hn j) 0).isLt
  simp only [Shape.size] at this
  change _ < 1 at this
  omega

/-- A row of two words, sliced out and reshaped to a key, read at a word. -/
theorem row_read (a : Fin 2) (x : S2x2.Idx → Word) (hs : S2x2.Slices ![a.val, 0] S1x2) (hn : S1x2.ShapeCasts S2) (b : Fin 2) :
    shapeCast S2 (extractStridedSlice S1x2 ![a.val, 0] x hs) hn (ix1 b) = x (ix2 a b) := by
  rw [shapeCast_apply _ _ (ix1 b) (ix2 0 b) (by fin_cases b <;> rfl)]
  show x _ = _
  congr 1
  funext c
  apply Fin.ext
  fin_cases c
  · show a.val + 0 = a.val
    rfl
  · show 0 + b.val = b.val
    omega

/-- A row of two words, reshaped to a key, is that row. -/
theorem row_pick (a : Fin 2) {k : TRef sig ⟨S2x2, .i32⟩} {u : TRef sig ⟨S1x2, .i32⟩} {v : TRef sig ⟨S2, .i32⟩}
    {hs : S2x2.Slices ![a.val, 0] S1x2} {he : (EltTy.i32) = .i32} {hn : S1x2.ShapeCasts S2}
    (h : Holds W (unary k u (extractStridedSlice S1x2 ![a.val, 0] · hs) :: reshape u v he hn :: l)) :
    Holds W l ∧ ∀ b : Fin 2, val W v (ix1 b) = val W k (ix2 a b) := by
  simp only [holds_unary, holds_reshape] at h
  obtain ⟨e₁, e₂, h⟩ := h
  exact ⟨h, fun b => by rw [e₂, e₁]; exact row_read a (val W k) hs hn b⟩

/-- The counters of a split: the high words are zero, the low ones count the rows. -/
theorem counters (r : Fin 2) :
    BitVec.setWidth 32 (IntOp.shrui .host ((1#64) * BitVec.ofNat 64 r.val) 32#64) = 0#32
      ∧ BitVec.setWidth 32 ((1#64) * BitVec.ofNat 64 r.val) = BitVec.ofNat 32 r.val := by
  fin_cases r <;> decide

/-- Two columns put side by side: the first one read back. -/
theorem column_0 (x y : S2.Idx → Word) (hb : S2.BroadcastsInDim S2x1 ![0]) (hc : Shape.Concatenates [S2x1, S2x1] S2x2 1) (r : Fin 2) :
    concatenate S2x2 1 [⟨S2x1, broadcastInDim S2x1 ![0] hb x⟩, ⟨S2x1, broadcastInDim S2x1 ![0] hb y⟩] hc (ix2 r 0) = x (ix1 r) := by
  rw [concatenate_pair_apply_left (t := S2x2) (s₁ := S2x1) (s₂ := S2x1) 1 _ _ _ (ix2 r 0) rfl (ix2 r 0) (fun b => by fin_cases b <;> rfl)]
  show x _ = x _
  congr 1
  funext b
  fin_cases b
  rfl

/-- Two columns put side by side: the second one read back. -/
theorem column_1 (x y : S2.Idx → Word) (hb : S2.BroadcastsInDim S2x1 ![0]) (hc : Shape.Concatenates [S2x1, S2x1] S2x2 1) (r : Fin 2) :
    concatenate S2x2 1 [⟨S2x1, broadcastInDim S2x1 ![0] hb x⟩, ⟨S2x1, broadcastInDim S2x1 ![0] hb y⟩] hc (ix2 r 1) = y (ix1 r) := by
  rw [concatenate_pair_apply_right (t := S2x2) (s₁ := S2x1) (s₂ := S2x1) 1 _ _ _ (ix2 r 1) rfl rfl (ix2 r 0)
    (fun b hb => by
      fin_cases b
      · rfl
      · exact absurd rfl hb) rfl]
  show y _ = y _
  congr 1
  funext b
  fin_cases b
  rfl

/-- A key split in two: row by row, the key enciphering the row's number. -/
theorem split_holds {k : TRef sig ⟨S2, .i32⟩} {φ : fn_threefry_split.Bufs} {K₀ K₁ : Word}
    (hk₀ : val W k (ix1 0) = K₀) (hk₁ : val W k (ix1 1) = K₁) (h : Holds W (split k φ).1) (r : Fin 2) :
    (val W φ.v14 (ix2 r 0), val W φ.v14 (ix2 r 1)) = cipher K₀ K₁ 0 (BitVec.ofNat 32 r.val) := by
  simp only [split, List.cons_append, List.nil_append] at h
  obtain ⟨h, p₀⟩ := pick 0 h
  obtain ⟨h, p₁⟩ := pick 1 h
  simp only [holds_unary, holds_nullary, holds_binary, Holds.append] at h
  obtain ⟨e₁, e₂, e₃, e₄, e₅, e₆, e₇, e₈, e₉, hc, f₁, f₂, f₃, -⟩ := h
  have hw := cipherOf2_holds (fun j => (p₀ j).trans hk₀) (fun j => (p₁ j).trans hk₁) hc (ix1 r)
  have q₀ : val W φ.v10 (ix1 r) = 0#32 := by
    rw [e₉, e₇, e₄, e₃, e₂, e₁, e₆, e₅]; exact (counters r).1
  have q₁ : val W φ.v9 (ix1 r) = BitVec.ofNat 32 r.val := by
    rw [e₈, e₄, e₃, e₂, e₁]; exact (counters r).2
  rw [q₀, q₁] at hw
  refine Eq.trans ?_ hw
  rw [f₃, f₁, f₂]
  exact congrArg₂ Prod.mk (column_0 (val W φ.call0.v171) (val W φ.call0.v175) _ _ r)
    (column_1 (val W φ.call0.v171) (val W φ.call0.v175) _ _ r)

/-- The same of the second splitting function. -/
theorem splitAgain_holds {k : TRef sig ⟨S2, .i32⟩} {φ : fn_threefry_split_2.Bufs} {K₀ K₁ : Word}
    (hk₀ : val W k (ix1 0) = K₀) (hk₁ : val W k (ix1 1) = K₁) (h : Holds W (splitAgain k φ).1) (r : Fin 2) :
    (val W φ.v14 (ix2 r 0), val W φ.v14 (ix2 r 1)) = cipher K₀ K₁ 0 (BitVec.ofNat 32 r.val) :=
  split_holds (φ := ⟨φ.v0, φ.v1, φ.v2, φ.v3, φ.v4, φ.c, φ.v5, φ.v6, φ.c_0, φ.v7, φ.v8, φ.v9, φ.v10, φ.call0, φ.v12, φ.v13, φ.v14⟩)
    hk₀ hk₁ h r

/-- The mask's key is the first half of the root key. -/
theorem maskKey_eq : cipher 0#32 42#32 0 (BitVec.ofNat 32 0) = maskKey := by decide +kernel

/-- The key the integers are drawn with is the second half of the second half of the root key. -/
theorem sampleKey_eq :
    cipher (cipher 0#32 42#32 0 (BitVec.ofNat 32 1)).1 (cipher 0#32 42#32 0 (BitVec.ofNat 32 1)).2 0 (BitVec.ofNat 32 1)
      = sampleKey := by decide +kernel

end Cert.Lines

end
-- ==== Proof.Score.lean ====
module

public import proofs.«01_k».proof.Proof.Keys
public import Idealize.ShloMosaic.PureOps.Ideal.Laws
public import Idealize.ShloMosaic.Lib.Pointwise.Reduce

@[expose] public section

set_option maxRecDepth 16384

noncomputable section

namespace Cert.Lines

open Idealize.ShloMosaic Idealize.ShloMosaic.StableHlo Cert.Line Cert.ReferenceIdeal Cert.Hash

/-! The mask of the reference: uniform draws, Gumbel draws, and the choice of the greater. -/

variable {W : Valuation τ sig (Elt Ideal)} {l : List (Step τ sig (Elt Ideal))}

/-- The counter of position `n`, below 2^32: its high word is zero, its low word is `n`. -/
theorem counter_words (n : Nat) (hn : n < 2 ^ 32) :
    BitVec.setWidth 32 (IntOp.shrui .host (BitVec.ofNat 64 n) 32#64) = 0#32
      ∧ BitVec.setWidth 32 (BitVec.ofNat 64 n) = BitVec.ofNat 32 n := by
  constructor
  · have : IntOp.shrui .host (BitVec.ofNat 64 n) 32#64 = BitVec.ofNat 64 n >>> 32 := by
      simp [IntOp.shrui]
    rw [this]
    apply BitVec.eq_of_toNat_eq
    simp [Nat.shiftRight_eq_div_pow]
    omega
  · apply BitVec.eq_of_toNat_eq
    simp

/-- The real number in `[0, 1)` made of a random word: its upper 23 bits as the digits after the point. -/
def drawn (w : Word) : Ideal .f32 := Ideal.ofBits .f32 (w >>> 9 ||| 1065353216#32) - Ideal.ofBits .f32 0x3F800000#32

/-- A drawn number squeezed between the bounds `a` and `b`. -/
def squeezed (a b : Ideal .f32) (w : Word) : Ideal .f32 := max a (drawn w * (b - a) + a)

/-- The Gumbel score of a uniform draw. -/
def score (u : Ideal .f32) : Ideal .f32 := -(Ideal.log (-(Ideal.log u)))

/-- The position in the mask's stream of row `r`, column `c`, choice `b`. -/
theorem position (r : Fin 128) (c : Fin 8192) (b : Fin 2) :
    (16384#64 * BitVec.ofNat 64 r.val + 2#64 * BitVec.ofNat 64 c.val) + 1#64 * BitVec.ofNat 64 b.val
      = BitVec.ofNat 64 (16384 * r.val + 2 * c.val + b.val) := by
  apply BitVec.eq_of_toNat_eq
  simp

/-- The uniform draws of the mask. -/
theorem uniform_holds {k : TRef sig ⟨S2, .i32⟩} {hi lo : TRef sig ⟨S_, .f32⟩} {φ : fn_uniform.Bufs} {K₀ K₁ : Word}
    {A B : Ideal .f32} (hk₀ : val W k (ix1 0) = K₀) (hk₁ : val W k (ix1 1) = K₁) (hlo : ∀ j, val W lo j = A)
    (hhi : ∀ j, val W hi j = B) (h : Holds W (uniform k hi lo φ).1) (r : Fin 128) (c : Fin 8192) (b : Fin 2) :
    val W φ.v37 (ix3 r c b) = squeezed A B (word K₀ K₁ (16384 * r.val + 2 * c.val + b.val)) := by
  simp only [uniform, List.cons_append, List.nil_append] at h
  rw [holds_unary, holds_unary, holds_unary] at h
  obtain ⟨a₁, a₂, a₃, h⟩ := h
  obtain ⟨h, p₀⟩ := pick 0 h
  obtain ⟨h, p₁⟩ := pick 1 h
  simp only [holds_unary, holds_nullary, holds_binary, Holds.append] at h
  obtain ⟨e₁, e₂, e₃, e₄, e₅, e₆, e₇, e₈, e₉, e₁₀, e₁₁, e₁₂, e₁₃, e₁₄, e₁₅, e₁₆, e₁₇, e₁₈, e₁₉, hc,
    f₁, f₂, f₃, f₄, f₅, f₆, f₇, f₈, f₉, f₁₀, f₁₁, f₁₂, f₁₃, f₁₄, f₁₅, f₁₆, f₁₇, f₁₈, -⟩ := h
  have hw := cipherOfPairs_holds (fun j => (p₀ j).trans hk₀) (fun j => (p₁ j).trans hk₁) hc (ix3 r c b)
  have hn : val W φ.v17 (ix3 r c b) = BitVec.ofNat 64 (16384 * r.val + 2 * c.val + b.val) := by
    rw [e₁₄, e₁₃, e₁₂, e₁₁, e₁₀, e₉, e₈, e₇, e₆, e₅, e₄, e₃, e₂, e₁]
    exact position r c b
  obtain ⟨w₀, w₁⟩ := counter_words (16384 * r.val + 2 * c.val + b.val) (by omega)
  have q₀ : val W φ.v21 (ix3 r c b) = 0#32 := by
    rw [e₁₉, e₁₇, e₁₆, e₁₅]
    refine Eq.trans ?_ w₀
    rw [← hn]; rfl
  have q₁ : val W φ.v20 (ix3 r c b) = BitVec.ofNat 32 (16384 * r.val + 2 * c.val + b.val) := by
    rw [e₁₈]
    refine Eq.trans ?_ w₁
    rw [← hn]; rfl
  rw [q₀, q₁] at hw
  have hx : val W φ.v23 (ix3 r c b) = word K₀ K₁ (16384 * r.val + 2 * c.val + b.val) := by
    rw [f₁]
    exact congrArg (fun p : Word × Word => p.1 ^^^ p.2) hw
  have hy : val W φ.v30 (ix3 r c b) = drawn (word K₀ K₁ (16384 * r.val + 2 * c.val + b.val)) := by
    rw [f₁₁, f₁₀, f₉, f₈, f₇, f₆, f₅, f₄, f₃, f₂]
    show Ideal.ofBits .f32 (IntOp.shrui .host (val W φ.v23 (ix3 r c b)) (BitVec.ofNat 32 9) ||| 1065353216#32) - _ = _
    rw [host_shr (by decide), hx]
    rfl
  have hA : ∀ j, val W φ.v1 j = A := fun j => by rw [a₂]; exact hlo _
  have hB : ∀ j, val W φ.v2 j = B := fun j => by rw [a₃, a₁]; exact hhi _
  rw [f₁₈, f₁₇, f₁₆, f₁₅, f₁₄, f₁₃, f₁₂]
  show max (val W φ.v1 _) (val W φ.v30 (ix3 r c b) * (val W φ.v2 _ - val W φ.v1 _) + val W φ.v1 _) = _
  rw [hy]
  simp only [hA, hB]
  rfl

/-- The least and the greatest bound of a uniform draw. -/
abbrev tiny : Ideal .f32 := Ideal.ofBits .f32 0x00800000#32
abbrev unit : Ideal .f32 := Ideal.ofBits .f32 0x3F800000#32

/-- The Gumbel draws of the mask. -/
theorem gumbel_holds {k : TRef sig ⟨S2, .i32⟩} {φ : fn_gumbel.Bufs} {K₀ K₁ : Word}
    (hk₀ : val W k (ix1 0) = K₀) (hk₁ : val W k (ix1 1) = K₁) (h : Holds W (gumbel k φ).1)
    (r : Fin 128) (c : Fin 8192) (b : Fin 2) :
    val W φ.v4 (ix3 r c b) = score (squeezed tiny unit (word K₀ K₁ (16384 * r.val + 2 * c.val + b.val))) := by
  simp only [gumbel, List.cons_append, List.nil_append, holds_unary, holds_nullary, Holds.append] at h
  obtain ⟨e₁, e₂, hu, f₁, f₂, f₃, f₄, -⟩ := h
  have := uniform_holds (A := tiny) (B := unit) hk₀ hk₁ (fun j => by rw [e₂]; rfl) (fun j => by rw [e₁]; rfl) hu r c b
  rw [f₄, f₃, f₂, f₁, ← this]
  rfl

/-- The pairs the choice at a position is made of. -/
theorem fiber_pair {α β : Type} (x : S128x8192x2.Idx → α) (y : S128x8192x2.Idx → β) (h : S128x8192x2.ReducesTo [2] S128x8192)
    (r : Fin 128) (c : Fin 8192) :
    Host.argReduceFiber x y h (ix2 r c) = [(x (ix3 r c 0), y (ix3 r c 0)), (x (ix3 r c 1), y (ix3 r c 1))] := by
  have hl : ((List.finRange S128x8192x2.numel).filter fun n => h.drop (S128x8192x2.rowMajor.symm n) = ix2 r c)
      = [S128x8192x2.rowMajor (ix3 r c 0), S128x8192x2.rowMajor (ix3 r c 1)] := by
    have hlt : S128x8192x2.rowMajor (ix3 r c 0) < S128x8192x2.rowMajor (ix3 r c 1) := by
      rw [Fin.lt_def, Shape.rowMajor_val_three, Shape.rowMajor_val_three]
      show (r.val * 8192 + c.val) * 2 + 0 < (r.val * 8192 + c.val) * 2 + 1
      omega
    refine List.Perm.eq_of_pairwise (le := (· < ·)) (fun a b _ _ h₁ h₂ => absurd h₁ (lt_asymm h₂)) ?_ ?_ ?_
    · exact (List.sortedLT_finRange _).pairwise.filter _
    · simpa using hlt
    · rw [List.perm_ext_iff_of_nodup ((List.nodup_finRange _).filter _) (by simpa using hlt.ne)]
      intro n
      simp only [List.mem_filter, List.mem_finRange, true_and, decide_eq_true_eq, List.mem_cons, List.not_mem_nil, or_false]
      rw [Shape.ReducesTo.fiber_r3_a2]
      constructor
      · rintro ⟨k, hk⟩
        have : n = S128x8192x2.rowMajor (ix3 r c k) := by
          rw [← Equiv.symm_apply_eq, ← hk]; rfl
        rw [this]
        fin_cases k
        · exact Or.inl rfl
        · exact Or.inr rfl
      · rintro (rfl | rfl)
        · exact ⟨0, by rw [Equiv.symm_apply_apply]; rfl⟩
        · exact ⟨1, by rw [Equiv.symm_apply_apply]; rfl⟩
  rw [Host.argReduceFiber, hl]
  simp only [List.map, Equiv.symm_apply_apply]

/-- Starting from the least value, the better of two scores `p`, `q` is the first one when `q ≤ p`. -/
theorem choose_two (p q : Ideal .f32) :
    (List.foldl (reducer_argmax_f32_i32 (F := Ideal)) (Ideal.ofBits .f32 0xFF800000#32, 0#32) [(p, 0#32), (q, 1#32)]).2
      = if (q : EReal) ≤ p then 0#32 else 1#32 := by
  have hbot : Ideal.ofBits .f32 0xFF800000#32 = ⊥ := by simp [Ideal.ofBits, Ideal.ieee]
  have h₁ : reducer_argmax_f32_i32 (F := Ideal) (⊥, 0#32) (p, 0#32) = (p, 0#32) := by
    simp [reducer_argmax_f32_i32, Ideal.cmpf_def, Ideal.cmp, Scalar.select, IntOp.ori, IntOp.andi, IntOp.cmpi]
  have h₂ : IntOp.cmpi .slt 0#32 1#32 = 1#1 := by decide
  rw [hbot, List.foldl, h₁, List.foldl, List.foldl]
  simp only [reducer_argmax_f32_i32, Ideal.cmpf_def, Ideal.cmp, h₂]
  rcases lt_trichotomy (p : EReal) q with h | h | h
  · rw [if_neg (not_le.mpr h)]
    simp [Scalar.select, IntOp.ori, IntOp.andi, h.ne, h.not_gt]
  · subst h
    simp [Scalar.select, IntOp.ori, IntOp.andi]
  · rw [if_pos h.le]
    simp [Scalar.select, IntOp.ori, IntOp.andi, h, h.ne']

/-- The choice at a position is 0 when the first score is at least the second, else 1. -/
theorem argmax_holds {x : TRef sig ⟨S128x8192x2, .f32⟩} {φ : fn_argmax.Bufs} (h : Holds W (argmax x φ).1)
    (r : Fin 128) (c : Fin 8192) :
    val W φ.v1_1 (ix2 r c) = if (val W x (ix3 r c 1) : EReal) ≤ val W x (ix3 r c 0) then 0#32 else 1#32 := by
  simp only [argmax, holds_quaternary, holds_nullary] at h
  obtain ⟨e₁, e₂, e₃, -, e₅, -⟩ := h
  have e := congrFun e₅ (ix2 r c)
  rw [Ideal.argReduce_eq_reduce2, Host.reduce2_eq_foldl_fiber, fiber_pair, e₁, e₂, e₃] at e
  rw [e]
  have h0 : iotaInDim S128x8192x2 32 2 (ix3 r c 0) = 0#32 := rfl
  have h1 : iotaInDim S128x8192x2 32 2 (ix3 r c 1) = 1#32 := rfl
  rw [h0, h1]
  exact choose_two _ _

end Cert.Lines

end
-- ==== Proof.Integers.lean ====
module

public import proofs.«01_k».proof.Proof.Score

@[expose] public section

set_option maxRecDepth 16384

noncomputable section

namespace Cert.Lines

open Idealize.ShloMosaic Idealize.ShloMosaic.StableHlo Cert.Line Cert.ReferenceIdeal Cert.Hash

/-! The integers the reference draws below 100000. -/

variable {W : Valuation τ sig (Elt Ideal)} {l : List (Step τ sig (Elt Ideal))}

/-- The position in the sample's stream of row `r`, column `c`. -/
theorem place (r : Fin 128) (c : Fin 8192) :
    8192#64 * BitVec.ofNat 64 r.val + 1#64 * BitVec.ofNat 64 c.val = BitVec.ofNat 64 (8192 * r.val + c.val) := by
  apply BitVec.eq_of_toNat_eq
  simp

/-- A remainder by 100000 as the host computes it. -/
theorem host_rem (x : Word) : IntOp.remui .host x 100000#32 = x % 100000#32 := by
  simp [IntOp.remui]

/-- The remainder of `0 · x` plus a remainder is that remainder. -/
theorem low_rem (x y : Word) : 0#32 + (x * 0#32 + y % 100000#32) % 100000#32 = y % 100000#32 := by
  apply BitVec.eq_of_toNat_eq
  simp
  try omega

/-- The words of an integer draw: under the second half of its key, the word of the position. -/
theorem randint_holds {k : TRef sig ⟨S2, .i32⟩} {lo hi : TRef sig ⟨S_, .i32⟩} {φ : fn_randint.Bufs} {K₀ K₁ : Word}
    (hk₀ : val W k (ix1 0) = K₀) (hk₁ : val W k (ix1 1) = K₁) (hlo : val W lo = fun _ => 0#32)
    (hhi : val W hi = fun _ => 100000#32) (h : Holds W (randint k lo hi φ).1) (r : Fin 128) (c : Fin 8192) :
    val W φ.v73 (ix2 r c) = word (cipher K₀ K₁ 0 (BitVec.ofNat 32 1)).1 (cipher K₀ K₁ 0 (BitVec.ofNat 32 1)).2
      (8192 * r.val + c.val) % 100000#32 := by
  simp only [randint, randint_0, randint_1, clip, clipAgain, List.cons_append, List.nil_append, List.append_assoc] at h
  simp only [holds_nullary, holds_binary, holds_unary] at h
  obtain ⟨a₁, a₂, a₃, a₄, a₅, a₆, a₇, a₈, a₉, a₁₀, a₁₁, a₁₂, a₁₃, a₁₄, a₁₅, a₁₆, a₁₇, a₁₈, h⟩ := h
  rw [Holds.append] at h
  obtain ⟨hs, h⟩ := h
  obtain ⟨h, -⟩ := row_pick 0 h
  obtain ⟨h, p₁⟩ := row_pick 1 h
  obtain ⟨h, -⟩ := pick 0 h
  obtain ⟨h, -⟩ := pick 1 h
  simp only [holds_nullary, holds_binary, holds_unary] at h
  obtain ⟨-, -, -, -, -, -, -, -, -, -, -, -, -, -, h⟩ := h
  rw [Holds.append, holds_binary] at h
  obtain ⟨-, -, h⟩ := h
  obtain ⟨h, q₀⟩ := pick 0 h
  obtain ⟨h, q₁⟩ := pick 1 h
  simp only [holds_nullary, holds_binary, holds_unary] at h
  obtain ⟨e₁, e₂, e₃, e₄, e₅, e₆, e₇, e₈, e₉, e₁₀, e₁₁, e₁₂, e₁₃, e₁₄, h⟩ := h
  rw [Holds.append] at h
  obtain ⟨hc, h⟩ := h
  simp only [holds_nullary, holds_binary, holds_unary, holds_ternary] at h
  obtain ⟨f₀, f₁, f₂, f₃, f₄, f₅, f₆, f₇, f₈, f₉, f₁₀, f₁₁, f₁₂, f₁₃, f₁₄, f₁₅, f₁₆, f₁₇, f₁₈, f₁₉, f₂₀, f₂₁, f₂₂,
    f₂₃, f₂₄, f₂₅, f₂₆, f₂₇, f₂₈, f₂₉, f₃₀, -⟩ := h
  have hs := splitAgain_holds hk₀ hk₁ hs 1
  have hk : ∀ b : Fin 2, val W φ.v12 (ix1 b) = ![(cipher K₀ K₁ 0 (BitVec.ofNat 32 1)).1, (cipher K₀ K₁ 0 (BitVec.ofNat 32 1)).2] b := by
    intro b
    rw [p₁ b]
    fin_cases b
    · exact congrArg Prod.fst hs
    · exact congrArg Prod.snd hs
  have hw := cipherOfAll_holds (fun j => (q₀ j).trans (hk 0)) (fun j => (q₁ j).trans (hk 1)) hc (ix2 r c)
  have hn : val W φ.v40 (ix2 r c) = BitVec.ofNat 64 (8192 * r.val + c.val) := by
    rw [e₉, e₈, e₇, e₆, e₅, e₄, e₃, e₂, e₁]
    exact place r c
  obtain ⟨w₀, w₁⟩ := counter_words (8192 * r.val + c.val) (by omega)
  have n₀ : val W φ.v44 (ix2 r c) = 0#32 := by
    rw [e₁₄, e₁₂, e₁₁, e₁₀]
    refine Eq.trans ?_ w₀
    rw [← hn]; rfl
  have n₁ : val W φ.v43 (ix2 r c) = BitVec.ofNat 32 (8192 * r.val + c.val) := by
    rw [e₁₃]
    refine Eq.trans ?_ w₁
    rw [← hn]; rfl
  rw [n₀, n₁] at hw
  have hx : val W φ.v46 (ix2 r c) = word (cipher K₀ K₁ 0 (BitVec.ofNat 32 1)).1 (cipher K₀ K₁ 0 (BitVec.ofNat 32 1)).2
      (8192 * r.val + c.val) := by
    rw [f₀]
    exact congrArg (fun p : Word × Word => p.1 ^^^ p.2) hw
  obtain ⟨N, hN⟩ : ∃ N : Word, N = 100000#32 := ⟨_, rfl⟩
  rw [← hN] at hhi
  have b₆ : val W φ.v6 = fun _ => 0#32 := by
    rw [a₁₇, a₁₁, a₁₀, a₉, a₈, a₇, hlo]
    funext j
    exact (by decide : IntOp.minsi 2147483647#32 (IntOp.maxsi 2147483648#32 0#32) = 0#32)
  have b₇ : val W φ.v7 = fun _ => N := by
    rw [a₁₈, a₁₆, a₁₅, a₁₄, a₁₃, a₁₂, hhi]
    funext j
    show IntOp.minsi 2147483647#32 (IntOp.maxsi 2147483648#32 N) = N
    rw [hN]
    decide
  have b₁ : val W φ.v1 = fun _ => 0#1 := by
    rw [a₆, a₅, a₄, a₃, a₂, a₁, hhi]
    funext j
    show IntOp.cmpi .sgt N (IntOp.minsi 2147483647#32 (IntOp.maxsi 2147483648#32 2147483647#32)) = 0#1
    rw [hN]
    decide
  have b₅₁ : val W φ.v51 = fun _ => N := by
    rw [f₆, f₅, f₄, f₃, f₂, f₁, b₆, b₇]
    funext j
    show Scalar.select (IntOp.cmpi .sle N 0#32) 1#32 (N - 0#32) = N
    rw [hN]
    decide
  have b₅₇ : val W φ.v57 = fun _ => N := by
    rw [f₁₃, f₁₂, f₁₁, f₁₀, f₉, f₈, f₇, b₅₁, b₁, b₆, b₇]
    funext j
    show Scalar.select (IntOp.andi 0#1 (IntOp.cmpi .sgt N 0#32)) (N + 1#32) N = N
    rw [hN]
    decide
  have b₆₁ : val W φ.v61 = fun _ => 0#32 := by
    rw [f₁₈, f₁₇, f₁₆, f₁₅, f₁₄, b₅₇]
    funext j
    show IntOp.remui .host (IntOp.remui .host 65536#32 N * IntOp.remui .host 65536#32 N) N = 0#32
    rw [hN, host_rem, host_rem]
    decide
  rw [f₃₀, f₂₉, f₂₈, f₂₇, f₂₆, f₂₅, f₂₄, f₂₃, f₂₂, f₂₁, f₂₀, f₁₉, b₆₁, b₅₇, b₆]
  show 0#32 + IntOp.remui .host (IntOp.remui .host (val W φ.v29 (ix2 r c)) N * 0#32
    + IntOp.remui .host (val W φ.v46 (ix2 r c)) N) N = _
  rw [hx, hN, host_rem, host_rem, host_rem, low_rem]

end Cert.Lines

end
-- ==== Proof.Reference.lean ====
module

public import proofs.«01_k».proof.Proof.Integers

@[expose] public section

set_option maxRecDepth 16384

noncomputable section

namespace Cert.Lines

open Idealize.ShloMosaic Idealize.ShloMosaic.StableHlo Cert.Line Cert.ReferenceIdeal Cert.Hash

/-! What the reference computes at a position. -/

variable {W : Valuation τ sig (Elt Ideal)} {l : List (Step τ sig (Elt Ideal))}

/-- The probability of replacing a token, and of keeping it. -/
abbrev prob : Ideal .f32 := Ideal.ofBits .f32 0x3E99999A#32
abbrev coprob : Ideal .f32 := unit - prob

/-- The reference's choice from the words of a position: 0 to replace the token, 1 to keep it. -/
def chosen (w₀ w₁ : Word) : Word :=
  if (score (squeezed tiny unit w₁) + Ideal.log coprob : EReal) ≤ score (squeezed tiny unit w₀) + Ideal.log prob then 0#32 else 1#32

/-- The reference's mixture of the token `x` and the replacement `s` under the mask `m`. -/
def mixture (x m s : Ideal .f32) : Ideal .f32 := unit * (x * (unit - m) + m * s) + (unit - unit) * x

/-- Two scalars side by side: the first one read back. -/
theorem join_0 {α : Type} (x y : S1.Idx → α) (hc : Shape.Concatenates [S1, S1] S2 0) :
    concatenate S2 0 [⟨S1, x⟩, ⟨S1, y⟩] hc (ix1 0) = x (ix1 0) := by
  rw [concatenate_pair_apply_left (t := S2) (s₁ := S1) (s₂ := S1) 0 _ _ _ (ix1 0) rfl (ix1 0) (fun b => by fin_cases b; rfl)]

/-- Two scalars side by side: the second one read back. -/
theorem join_1 {α : Type} (x y : S1.Idx → α) (hc : Shape.Concatenates [S1, S1] S2 0) :
    concatenate S2 0 [⟨S1, x⟩, ⟨S1, y⟩] hc (ix1 1) = y (ix1 0) := by
  rw [concatenate_pair_apply_right (t := S2) (s₁ := S1) (s₂ := S1) 0 _ _ _ (ix1 1) rfl rfl (ix1 0)
    (fun b hb => by fin_cases b; exact absurd rfl hb) rfl]

/-- The upper half of the seed is zero: a shift by the whole width. -/
theorem seed_high : IntOp.shrui .host 42#32 32#32 = 0#32 := by
  simp [IntOp.shrui]
  try rfl

/-- What the reference leaves in its result, position by position. -/
theorem whole_holds (d : Dev nD) (h : Holds W (whole d).1) (r : Fin 128) (c : Fin 8192) :
    val W (.of main_v37 : TRef sig ⟨S128x8192, .f32⟩) (ix2 r c)
      = mixture (val W (.of main_arg0 : TRef sig ⟨S128x8192, .f32⟩) (ix2 r c))
          (FloatOps.sitofp .f32 (1#32 - chosen (word maskKey.1 maskKey.2 (2 * (8192 * r.val + c.val)))
            (word maskKey.1 maskKey.2 (2 * (8192 * r.val + c.val) + 1))))
          (FloatOps.sitofp .f32 (word sampleKey.1 sampleKey.2 (8192 * r.val + c.val) % 100000#32)) := by
  simp only [whole, List.cons_append, List.nil_append, List.append_assoc] at h
  simp only [holds_host_nullary, holds_host_binary, holds_host_unary] at h
  obtain ⟨a₁, a₂, a₃, a₄, a₅, a₆, a₇, a₈, a₉, a₁₀, h⟩ := h
  rw [Holds.append] at h
  obtain ⟨hs, h⟩ := h
  simp only [holds_host_nullary, holds_host_binary, holds_host_unary, holds_host_reshape] at h
  obtain ⟨b₁, b₂, b₃, b₄, b₅, b₆, b₇, b₈, b₉, b₁₀, b₁₁, b₁₂, h⟩ := h
  rw [Holds.append] at h
  obtain ⟨hg, h⟩ := h
  simp only [holds_host_binary, holds_host_unary] at h
  obtain ⟨c₁, c₂, c₃, h⟩ := h
  rw [Holds.append] at h
  obtain ⟨hm, h⟩ := h
  simp only [holds_host_nullary, holds_host_binary, holds_host_unary] at h
  obtain ⟨d₁, d₂, d₃, d₄, d₅, d₆, h⟩ := h
  rw [Holds.append] at h
  obtain ⟨hr, h⟩ := h
  simp only [holds_host_nullary, holds_host_binary, holds_host_unary] at h
  obtain ⟨e₁, e₂, e₃, e₄, e₅, e₆, e₇, e₈, e₉, e₁₀, e₁₁, e₁₂, e₁₃, e₁₄, e₁₅, e₁₆, -⟩ := h
  -- the root key and its two halves
  have k₀ : val W (.of main_v6 : TRef sig ⟨S2, .i32⟩) (ix1 0) = 0#32 := by
    show W (Proc.devRef .tc main_v6) (ix1 0) = _
    rw [a₁₀, a₅, a₄, a₃, a₂, a₁]
    exact (join_0 _ _ _).trans seed_high
  have k₁ : val W (.of main_v6 : TRef sig ⟨S2, .i32⟩) (ix1 1) = 42#32 := by
    show W (Proc.devRef .tc main_v6) (ix1 1) = _
    rw [a₁₀, a₉, a₈, a₇, a₆, a₁]
    exact (join_1 _ _ _).trans (by decide : (42#32 &&& 4294967295#32) = 42#32)
  have s₀ := (split_holds k₀ k₁ hs 0).trans maskKey_eq
  have s₁ := split_holds k₀ k₁ hs 1
  have m₀ : val W (.of main_v9 : TRef sig ⟨S2, .i32⟩) (ix1 0) = maskKey.1 := by
    refine Eq.trans ?_ (congrArg Prod.fst s₀)
    show W (Proc.devRef .tc main_v9) (ix1 0) = _
    rw [b₂, b₁]
    exact row_read 0 (W (Proc.devRef .tc main_v7)) _ _ 0
  have m₁ : val W (.of main_v9 : TRef sig ⟨S2, .i32⟩) (ix1 1) = maskKey.2 := by
    refine Eq.trans ?_ (congrArg Prod.snd s₀)
    show W (Proc.devRef .tc main_v9) (ix1 1) = _
    rw [b₂, b₁]
    exact row_read 0 (W (Proc.devRef .tc main_v7)) _ _ 1
  have n₀ : val W (.of main_v11 : TRef sig ⟨S2, .i32⟩) (ix1 0) = (cipher 0#32 42#32 0 (BitVec.ofNat 32 1)).1 := by
    refine Eq.trans ?_ (congrArg Prod.fst s₁)
    show W (Proc.devRef .tc main_v11) (ix1 0) = _
    rw [b₄, b₃]
    exact row_read 1 (W (Proc.devRef .tc main_v7)) _ _ 0
  have n₁ : val W (.of main_v11 : TRef sig ⟨S2, .i32⟩) (ix1 1) = (cipher 0#32 42#32 0 (BitVec.ofNat 32 1)).2 := by
    refine Eq.trans ?_ (congrArg Prod.snd s₁)
    show W (Proc.devRef .tc main_v11) (ix1 1) = _
    rw [b₄, b₃]
    exact row_read 1 (W (Proc.devRef .tc main_v7)) _ _ 1
  -- the replacement tokens
  have hv := randint_holds (lo := .of main_c_5) (hi := .of main_c_6) n₀ n₁ d₅ d₆ hr r c
  rw [sampleKey_eq] at hv
  -- the scores
  have l₀ : W (Proc.devRef .tc main_v16) (ix1 0) = Ideal.log prob := by
    rw [b₁₂, b₁₁, b₉, b₈]
    exact congrArg (fun a : EReal => (FloatOps.hostUnary (F := Ideal) (φ := .f32) .log a : EReal)) (join_0 (α := EReal) _ _ _)
  have l₁ : W (Proc.devRef .tc main_v16) (ix1 1) = Ideal.log coprob := by
    rw [b₁₂, b₁₁, b₁₀, b₇, b₆, b₅]
    exact congrArg (fun a : EReal => (FloatOps.hostUnary (F := Ideal) (φ := .f32) .log a : EReal)) (join_1 (α := EReal) _ _ _)
  have g₀ := gumbel_holds m₀ m₁ hg r c 0
  have g₁ := gumbel_holds m₀ m₁ hg r c 1
  have p₀ : val W (.of main_v20 : TRef sig ⟨S128x8192x2, .f32⟩) (ix3 r c 0)
      = score (squeezed tiny unit (word maskKey.1 maskKey.2 (2 * (8192 * r.val + c.val)))) + Ideal.log prob := by
    show W (Proc.devRef .tc main_v20) (ix3 r c 0) = _
    rw [c₃, c₂, c₁, show 2 * (8192 * r.val + c.val) = 16384 * r.val + 2 * c.val + 0 by omega]
    refine congrArg₂ (fun a b : EReal => a + b) g₀ (Eq.trans ?_ l₀)
    show W (Proc.devRef .tc main_v16) _ = _
    congr 1
    funext b
    fin_cases b
    rfl
  have p₁ : val W (.of main_v20 : TRef sig ⟨S128x8192x2, .f32⟩) (ix3 r c 1)
      = score (squeezed tiny unit (word maskKey.1 maskKey.2 (2 * (8192 * r.val + c.val) + 1))) + Ideal.log coprob := by
    show W (Proc.devRef .tc main_v20) (ix3 r c 1) = _
    rw [c₃, c₂, c₁, show 2 * (8192 * r.val + c.val) + 1 = 16384 * r.val + 2 * c.val + 1 by omega]
    refine congrArg₂ (fun a b : EReal => a + b) g₁ (Eq.trans ?_ l₁)
    show W (Proc.devRef .tc main_v16) _ = _
    congr 1
    funext b
    fin_cases b
    rfl
  have hc := argmax_holds hm r c
  rw [p₀, p₁] at hc
  have hd : (W (Proc.devRef .tc main_v24) (ix2 r c) : EReal)
      = FloatOps.sitofp (F := Ideal) .f32 (1#32 - chosen (word maskKey.1 maskKey.2 (2 * (8192 * r.val + c.val)))
            (word maskKey.1 maskKey.2 (2 * (8192 * r.val + c.val) + 1))) := by
    rw [d₄, d₃, d₂, d₁]
    exact congrArg (fun w : Word => FloatOps.sitofp (F := Ideal) .f32 (1#32 - w)) hc
  have he : (W (Proc.devRef .tc main_v26) (ix2 r c) : EReal)
      = FloatOps.sitofp (F := Ideal) .f32 (word sampleKey.1 sampleKey.2 (8192 * r.val + c.val) % 100000#32) := by
    rw [e₁]
    exact congrArg (fun w : Word => FloatOps.sitofp (F := Ideal) .f32 w) hv
  show W (Proc.devRef .tc main_v37) (ix2 r c) = _
  rw [e₁₆, e₁₅, e₁₄, e₁₃, e₁₂, e₁₁, e₁₀, e₉, e₈, e₇, e₆, e₅, e₄, e₃, e₂, ← hd, ← he]
  rfl

end Cert.Lines

end
-- ==== Proof.Mask.lean ====
module

public import proofs.«01_k».proof.Proof.Block
public import proofs.«01_k».proof.Proof.Cipher
public import proofs.«01_k».proof.Proof.Decision
public import proofs.«01_k».proof.Proof.Reference

@[expose] public section

set_option maxRecDepth 16384

noncomputable section

namespace Cert.Mask

open Idealize.ShloMosaic Cert.Hash Cert.Decision Cert.Lines
open Cert.Block (fraction rated atLeast replaced)

/-! The kernel's and the reference's choice at a position whose two draws lie apart: the same. -/

/-- The sign, the exponent and the fraction of a draw's bits under the exponent of 1. -/
theorem fields (w : Word) :
    (w >>> 9 ||| 1065353216#32).extractLsb' 31 1 = 0#1 ∧ (w >>> 9 ||| 1065353216#32).extractLsb' 23 8 = 127#8
      ∧ ((w >>> 9 ||| 1065353216#32).extractLsb' 0 23).toNat = w.toNat / 2 ^ 9 := by
  have l := w.isLt
  have s : (w >>> 9).extractLsb' 31 1 = 0#1 := by
    apply BitVec.eq_of_toNat_eq
    simp only [BitVec.extractLsb'_toNat, BitVec.toNat_ushiftRight, Nat.shiftRight_eq_div_pow, BitVec.toNat_ofNat]
    omega
  have e : (w >>> 9).extractLsb' 23 8 = 0#8 := by
    apply BitVec.eq_of_toNat_eq
    simp only [BitVec.extractLsb'_toNat, BitVec.toNat_ushiftRight, Nat.shiftRight_eq_div_pow, BitVec.toNat_ofNat]
    omega
  rw [BitVec.extractLsb'_or, BitVec.extractLsb'_or, BitVec.extractLsb'_or, s, e,
    show (1065353216#32).extractLsb' 31 1 = 0#1 by decide +kernel, show (1065353216#32).extractLsb' 23 8 = 127#8 by decide +kernel,
    show (1065353216#32).extractLsb' 0 23 = 0#23 by decide +kernel, BitVec.or_zero, BitVec.or_zero, BitVec.zero_or]
  refine ⟨rfl, rfl, ?_⟩
  simp only [BitVec.extractLsb'_toNat, BitVec.toNat_ushiftRight, Nat.shiftRight_eq_div_pow]
  omega

/-- A draw's bits under the exponent of 1 are the number `1 + m / 2^23`. -/
theorem decode (w : Word) :
    Ideal.ofBits .f32 (w >>> 9 ||| 1065353216#32) = ((1 + (w.toNat / 2 ^ 9 : Nat) / 2 ^ 23 : ℝ) : EReal) := by
  obtain ⟨s, e, f⟩ := fields w
  generalize (w >>> 9 ||| 1065353216#32) = b at s e f ⊢
  generalize w.toNat / 2 ^ 9 = m at f ⊢
  simp [Ideal.ofBits, Ideal.ieee, s, e, f, -EReal.coe_mul, -EReal.coe_add]
  norm_num [-EReal.coe_mul, -EReal.coe_add]
  ring

/-- The number 1. -/
theorem unit_eq : unit = ((1 : ℝ) : EReal) := by
  show Ideal.ofBits .f32 0x3F800000#32 = _
  simp [Ideal.ofBits, Ideal.ieee, -EReal.coe_mul]
  norm_num

/-- A draw as a fraction. -/
theorem drawn_eq (w : Word) : drawn w = (((w.toNat / 2 ^ 9 : Nat) / 2 ^ 23 : ℝ) : EReal) := by
  have e : drawn w = Ideal.ofBits .f32 (w >>> 9 ||| 1065353216#32) - unit := rfl
  rw [e, decode, unit_eq, ← EReal.coe_sub]
  congr 1
  ring

/-- The kernel's fraction is the same. -/
theorem fraction_eq (w : Word) : fraction w = (((w.toNat / 2 ^ 9 : Nat) / 2 ^ 23 : ℝ) : EReal) := by
  rw [← drawn_eq]
  rfl

/-- The logarithm of a positive number. -/
theorem log_of_pos (r : ℝ) (h : 0 < r) : Ideal.log (r : EReal) = (Real.log r : EReal) := by
  rw [Ideal.log_coe, if_neg (not_le.mpr h)]

/-- The kernel's score of a draw, over the reals. -/
theorem rated_eq (c : BitVec 32) (l : ℝ) (hc : Ideal.ofBits .f32 c = (l : EReal)) (w : Word) (m : Nat)
    (hm : w.toNat / 2 ^ 9 = m) (h : 1 ≤ m) (h' : m < 2 ^ 23) :
    rated c w = ((-Real.log (wait m) + l : ℝ) : EReal) := by
  have fpos : (0 : ℝ) < (m : ℝ) / 2 ^ 23 := by positivity
  have z : (Scalar.ofBits (F := Ideal) .f32 0x00000000#32 : Ideal .f32) = ((0 : ℝ) : EReal) := by
    show Ideal.ofBits .f32 0#32 = _
    simp [Ideal.ofBits, Ideal.ieee]
  unfold rated
  rw [fraction_eq, hm, z]
  show ((0 : ℝ) : EReal) - Ideal.log (((0 : ℝ) : EReal) - Ideal.log (((m : ℝ) / 2 ^ 23 : ℝ) : EReal)) + Ideal.ofBits .f32 c = _
  rw [log_of_pos _ fpos, hc, ← EReal.coe_sub, zero_sub]
  change ((0 : ℝ) : EReal) - Ideal.log ((wait m : ℝ) : EReal) + (l : EReal) = _
  rw [log_of_pos _ (wait_pos m h h'), ← EReal.coe_sub, zero_sub, ← EReal.coe_add]

/-- The kernel's logits. -/
theorem low_eq : Ideal.ofBits .f32 0xBF9A1BC8#32 = (lowLogit : EReal) := by
  simp [Ideal.ofBits, Ideal.ieee, lowLogit, -EReal.coe_mul]
  norm_num

theorem high_eq : Ideal.ofBits .f32 0xBEB69E19#32 = (highLogit : EReal) := by
  simp [Ideal.ofBits, Ideal.ieee, highLogit, -EReal.coe_mul]
  norm_num

/-- The reference's probabilities. -/
theorem prob_eq : prob = ((5033165 / 2 ^ 24 : ℝ) : EReal) := by
  show Ideal.ofBits .f32 0x3E99999A#32 = _
  simp [Ideal.ofBits, Ideal.ieee, -EReal.coe_mul]
  norm_num

theorem coprob_eq : coprob = ((11744051 / 2 ^ 24 : ℝ) : EReal) := by
  unfold coprob
  rw [unit_eq, prob_eq, ← EReal.coe_sub]
  norm_num

theorem tiny_eq : tiny = ((1 / 2 ^ 126 : ℝ) : EReal) := by
  show Ideal.ofBits .f32 0x00800000#32 = _
  simp [Ideal.ofBits, Ideal.ieee, -EReal.coe_mul]
  norm_num

/-- The reference's score of a draw, over the reals. -/
theorem score_eq (w : Word) (m : Nat) (hm : w.toNat / 2 ^ 9 = m) (h : 1 ≤ m) (h' : m < 2 ^ 23) :
    score (squeezed tiny unit w) = ((-Real.log (-Real.log (moved m)) : ℝ) : EReal) := by
  have r := moved_range m h h'
  have mpos : 0 < moved m := lt_of_lt_of_le (by norm_num) r.1
  have s : squeezed tiny unit w = ((moved m : ℝ) : EReal) := by
    unfold squeezed
    rw [drawn_eq, hm, unit_eq, tiny_eq, ← EReal.coe_sub, ← EReal.coe_mul, ← EReal.coe_add]
    exact max_eq_right (EReal.coe_le_coe_iff.mpr r.1)
  unfold score
  rw [s, log_of_pos _ mpos, ← EReal.coe_neg, log_of_pos _ (moved_wait m h h').2.2, ← EReal.coe_neg]

/-- Draws that lie apart: the kernel replaces the position exactly when the reference chooses the first class. -/
theorem decided (w₀ w₁ : Word) (h : Apart (w₀.toNat / 2 ^ 9) (w₁.toNat / 2 ^ 9)) :
    (atLeast (rated 0xBF9A1BC8#32 w₀) (rated 0xBEB69E19#32 w₁) = 1#1 ∧ chosen w₀ w₁ = 0#32)
      ∨ (atLeast (rated 0xBF9A1BC8#32 w₀) (rated 0xBEB69E19#32 w₁) = 0#1 ∧ chosen w₀ w₁ = 1#32) := by
  have l₀ : w₀.toNat / 2 ^ 9 < 2 ^ 23 := by have := w₀.isLt; omega
  have l₁ : w₁.toNat / 2 ^ 9 < 2 ^ 23 := by have := w₁.isLt; omega
  have k : atLeast (rated 0xBF9A1BC8#32 w₀) (rated 0xBEB69E19#32 w₁)
      = if 7 * wait (w₀.toNat / 2 ^ 9) ≤ 3 * wait (w₁.toNat / 2 ^ 9) then 1#1 else 0#1 := by
    rw [rated_eq _ _ low_eq w₀ _ rfl h.1 l₀, rated_eq _ _ high_eq w₁ _ rfl h.2.1 l₁]
    have e : ∀ a b : ℝ, atLeast (a : EReal) (b : EReal) = if b ≤ a then 1#1 else 0#1 := fun a b => by
      show BitVec.ofBool (decide ((b : EReal) ≤ (a : EReal))) = _
      by_cases g : b ≤ a
      · simp [g]
      · simp [g]
    rw [e]
    simp only [kernel_decides _ _ h l₀ l₁]
  have c : chosen w₀ w₁ = if 7 * wait (w₀.toNat / 2 ^ 9) ≤ 3 * wait (w₁.toNat / 2 ^ 9) then 0#32 else 1#32 := by
    unfold chosen
    rw [score_eq w₀ _ rfl h.1 l₀, score_eq w₁ _ rfl h.2.1 l₁, prob_eq, coprob_eq, log_of_pos _ (by norm_num), log_of_pos _ (by norm_num),
      ← EReal.coe_add, ← EReal.coe_add]
    simp only [EReal.coe_le_coe_iff, reference_decides _ _ h l₀ l₁]
  rw [k, c]
  by_cases g : 7 * wait (w₀.toNat / 2 ^ 9) ≤ 3 * wait (w₁.toNat / 2 ^ 9)
  · rw [if_pos g, if_pos g]
    exact Or.inl ⟨rfl, rfl⟩
  · rw [if_neg g, if_neg g]
    exact Or.inr ⟨rfl, rfl⟩

end Cert.Mask

end
-- ==== Proof.Run.lean ====
module

public import proofs.«01_k».proof.Proof.Reference
public import Idealize.ShloMosaic.Lib.Quiescent

@[expose] public section

set_option maxRecDepth 16384

noncomputable section

namespace Cert.Run

open Idealize.ShloMosaic Idealize.SL.Sem Cert.Line Cert.ReferenceIdeal Cert.Hash Cert.Lines

/-! The reference's run. -/

/-- The reference's result at row `r` and column `c`, from the token `x` there. -/
def expected (x : Ideal .f32) (r c : Nat) : Ideal .f32 :=
  mixture x
    (FloatOps.sitofp .f32 (1#32 - chosen (word maskKey.1 maskKey.2 (2 * (8192 * r + c))) (word maskKey.1 maskKey.2 (2 * (8192 * r + c) + 1))))
    (FloatOps.sitofp .f32 (word sampleKey.1 sampleKey.2 (8192 * r + c) % 100000#32))

/-- The reference runs; its argument ends unchanged, every semaphore at zero, and its result is `expected`
    at every position. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun s =>
      ∀ d : Dev nD, s.2.mem ((d.tc : Thread nD τ).loc main_arg0) = m ((d.tc : Thread nD τ).loc main_arg0)
        ∧ s.2.sem = (fun _ => 0)
        ∧ ∀ (r : Fin 128) (c : Fin 8192), (s.2.mem ((d.tc : Thread nD τ).loc main_v37) : S128x8192.Idx → EReal) (ix2 r c)
            = expected ((m ((d.tc : Thread nD τ).loc main_arg0) : S128x8192.Idx → EReal) (ix2 r c)) r.val c.val := by
  refine θ_run_mono (run defs main (whole 0).1 1 (fun d => ?_) whole_ordered (by decide +kernel) (by decide +kernel) m ρ) fun s hs d => ?_
  · obtain rfl : d = 0 := Subsingleton.elim _ _
    exact (whole 0).2
  · obtain ⟨W, hW, hm, h₁⟩ := hs d
    have h₀ : W (Proc.devRef .tc main_arg0) = m ((d.tc : Thread nD τ).loc main_arg0) := h₁ main_arg0 (by decide)
    refine ⟨(hm main_arg0).trans h₀, sem_eq_zero_of_no_sems rfl s.2, fun r c => ?_⟩
    refine (congrFun (hm main_v37) (ix2 r c)).trans ?_
    refine (whole_holds 0 hW r c).trans ?_
    show mixture (W (Proc.devRef .tc main_arg0) (ix2 r c)) _ _ = _
    rw [h₀]
    rfl

end Cert.Run

end
-- ==== Proof.Equation.lean ====
module

public import proofs.«01_k».proof.Proof.Words
public import proofs.«01_k».proof.Proof.Sample
public import proofs.«01_k».proof.Proof.Mask
public import proofs.«01_k».proof.Proof.Run

@[expose] public section

set_option maxRecDepth 16384

noncomputable section

namespace Cert.Equation

open Idealize.ShloMosaic Cert.Hash Cert.Lines Cert.Mask Cert.Run
open Cert.Block (fraction rated atLeast replaced result rest raised lowered maskHash sampleHash maskHash_eq sampleHash_eq lowered_rest)

/-! The equation of a position: the kernel's result there is the reference's. -/

/-- A real number of a small integer word. -/
theorem sitofp_one : (FloatOps.sitofp (F := Ideal) .f32 (1#32 - 0#32) : Ideal .f32) = ((1 : ℝ) : EReal) := by
  show (((1#32 - 0#32 : BitVec 32).toInt : ℝ) : EReal) = _
  rw [show (1#32 - 0#32 : BitVec 32).toInt = 1 by decide]
  norm_num

theorem sitofp_zero : (FloatOps.sitofp (F := Ideal) .f32 (1#32 - 1#32) : Ideal .f32) = ((0 : ℝ) : EReal) := by
  show (((1#32 - 1#32 : BitVec 32).toInt : ℝ) : EReal) = _
  rw [show (1#32 - 1#32 : BitVec 32).toInt = 0 by decide]
  norm_num

/-- With weight 1 the mixture is the replacement, whatever the token. -/
theorem mixture_one (x s : Ideal .f32) : mixture x ((1 : ℝ) : EReal) s = s := by
  unfold mixture
  rw [unit_eq]
  show ((1 : ℝ) : EReal) * (x * (((1 : ℝ) : EReal) - ((1 : ℝ) : EReal)) + ((1 : ℝ) : EReal) * s)
    + (((1 : ℝ) : EReal) - ((1 : ℝ) : EReal)) * x = s
  rw [← EReal.coe_sub, sub_self, EReal.coe_one, EReal.coe_zero]
  simp

/-- With weight 0 the mixture is the token, whatever the replacement. -/
theorem mixture_zero (x s : Ideal .f32) : mixture x ((0 : ℝ) : EReal) s = x := by
  unfold mixture
  rw [unit_eq]
  show ((1 : ℝ) : EReal) * (x * (((1 : ℝ) : EReal) - ((0 : ℝ) : EReal)) + ((0 : ℝ) : EReal) * s)
    + (((1 : ℝ) : EReal) - ((1 : ℝ) : EReal)) * x = x
  rw [← EReal.coe_sub, ← EReal.coe_sub, sub_self, sub_zero, EReal.coe_one, EReal.coe_zero]
  simp

/-- The kernel's mask at a position, in the words of the mask's stream. -/
theorem replaced_eq (n : Nat) : replaced (BitVec.ofNat 32 (2 * n) + 270669613#32)
    = atLeast (rated 0xBF9A1BC8#32 (word maskKey.1 maskKey.2 (2 * n))) (rated 0xBEB69E19#32 (word maskKey.1 maskKey.2 (2 * n + 1))) := by
  have e : IntOp.addi (BitVec.ofNat 32 (2 * n) + 270669613#32) 1#32 = BitVec.ofNat 32 (2 * n + 1) + 270669613#32 := by
    rw [BitVec.ofNat_add]
    simp only [IntOp.addi]
    rw [BitVec.add_assoc, BitVec.add_assoc, BitVec.add_comm 270669613#32]
  unfold replaced
  rw [e, maskHash_eq, maskHash_eq]

/-- The kernel's replacement at a position. -/
theorem replacement_eq (n : Nat) : lowered (raised (rest (sampleHash (BitVec.ofNat 32 n + 1168365246#32))))
    = word sampleKey.1 sampleKey.2 n % 100000#32 := by
  rw [lowered_rest, sampleHash_eq]

/-- At a position the kernel's result is the reference's. -/
theorem result_eq (x : Ideal .f32) (r : Fin 128) (c : Fin 8192) :
    result x (BitVec.ofNat 32 (2 * (8192 * r.val + c.val)) + 270669613#32) (BitVec.ofNat 32 (8192 * r.val + c.val) + 1168365246#32)
      = expected x r.val c.val := by
  have h := draws_apart (8192 * r.val + c.val) (by omega)
  unfold result expected
  rw [replaced_eq, replacement_eq]
  rcases decided _ _ h with ⟨k, d⟩ | ⟨k, d⟩
  · rw [k, d, sitofp_one, mixture_one]
    rfl
  · rw [k, d, sitofp_zero, mixture_zero]
    rfl

end Cert.Equation

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel.Frame
public import proofs.«01_k».proof.Proof.Gen.KernelIdeal.Frame
public import proofs.«01_k».proof.Proof.Gen.KernelIdeal.Value
public import proofs.«01_k».proof.Proof.Array
public import proofs.«01_k».proof.Proof.Equation
public import Idealize.ShloMosaic.Adequacy
public import Idealize.ShloMosaic.Init

@[expose] public section

noncomputable section

namespace Cert.Proof

open Idealize.ShloMosaic Idealize.SL.Sem

/-- The array both programs end with: at every position the reference's result of the token there. -/
def answer (x : Cert.KernelIdeal.S128x8192.Idx → EReal) : Cert.KernelIdeal.S128x8192.Idx → EReal :=
  fun i => Cert.Run.expected (x i) (i 0).val (i 1).val

/-- Every index is a row and a column. -/
theorem index_eq (i : Cert.KernelIdeal.S128x8192.Idx) : i = ix2 (⟨(i 0).val, (i 0).isLt⟩ : Fin 128) (⟨(i 1).val, (i 1).isLt⟩ : Fin 8192) := by
  funext a
  fin_cases a <;> rfl

/-- Two arrays that agree at every row and column are equal. -/
theorem array_ext (x y : Cert.KernelIdeal.S128x8192.Idx → EReal) (h : ∀ (r : Fin 128) (k : Fin 8192), x (ix2 r k) = y (ix2 r k)) :
    x = y := by
  funext i
  rw [index_eq i]
  exact h _ _

/-- The kernel's array holds the answer. -/
theorem whole_eq (m : (ℓ : Loc Cert.KernelIdeal.nD Cert.KernelIdeal.τ Cert.KernelIdeal.sig) → Buf (Elt Ideal) ℓ) (c : Dev Cert.KernelIdeal.nD) :
    Cert.Array.whole m c = answer (m ((c.tc : Thread Cert.KernelIdeal.nD Cert.KernelIdeal.τ).loc Cert.KernelIdeal.main_arg0)) := by
  refine array_ext _ _ fun r k => ?_
  have e₀ := congrFun (Cert.KernelIdeal.Gen.V_main_arg0 m c) (ix2 r k)
  have e₁ := Cert.Array.maskCounter m c r k
  have e₂ := Cert.Array.sampleCounter m c r k
  have e := Cert.Equation.result_eq (Cert.KernelIdeal.Gen.V m c Cert.KernelIdeal.main_arg0 (ix2 r k)) r k
  rw [← e₁, ← e₂] at e
  refine e.trans ?_
  rw [e₀]
  rfl

/-- The kernel runs and ends with the answer. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩
      fun r => ∀ c : Dev Cert.KernelIdeal.nD,
        r.2.mem ((c.tc : Thread Cert.KernelIdeal.nD Cert.KernelIdeal.τ).loc Cert.KernelIdeal.main_v8)
            = answer (m ((c.tc : Thread Cert.KernelIdeal.nD Cert.KernelIdeal.τ).loc Cert.KernelIdeal.main_arg0))
          ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0) :=
  (θ_run Cert.KernelIdeal.defs _ _).mono
    (fun _ h c => ⟨((h c).1.trans (Cert.Array.final m c)).trans (whole_eq m c), (h c).2⟩) (Cert.KernelIdeal.Value.run_blocks m g)

/-- The reference runs, returns every semaphore to zero, and leaves its argument alone. -/
theorem reference_quiet (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      fun r => (∀ c : Dev Cert.ReferenceIdeal.nD,
          r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0))
        ∧ r.2.sem = fun _ => 0 :=
  (θ_run Cert.ReferenceIdeal.defs _ _).mono (fun _ h => ⟨fun c => (h c).1, (h 0).2.1⟩) (Cert.Run.reference_run m g)

/-- The reference runs and ends with the answer of its own argument. -/
theorem reference_answers (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      fun r => ∀ c : Dev Cert.ReferenceIdeal.nD,
        r.2.mem ((c.tc : Thread Cert.ReferenceIdeal.nD Cert.ReferenceIdeal.τ).loc Cert.ReferenceIdeal.main_v37)
            = answer (m ((c.tc : Thread Cert.ReferenceIdeal.nD Cert.ReferenceIdeal.τ).loc Cert.ReferenceIdeal.main_arg0))
          ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0) :=
  (θ_run Cert.ReferenceIdeal.defs _ _).mono (fun _ h c => ⟨array_ext _ _ (h c).2.2, (h c).1⟩) (Cert.Run.reference_run m g)

/-- The certificate: both programs' frames, the reference's, and the equality of their results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => reference_quiet m ρ, trivial,
  fun m g m' g' _ same => ⟨fun c => answer (m ((c.tc : Thread Cert.KernelIdeal.nD Cert.KernelIdeal.τ).loc Cert.KernelIdeal.main_arg0)),
    kernel_run m g, (θ_run Cert.ReferenceIdeal.defs _ _).mono
      (fun _ h c => ⟨(h c).1.trans (congrArg answer (same c)), (h c).2⟩) (reference_answers m' g')⟩⟩

end Cert.Proof

end
